-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_HgOut (m : (ℓ : Loc Cert.HgOut.nD Cert.HgOut.τ Cert.HgOut.sig) → Buf (Elt Bits) ℓ) : Prop :=
  True

def Pre_HgOutIdeal (m : (ℓ : Loc Cert.HgOutIdeal.nD Cert.HgOutIdeal.τ Cert.HgOutIdeal.sig) → Buf (Elt Ideal) ℓ) : Prop :=
  True

def Pre_HgOutRefIdeal (m : (ℓ : Loc Cert.HgOutRefIdeal.nD Cert.HgOutRefIdeal.τ Cert.HgOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvDown (m : (ℓ : Loc Cert.KvDown.nD Cert.KvDown.τ Cert.KvDown.sig) → Buf (Elt Bits) ℓ) : Prop :=
  True

def Pre_KvDownIdeal (m : (ℓ : Loc Cert.KvDownIdeal.nD Cert.KvDownIdeal.τ Cert.KvDownIdeal.sig) → Buf (Elt Ideal) ℓ) : Prop :=
  True

def Pre_KvDownRefIdeal (m : (ℓ : Loc Cert.KvDownRefIdeal.nD Cert.KvDownRefIdeal.τ Cert.KvDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_HgOut [hHgOut : Cert.HgOut.Facts] : Prop :=
  ∀ (m : (ℓ : Loc Cert.HgOut.nD Cert.HgOut.τ Cert.HgOut.sig) → Buf (Elt Bits) ℓ) (g : Dev Cert.HgOut.nD → PrngReg), Pre_HgOut m →
    θ_run (Cert.HgOut.defs (F := Bits)) (onTc (τ := Cert.HgOut.τ) (Cert.HgOut.main (F := Bits))) ⟨m, fun _ => 0, g⟩ (fun r => (∀ c : Dev Cert.HgOut.nD,
      r.2.mem ((c.tc : Thread Cert.HgOut.nD Cert.HgOut.τ).loc Cert.HgOut.main_arg0) = m ((c.tc : Thread Cert.HgOut.nD Cert.HgOut.τ).loc Cert.HgOut.main_arg0)
      ∧ r.2.mem ((c.tc : Thread Cert.HgOut.nD Cert.HgOut.τ).loc Cert.HgOut.main_arg1) = m ((c.tc : Thread Cert.HgOut.nD Cert.HgOut.τ).loc Cert.HgOut.main_arg1)
      ∧ r.2.mem ((c.tc : Thread Cert.HgOut.nD Cert.HgOut.τ).loc Cert.HgOut.main_arg2) = m ((c.tc : Thread Cert.HgOut.nD Cert.HgOut.τ).loc Cert.HgOut.main_arg2))
      ∧ r.2.sem = fun _ => 0)

def quiescent_HgOutIdeal [hHgOutIdeal : Cert.HgOutIdeal.Facts] : Prop :=
  ∀ (m : (ℓ : Loc Cert.HgOutIdeal.nD Cert.HgOutIdeal.τ Cert.HgOutIdeal.sig) → Buf (Elt Ideal) ℓ) (g : Dev Cert.HgOutIdeal.nD → PrngReg), Pre_HgOutIdeal m →
    θ_run (Cert.HgOutIdeal.defs (F := Ideal)) (onTc (τ := Cert.HgOutIdeal.τ) (Cert.HgOutIdeal.main (F := Ideal))) ⟨m, fun _ => 0, g⟩ (fun r => (∀ c : Dev Cert.HgOutIdeal.nD,
      r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
      ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
      ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2))
      ∧ r.2.sem = fun _ => 0)

def quiescent_HgOutRefIdeal [hHgOutRefIdeal : Cert.HgOutRefIdeal.Facts] : Prop :=
  ∀ (m : (ℓ : Loc Cert.HgOutRefIdeal.nD Cert.HgOutRefIdeal.τ Cert.HgOutRefIdeal.sig) → Buf (Elt Ideal) ℓ) (g : Dev Cert.HgOutRefIdeal.nD → PrngReg), Pre_HgOutRefIdeal m →
    θ_run (Cert.HgOutRefIdeal.defs (F := Ideal)) (onTc (τ := Cert.HgOutRefIdeal.τ) (Cert.HgOutRefIdeal.main (F := Ideal))) ⟨m, fun _ => 0, g⟩ (fun r => (∀ c : Dev Cert.HgOutRefIdeal.nD,
      r.2.mem ((c.tc : Thread Cert.HgOutRefIdeal.nD Cert.HgOutRefIdeal.τ).loc Cert.HgOutRefIdeal.main_arg0) = m ((c.tc : Thread Cert.HgOutRefIdeal.nD Cert.HgOutRefIdeal.τ).loc Cert.HgOutRefIdeal.main_arg0)
      ∧ r.2.mem ((c.tc : Thread Cert.HgOutRefIdeal.nD Cert.HgOutRefIdeal.τ).loc Cert.HgOutRefIdeal.main_arg1) = m ((c.tc : Thread Cert.HgOutRefIdeal.nD Cert.HgOutRefIdeal.τ).loc Cert.HgOutRefIdeal.main_arg1)
      ∧ r.2.mem ((c.tc : Thread Cert.HgOutRefIdeal.nD Cert.HgOutRefIdeal.τ).loc Cert.HgOutRefIdeal.main_arg2) = m ((c.tc : Thread Cert.HgOutRefIdeal.nD Cert.HgOutRefIdeal.τ).loc Cert.HgOutRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_KvDown [hKvDown : Cert.KvDown.Facts] : Prop :=
  ∀ (m : (ℓ : Loc Cert.KvDown.nD Cert.KvDown.τ Cert.KvDown.sig) → Buf (Elt Bits) ℓ) (g : Dev Cert.KvDown.nD → PrngReg), Pre_KvDown m →
    θ_run (Cert.KvDown.defs (F := Bits)) (onTc (τ := Cert.KvDown.τ) (Cert.KvDown.main (F := Bits))) ⟨m, fun _ => 0, g⟩ (fun r => (∀ c : Dev Cert.KvDown.nD,
      r.2.mem ((c.tc : Thread Cert.KvDown.nD Cert.KvDown.τ).loc Cert.KvDown.main_arg0) = m ((c.tc : Thread Cert.KvDown.nD Cert.KvDown.τ).loc Cert.KvDown.main_arg0)
      ∧ r.2.mem ((c.tc : Thread Cert.KvDown.nD Cert.KvDown.τ).loc Cert.KvDown.main_arg1) = m ((c.tc : Thread Cert.KvDown.nD Cert.KvDown.τ).loc Cert.KvDown.main_arg1)
      ∧ r.2.mem ((c.tc : Thread Cert.KvDown.nD Cert.KvDown.τ).loc Cert.KvDown.main_arg2) = m ((c.tc : Thread Cert.KvDown.nD Cert.KvDown.τ).loc Cert.KvDown.main_arg2)
      ∧ r.2.mem ((c.tc : Thread Cert.KvDown.nD Cert.KvDown.τ).loc Cert.KvDown.main_arg3) = m ((c.tc : Thread Cert.KvDown.nD Cert.KvDown.τ).loc Cert.KvDown.main_arg3))
      ∧ r.2.sem = fun _ => 0)

def quiescent_KvDownIdeal [hKvDownIdeal : Cert.KvDownIdeal.Facts] : Prop :=
  ∀ (m : (ℓ : Loc Cert.KvDownIdeal.nD Cert.KvDownIdeal.τ Cert.KvDownIdeal.sig) → Buf (Elt Ideal) ℓ) (g : Dev Cert.KvDownIdeal.nD → PrngReg), Pre_KvDownIdeal m →
    θ_run (Cert.KvDownIdeal.defs (F := Ideal)) (onTc (τ := Cert.KvDownIdeal.τ) (Cert.KvDownIdeal.main (F := Ideal))) ⟨m, fun _ => 0, g⟩ (fun r => (∀ c : Dev Cert.KvDownIdeal.nD,
      r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
      ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1)
      ∧ r.2.mem ((c.tc : Thread Cert.KvDownIdeal.nD Cert.KvDownIdeal.τ).loc Cert.KvDownIdeal.main_arg2) = m ((c.tc : Thread Cert.KvDownIdeal.nD Cert.KvDownIdeal.τ).loc Cert.KvDownIdeal.main_arg2)
      ∧ r.2.mem ((c.tc : Thread Cert.KvDownIdeal.nD Cert.KvDownIdeal.τ).loc Cert.KvDownIdeal.main_arg3) = m ((c.tc : Thread Cert.KvDownIdeal.nD Cert.KvDownIdeal.τ).loc Cert.KvDownIdeal.main_arg3))
      ∧ r.2.sem = fun _ => 0)

def quiescent_KvDownRefIdeal [hKvDownRefIdeal : Cert.KvDownRefIdeal.Facts] : Prop :=
  ∀ (m : (ℓ : Loc Cert.KvDownRefIdeal.nD Cert.KvDownRefIdeal.τ Cert.KvDownRefIdeal.sig) → Buf (Elt Ideal) ℓ) (g : Dev Cert.KvDownRefIdeal.nD → PrngReg), Pre_KvDownRefIdeal m →
    θ_run (Cert.KvDownRefIdeal.defs (F := Ideal)) (onTc (τ := Cert.KvDownRefIdeal.τ) (Cert.KvDownRefIdeal.main (F := Ideal))) ⟨m, fun _ => 0, g⟩ (fun r => (∀ c : Dev Cert.KvDownRefIdeal.nD,
      r.2.mem ((c.tc : Thread Cert.KvDownRefIdeal.nD Cert.KvDownRefIdeal.τ).loc Cert.KvDownRefIdeal.main_arg0) = m ((c.tc : Thread Cert.KvDownRefIdeal.nD Cert.KvDownRefIdeal.τ).loc Cert.KvDownRefIdeal.main_arg0)
      ∧ r.2.mem ((c.tc : Thread Cert.KvDownRefIdeal.nD Cert.KvDownRefIdeal.τ).loc Cert.KvDownRefIdeal.main_arg1) = m ((c.tc : Thread Cert.KvDownRefIdeal.nD Cert.KvDownRefIdeal.τ).loc Cert.KvDownRefIdeal.main_arg1)
      ∧ r.2.mem ((c.tc : Thread Cert.KvDownRefIdeal.nD Cert.KvDownRefIdeal.τ).loc Cert.KvDownRefIdeal.main_arg2) = m ((c.tc : Thread Cert.KvDownRefIdeal.nD Cert.KvDownRefIdeal.τ).loc Cert.KvDownRefIdeal.main_arg2)
      ∧ r.2.mem ((c.tc : Thread Cert.KvDownRefIdeal.nD Cert.KvDownRefIdeal.τ).loc Cert.KvDownRefIdeal.main_arg3) = m ((c.tc : Thread Cert.KvDownRefIdeal.nD Cert.KvDownRefIdeal.τ).loc Cert.KvDownRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_HgOut_HgOutIdeal : Prop :=
  True

def algebraic_HgOutIdeal_HgOutRefIdeal [hHgOutIdeal : Cert.HgOutIdeal.Facts] [hHgOutRefIdeal : Cert.HgOutRefIdeal.Facts] : Prop :=
  ∀ (m : (ℓ : Loc Cert.HgOutIdeal.nD Cert.HgOutIdeal.τ Cert.HgOutIdeal.sig) → Buf (Elt Ideal) ℓ) (g : Dev Cert.HgOutIdeal.nD → PrngReg)
    (m' : (ℓ : Loc Cert.HgOutRefIdeal.nD Cert.HgOutRefIdeal.τ Cert.HgOutRefIdeal.sig) → Buf (Elt Ideal) ℓ) (g' : Dev Cert.HgOutRefIdeal.nD → PrngReg), Pre_HgOutIdeal m →
    (∀ c : Dev Cert.HgOutIdeal.nD,
      m' ((c.tc : Thread Cert.HgOutRefIdeal.nD Cert.HgOutRefIdeal.τ).loc Cert.HgOutRefIdeal.main_arg0) = m ((c.tc : Thread Cert.HgOutIdeal.nD Cert.HgOutIdeal.τ).loc Cert.HgOutIdeal.main_arg0)
      ∧ m' ((c.tc : Thread Cert.HgOutRefIdeal.nD Cert.HgOutRefIdeal.τ).loc Cert.HgOutRefIdeal.main_arg1) = m ((c.tc : Thread Cert.HgOutIdeal.nD Cert.HgOutIdeal.τ).loc Cert.HgOutIdeal.main_arg1)
      ∧ m' ((c.tc : Thread Cert.HgOutRefIdeal.nD Cert.HgOutRefIdeal.τ).loc Cert.HgOutRefIdeal.main_arg2) = m ((c.tc : Thread Cert.HgOutIdeal.nD Cert.HgOutIdeal.τ).loc Cert.HgOutIdeal.main_arg2)) →
    ∃ (v0 : (c : Dev Cert.HgOutIdeal.nD) → Buf (Elt Ideal) ((c.tc : Thread Cert.HgOutIdeal.nD Cert.HgOutIdeal.τ).loc Cert.HgOutIdeal.main_v1)),
      θ_run (Cert.HgOutIdeal.defs (F := Ideal)) (onTc (τ := Cert.HgOutIdeal.τ) (Cert.HgOutIdeal.main (F := Ideal))) ⟨m, fun _ => 0, g⟩ (fun r => ∀ c : Dev Cert.HgOutIdeal.nD,
          r.2.mem ((c.tc : Thread Cert.HgOutIdeal.nD Cert.HgOutIdeal.τ).loc Cert.HgOutIdeal.main_v1) = v0 c
          ∧ r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
          ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
          ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2))
      ∧ θ_run (Cert.HgOutRefIdeal.defs (F := Ideal)) (onTc (τ := Cert.HgOutRefIdeal.τ) (Cert.HgOutRefIdeal.main (F := Ideal))) ⟨m', fun _ => 0, g'⟩ (fun r => ∀ c : Dev Cert.HgOutRefIdeal.nD,
          r.2.mem ((c.tc : Thread Cert.HgOutRefIdeal.nD Cert.HgOutRefIdeal.τ).loc Cert.HgOutRefIdeal.main_v2) = v0 c
          ∧ r.2.mem ((c.tc : Thread Cert.HgOutRefIdeal.nD Cert.HgOutRefIdeal.τ).loc Cert.HgOutRefIdeal.main_arg0) = m' ((c.tc : Thread Cert.HgOutRefIdeal.nD Cert.HgOutRefIdeal.τ).loc Cert.HgOutRefIdeal.main_arg0)
          ∧ r.2.mem ((c.tc : Thread Cert.HgOutRefIdeal.nD Cert.HgOutRefIdeal.τ).loc Cert.HgOutRefIdeal.main_arg1) = m' ((c.tc : Thread Cert.HgOutRefIdeal.nD Cert.HgOutRefIdeal.τ).loc Cert.HgOutRefIdeal.main_arg1)
          ∧ r.2.mem ((c.tc : Thread Cert.HgOutRefIdeal.nD Cert.HgOutRefIdeal.τ).loc Cert.HgOutRefIdeal.main_arg2) = m' ((c.tc : Thread Cert.HgOutRefIdeal.nD Cert.HgOutRefIdeal.τ).loc Cert.HgOutRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v14) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v1) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v2) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v2_0)) (v1 : (c : Dev Cert.ForgetIdeal.nD) → Buf (Elt Ideal) ((c.tc : Thread Cert.ForgetIdeal.nD Cert.ForgetIdeal.τ).loc Cert.ForgetIdeal.main_v2_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v2_0) = v0 c
          ∧ r.2.mem ((c.tc : Thread Cert.ForgetIdeal.nD Cert.ForgetIdeal.τ).loc Cert.ForgetIdeal.main_v2_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v42) = v0 c
          ∧ r.2.mem ((c.tc : Thread Cert.ForgetRefIdeal.nD Cert.ForgetRefIdeal.τ).loc Cert.ForgetRefIdeal.main_v55) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v3)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v3) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v27) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3))

def preserves_QUp_QUpIdeal : Prop :=
  IdealRules.named_const.Statement Cert.QUpIdeal.κ "scale" .f32 0x3D93CD3A#32 (((Real.sqrt 192)⁻¹ : ℝ) : EReal)

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v34)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v34) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v51) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_KvDown_KvDownIdeal : Prop :=
  True

def algebraic_KvDownIdeal_KvDownRefIdeal [hKvDownIdeal : Cert.KvDownIdeal.Facts] [hKvDownRefIdeal : Cert.KvDownRefIdeal.Facts] : Prop :=
  ∀ (m : (ℓ : Loc Cert.KvDownIdeal.nD Cert.KvDownIdeal.τ Cert.KvDownIdeal.sig) → Buf (Elt Ideal) ℓ) (g : Dev Cert.KvDownIdeal.nD → PrngReg)
    (m' : (ℓ : Loc Cert.KvDownRefIdeal.nD Cert.KvDownRefIdeal.τ Cert.KvDownRefIdeal.sig) → Buf (Elt Ideal) ℓ) (g' : Dev Cert.KvDownRefIdeal.nD → PrngReg), Pre_KvDownIdeal m →
    (∀ c : Dev Cert.KvDownIdeal.nD,
      m' ((c.tc : Thread Cert.KvDownRefIdeal.nD Cert.KvDownRefIdeal.τ).loc Cert.KvDownRefIdeal.main_arg0) = m ((c.tc : Thread Cert.KvDownIdeal.nD Cert.KvDownIdeal.τ).loc Cert.KvDownIdeal.main_arg0)
      ∧ m' ((c.tc : Thread Cert.KvDownRefIdeal.nD Cert.KvDownRefIdeal.τ).loc Cert.KvDownRefIdeal.main_arg1) = m ((c.tc : Thread Cert.KvDownIdeal.nD Cert.KvDownIdeal.τ).loc Cert.KvDownIdeal.main_arg1)
      ∧ m' ((c.tc : Thread Cert.KvDownRefIdeal.nD Cert.KvDownRefIdeal.τ).loc Cert.KvDownRefIdeal.main_arg2) = m ((c.tc : Thread Cert.KvDownIdeal.nD Cert.KvDownIdeal.τ).loc Cert.KvDownIdeal.main_arg2)
      ∧ m' ((c.tc : Thread Cert.KvDownRefIdeal.nD Cert.KvDownRefIdeal.τ).loc Cert.KvDownRefIdeal.main_arg3) = m ((c.tc : Thread Cert.KvDownIdeal.nD Cert.KvDownIdeal.τ).loc Cert.KvDownIdeal.main_arg3)) →
    ∃ (v0 : (c : Dev Cert.KvDownIdeal.nD) → Buf (Elt Ideal) ((c.tc : Thread Cert.KvDownIdeal.nD Cert.KvDownIdeal.τ).loc Cert.KvDownIdeal.main_v31_0)) (v1 : (c : Dev Cert.KvDownIdeal.nD) → Buf (Elt Ideal) ((c.tc : Thread Cert.KvDownIdeal.nD Cert.KvDownIdeal.τ).loc Cert.KvDownIdeal.main_v31_1)),
      θ_run (Cert.KvDownIdeal.defs (F := Ideal)) (onTc (τ := Cert.KvDownIdeal.τ) (Cert.KvDownIdeal.main (F := Ideal))) ⟨m, fun _ => 0, g⟩ (fun r => ∀ c : Dev Cert.KvDownIdeal.nD,
          r.2.mem ((c.tc : Thread Cert.KvDownIdeal.nD Cert.KvDownIdeal.τ).loc Cert.KvDownIdeal.main_v31_0) = v0 c
          ∧ r.2.mem ((c.tc : Thread Cert.KvDownIdeal.nD Cert.KvDownIdeal.τ).loc Cert.KvDownIdeal.main_v31_1) = v1 c
          ∧ r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
          ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1)
          ∧ r.2.mem ((c.tc : Thread Cert.KvDownIdeal.nD Cert.KvDownIdeal.τ).loc Cert.KvDownIdeal.main_arg2) = m ((c.tc : Thread Cert.KvDownIdeal.nD Cert.KvDownIdeal.τ).loc Cert.KvDownIdeal.main_arg2)
          ∧ r.2.mem ((c.tc : Thread Cert.KvDownIdeal.nD Cert.KvDownIdeal.τ).loc Cert.KvDownIdeal.main_arg3) = m ((c.tc : Thread Cert.KvDownIdeal.nD Cert.KvDownIdeal.τ).loc Cert.KvDownIdeal.main_arg3))
      ∧ θ_run (Cert.KvDownRefIdeal.defs (F := Ideal)) (onTc (τ := Cert.KvDownRefIdeal.τ) (Cert.KvDownRefIdeal.main (F := Ideal))) ⟨m', fun _ => 0, g'⟩ (fun r => ∀ c : Dev Cert.KvDownRefIdeal.nD,
          r.2.mem ((c.tc : Thread Cert.KvDownRefIdeal.nD Cert.KvDownRefIdeal.τ).loc Cert.KvDownRefIdeal.main_v66) = v0 c
          ∧ r.2.mem ((c.tc : Thread Cert.KvDownRefIdeal.nD Cert.KvDownRefIdeal.τ).loc Cert.KvDownRefIdeal.main_v68) = v1 c
          ∧ r.2.mem ((c.tc : Thread Cert.KvDownRefIdeal.nD Cert.KvDownRefIdeal.τ).loc Cert.KvDownRefIdeal.main_arg0) = m' ((c.tc : Thread Cert.KvDownRefIdeal.nD Cert.KvDownRefIdeal.τ).loc Cert.KvDownRefIdeal.main_arg0)
          ∧ r.2.mem ((c.tc : Thread Cert.KvDownRefIdeal.nD Cert.KvDownRefIdeal.τ).loc Cert.KvDownRefIdeal.main_arg1) = m' ((c.tc : Thread Cert.KvDownRefIdeal.nD Cert.KvDownRefIdeal.τ).loc Cert.KvDownRefIdeal.main_arg1)
          ∧ r.2.mem ((c.tc : Thread Cert.KvDownRefIdeal.nD Cert.KvDownRefIdeal.τ).loc Cert.KvDownRefIdeal.main_arg2) = m' ((c.tc : Thread Cert.KvDownRefIdeal.nD Cert.KvDownRefIdeal.τ).loc Cert.KvDownRefIdeal.main_arg2)
          ∧ r.2.mem ((c.tc : Thread Cert.KvDownRefIdeal.nD Cert.KvDownRefIdeal.τ).loc Cert.KvDownRefIdeal.main_arg3) = m' ((c.tc : Thread Cert.KvDownRefIdeal.nD Cert.KvDownRefIdeal.τ).loc Cert.KvDownRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hHgOut : Cert.HgOut.Facts) (hHgOutIdeal : Cert.HgOutIdeal.Facts) (hHgOutRefIdeal : Cert.HgOutRefIdeal.Facts) (hProj : Cert.Proj.Facts) (hProjIdeal : Cert.ProjIdeal.Facts) (hProjRefIdeal : Cert.ProjRefIdeal.Facts) (hQuery : Cert.Query.Facts) (hQueryIdeal : Cert.QueryIdeal.Facts) (hQueryRefIdeal : Cert.QueryRefIdeal.Facts) (hKvUp : Cert.KvUp.Facts) (hKvUpIdeal : Cert.KvUpIdeal.Facts) (hKvUpRefIdeal : Cert.KvUpRefIdeal.Facts) (hForget : Cert.Forget.Facts) (hForgetIdeal : Cert.ForgetIdeal.Facts) (hForgetRefIdeal : Cert.ForgetRefIdeal.Facts) (hLatent : Cert.Latent.Facts) (hLatentIdeal : Cert.LatentIdeal.Facts) (hLatentRefIdeal : Cert.LatentRefIdeal.Facts) (hQUp : Cert.QUp.Facts) (hQUpIdeal : Cert.QUpIdeal.Facts) (hQUpRefIdeal : Cert.QUpRefIdeal.Facts) (hKvDown : Cert.KvDown.Facts) (hKvDownIdeal : Cert.KvDownIdeal.Facts) (hKvDownRefIdeal : Cert.KvDownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_HgOut (hHgOut := hHgOut)
    ∧ quiescent_HgOutIdeal (hHgOutIdeal := hHgOutIdeal)
    ∧ quiescent_HgOutRefIdeal (hHgOutRefIdeal := hHgOutRefIdeal)
    ∧ quiescent_Proj (hProj := hProj)
    ∧ quiescent_ProjIdeal (hProjIdeal := hProjIdeal)
    ∧ quiescent_ProjRefIdeal (hProjRefIdeal := hProjRefIdeal)
    ∧ quiescent_Query (hQuery := hQuery)
    ∧ quiescent_QueryIdeal (hQueryIdeal := hQueryIdeal)
    ∧ quiescent_QueryRefIdeal (hQueryRefIdeal := hQueryRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_Forget (hForget := hForget)
    ∧ quiescent_ForgetIdeal (hForgetIdeal := hForgetIdeal)
    ∧ quiescent_ForgetRefIdeal (hForgetRefIdeal := hForgetRefIdeal)
    ∧ quiescent_Latent (hLatent := hLatent)
    ∧ quiescent_LatentIdeal (hLatentIdeal := hLatentIdeal)
    ∧ quiescent_LatentRefIdeal (hLatentRefIdeal := hLatentRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvDown (hKvDown := hKvDown)
    ∧ quiescent_KvDownIdeal (hKvDownIdeal := hKvDownIdeal)
    ∧ quiescent_KvDownRefIdeal (hKvDownRefIdeal := hKvDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_HgOut_HgOutIdeal
    ∧ algebraic_HgOutIdeal_HgOutRefIdeal (hHgOutIdeal := hHgOutIdeal) (hHgOutRefIdeal := hHgOutRefIdeal)
    ∧ preserves_Proj_ProjIdeal
    ∧ algebraic_ProjIdeal_ProjRefIdeal (hProjIdeal := hProjIdeal) (hProjRefIdeal := hProjRefIdeal)
    ∧ preserves_Query_QueryIdeal
    ∧ algebraic_QueryIdeal_QueryRefIdeal (hQueryIdeal := hQueryIdeal) (hQueryRefIdeal := hQueryRefIdeal)
    ∧ preserves_KvUp_KvUpIdeal
    ∧ algebraic_KvUpIdeal_KvUpRefIdeal (hKvUpIdeal := hKvUpIdeal) (hKvUpRefIdeal := hKvUpRefIdeal)
    ∧ preserves_Forget_ForgetIdeal
    ∧ algebraic_ForgetIdeal_ForgetRefIdeal (hForgetIdeal := hForgetIdeal) (hForgetRefIdeal := hForgetRefIdeal)
    ∧ preserves_Latent_LatentIdeal
    ∧ algebraic_LatentIdeal_LatentRefIdeal (hLatentIdeal := hLatentIdeal) (hLatentRefIdeal := hLatentRefIdeal)
    ∧ preserves_QUp_QUpIdeal
    ∧ algebraic_QUpIdeal_QUpRefIdeal (hQUpIdeal := hQUpIdeal) (hQUpRefIdeal := hQUpRefIdeal)
    ∧ preserves_KvDown_KvDownIdeal
    ∧ algebraic_KvDownIdeal_KvDownRefIdeal (hKvDownIdeal := hKvDownIdeal) (hKvDownRefIdeal := hKvDownRefIdeal)
-- ==== Pre_finite.lean ====
abbrev S4x2048x8192 : Shape := ⟨3, ![4, 2048, 8192]⟩
abbrev S4x2048x128 : Shape := ⟨3, ![4, 2048, 128]⟩
abbrev S4x2048x4096 : Shape := ⟨3, ![4, 2048, 4096]⟩
abbrev S_ : Shape := ⟨0, ![]⟩

class Facts : Prop where
  bitsLt_bf16_f32 : FTy.bits .bf16 < FTy.bits .f32
  bcast_S_S4x2048x8192 : S_.BroadcastsInDim S4x2048x8192 (![] : Fin 0 → Fin S4x2048x8192.rank)
  bcast_S_S4x2048x128 : S_.BroadcastsInDim S4x2048x128 (![] : Fin 0 → Fin S4x2048x128.rank)

variable [Facts]

def fn {F : FTy → Type} [FloatOps F] (main_arg0 : FVec F S4x2048x8192 .bf16) (main_arg1 : FVec F S4x2048x8192 .bf16) (main_arg2 : FVec F S4x2048x128 .bf16) (main_arg3 : FVec F S4x2048x4096 .bf16) : IVec S4x2048x8192 1 × IVec S4x2048x8192 1 × IVec S4x2048x128 1 :=
  let main_v0 : FVec F S4x2048x8192 .f32 := (extf .f32 · bitsLt_bf16_f32) main_arg0
  let main_v1 : FVec F S4x2048x8192 .f32 := Host.absf main_v0
  let main_cst : FVec F S_ .f32 := constant S_ .f32 0x7F800000#32
  let main_v2 : FVec F S4x2048x8192 .f32 := broadcastInDim S4x2048x8192 ![] bcast_S_S4x2048x8192 main_cst
  let main_v3 : IVec S4x2048x8192 1 := cmpf .olt main_v1 main_v2
  let main_v4 : FVec F S4x2048x8192 .f32 := (extf .f32 · bitsLt_bf16_f32) main_arg1
  let main_v5 : FVec F S4x2048x8192 .f32 := Host.absf main_v4
  let main_cst_0 : FVec F S_ .f32 := constant S_ .f32 0x7F800000#32
  let main_v6 : FVec F S4x2048x8192 .f32 := broadcastInDim S4x2048x8192 ![] bcast_S_S4x2048x8192 main_cst_0
  let main_v7 : IVec S4x2048x8192 1 := cmpf .olt main_v5 main_v6
  let main_v8 : FVec F S4x2048x128 .f32 := (extf .f32 · bitsLt_bf16_f32) main_arg2
  let main_v9 : FVec F S4x2048x128 .f32 := Host.absf main_v8
  let main_cst_1 : FVec F S_ .f32 := constant S_ .f32 0x7F800000#32
  let main_v10 : FVec F S4x2048x128 .f32 := broadcastInDim S4x2048x128 ![] bcast_S_S4x2048x128 main_cst_1
  let main_v11 : IVec S4x2048x128 1 := cmpf .olt main_v9 main_v10
  (main_v3, main_v7, main_v11)
-- ==== Kernel.lean ====
abbrev S4x2048x8192 : Shape := ⟨3, ![4, 2048, 8192]⟩
abbrev S4x2048x128 : Shape := ⟨3, ![4, 2048, 128]⟩
abbrev S4x2048x4096 : Shape := ⟨3, ![4, 2048, 4096]⟩
abbrev S1x2048x512 : Shape := ⟨3, ![1, 2048, 512]⟩
abbrev S1x2048x128 : Shape := ⟨3, ![1, 2048, 128]⟩
abbrev S1x2048x256 : Shape := ⟨3, ![1, 2048, 256]⟩
abbrev S2048x256 : Shape := ⟨2, ![2048, 256]⟩
abbrev S2048x128 : Shape := ⟨2, ![2048, 128]⟩
abbrev S512x512 : Shape := ⟨2, ![512, 512]⟩
abbrev S1x512x256 : Shape := ⟨3, ![1, 512, 256]⟩
abbrev S512x256 : Shape := ⟨2, ![512, 256]⟩
abbrev S512x1 : Shape := ⟨2, ![512, 1]⟩
abbrev S512x128 : Shape := ⟨2, ![512, 128]⟩
abbrev S1x512x128 : Shape := ⟨3, ![1, 512, 128]⟩
abbrev S512 : Shape := ⟨1, ![512]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x8192, .bf16⟩
  | .hbm, ⟨1, _⟩ => ⟨S4x2048x8192, .bf16⟩
  | .hbm, ⟨2, _⟩ => ⟨S4x2048x128, .bf16⟩
  | .hbm, ⟨3, _⟩ => ⟨S4x2048x4096, .bf16⟩
  | .hbm, ⟨4, _⟩ => ⟨S4x2048x4096, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S2048x256, .bf16⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32_36 : BitVec 32 := 0#32
  let c512_i32 : BitVec 32 := 512#32
  let v57 : BitVec 32 := Scalar.muli c0_i32_36 c512_i32
  v57
def k0_off1 : Fin 2 → Nat :=
  let c0_i32_36 : BitVec 32 := 0#32
  let c512_i32 : BitVec 32 := 512#32
  let v57 : BitVec 32 := Scalar.muli c0_i32_36 c512_i32
  let v58 : BitVec 32 := v57
  let v59 : Index := Scalar.indexCast v58
  let c0_37 : Index := 0#32
  ![v59.toNat, 0]
def k0_off2 : Fin 3 → Nat :=
  let c0_38 : Index := 0#32
  let c0_i32_36 : BitVec 32 := 0#32
  let c512_i32 : BitVec 32 := 512#32
  let v57 : BitVec 32 := Scalar.muli c0_i32_36 c512_i32
  let v58 : BitVec 32 := v57
  let v61 : Index := Scalar.indexCast v58
  let c128_39 : Index := 128#32
  ![0, v61.toNat, 128]
@[reducible] def k0_t1_loop : Scf.Loop 32 :=
  let c0_i32_65 : BitVec 32 := 0#32
  let c2_i32 : BitVec 32 := 2#32
  let v120 : BitVec 32 := Scalar.addi c0_i32_65 c2_i32
  let c1_i32_66 : BitVec 32 := 1#32
  ⟨c0_i32_65, v120, c1_i32_66⟩
def k0_mult2 (k0_t1 : Fin k0_t1_loop.trips) : BitVec 32 :=
  let c0_i32_65 : BitVec 32 := 0#32
  let c1_i32_66 : BitVec 32 := 1#32
  let arg8 : BitVec 32 := Scf.iv c0_i32_65 c1_i32_66 k0_t1
  let c512_i32_220 : BitVec 32 := 512#32
  let v382 : BitVec 32 := Scalar.muli arg8 c512_i32_220
  v382
def k0_off3 (k0_t1 : Fin k0_t1_loop.trips) : Fin 2 → Nat :=
  let c0_i32_65 : BitVec 32 := 0#32
  let c1_i32_66 : BitVec 32 := 1#32
  let arg8 : BitVec 32 := Scf.iv c0_i32_65 c1_i32_66 k0_t1
  let c512_i32_220 : BitVec 32 := 512#32
  let v382 : BitVec 32 := Scalar.muli arg8 c512_i32_220
  let v383 : BitVec 32 := v382
  let v384 : Index := Scalar.indexCast v383
  let c0_221 : Index := 0#32
  ![v384.toNat, 0]
def k0_off4 (k0_t1 : Fin k0_t1_loop.trips) : Fin 3 → Nat :=
  let c0_222 : Index := 0#32
  let c0_i32_65 : BitVec 32 := 0#32
  let c1_i32_66 : BitVec 32 := 1#32
  let arg8 : BitVec 32 := Scf.iv c0_i32_65 c1_i32_66 k0_t1
  let c512_i32_220 : BitVec 32 := 512#32
  let v382 : BitVec 32 := Scalar.muli arg8 c512_i32_220
  let v383 : BitVec 32 := v382
  let v386 : Index := Scalar.indexCast v383
  let c128_223 : Index := 128#32
  ![0, v386.toNat, 128]
@[reducible] def k0_t2_loop : Scf.Loop 32 :=
  let c0_i32_89 : BitVec 32 := 0#32
  let c3_i32 : BitVec 32 := 3#32
  let v160 : BitVec 32 := Scalar.addi c0_i32_89 c3_i32
  let c1_i32_90 : BitVec 32 := 1#32
  ⟨c0_i32_89, v160, c1_i32_90⟩
def k0_mult3 (k0_t2 : Fin k0_t2_loop.trips) : BitVec 32 :=
  let c0_i32_89 : BitVec 32 := 0#32
  let c1_i32_90 : BitVec 32 := 1#32
  let arg8 : BitVec 32 := Scf.iv c0_i32_89 c1_i32_90 k0_t2
  let c512_i32_220 : BitVec 32 := 512#32
  let v382 : BitVec 32 := Scalar.muli arg8 c512_i32_220
  v382
def k0_off5 (k0_t2 : Fin k0_t2_loop.trips) : Fin 2 → Nat :=
  let c0_i32_89 : BitVec 32 := 0#32
  let c1_i32_90 : BitVec 32 := 1#32
  let arg8 : BitVec 32 := Scf.iv c0_i32_89 c1_i32_90 k0_t2
  let c512_i32_220 : BitVec 32 := 512#32
  let v382 : BitVec 32 := Scalar.muli arg8 c512_i32_220
  let v383 : BitVec 32 := v382
  let v384 : Index := Scalar.indexCast v383
  let c0_221 : Index := 0#32
  ![v384.toNat, 0]
def k0_off6 (k0_t2 : Fin k0_t2_loop.trips) : Fin 3 → Nat :=
  let c0_222 : Index := 0#32
  let c0_i32_89 : BitVec 32 := 0#32
  let c1_i32_90 : BitVec 32 := 1#32
  let arg8 : BitVec 32 := Scf.iv c0_i32_89 c1_i32_90 k0_t2
  let c512_i32_220 : BitVec 32 := 512#32
  let v382 : BitVec 32 := Scalar.muli arg8 c512_i32_220
  let v383 : BitVec 32 := v382
  let v386 : Index := Scalar.indexCast v383
  let c128_223 : Index := 128#32
  ![0, v386.toNat, 128]
def k0_mult4 : BitVec 32 :=
  let c0_i32_142 : BitVec 32 := 0#32
  let c512_i32_143 : BitVec 32 := 512#32
  let v244 : BitVec 32 := Scalar.muli c0_i32_142 c512_i32_143
  v244
def k0_off7 : Fin 3 → Nat :=
  let c0_145 : Index := 0#32
  let c0_i32_142 : BitVec 32 := 0#32
  let c512_i32_143 : BitVec 32 := 512#32
  let v244 : BitVec 32 := Scalar.muli c0_i32_142 c512_i32_143
  let v245 : BitVec 32 := v244
  let v248 : Index := Scalar.indexCast v245
  let c384_146 : Index := 384#32
  ![0, v248.toNat, 384]
@[reducible] def k0_t3_loop : Scf.Loop 32 :=
  let c0_i32_174 : BitVec 32 := 0#32
  let c2_i32_175 : BitVec 32 := 2#32
  let v307 : BitVec 32 := Scalar.addi c0_i32_174 c2_i32_175
  let c1_i32_176 : BitVec 32 := 1#32
  ⟨c0_i32_174, v307, c1_i32_176⟩
def k0_mult5 (k0_t3 : Fin k0_t3_loop.trips) : BitVec 32 :=
  let c0_i32_174 : BitVec 32 := 0#32
  let c1_i32_176 : BitVec 32 := 1#32
  let arg8 : BitVec 32 := Scf.iv c0_i32_174 c1_i32_176 k0_t3
  let c512_i32_220 : BitVec 32 := 512#32
  let v382 : BitVec 32 := Scalar.muli arg8 c512_i32_220
  v382
def k0_off8 (k0_t3 : Fin k0_t3_loop.trips) : Fin 2 → Nat :=
  let c0_i32_174 : BitVec 32 := 0#32
  let c1_i32_176 : BitVec 32 := 1#32
  let arg8 : BitVec 32 := Scf.iv c0_i32_174 c1_i32_176 k0_t3
  let c512_i32_220 : BitVec 32 := 512#32
  let v382 : BitVec 32 := Scalar.muli arg8 c512_i32_220
  let v383 : BitVec 32 := v382
  let v384 : Index := Scalar.indexCast v383
  let c0_221 : Index := 0#32
  ![v384.toNat, 0]
def k0_off9 (k0_t3 : Fin k0_t3_loop.trips) : Fin 3 → Nat :=
  let c0_222 : Index := 0#32
  let c0_i32_174 : BitVec 32 := 0#32
  let c1_i32_176 : BitVec 32 := 1#32
  let arg8 : BitVec 32 := Scf.iv c0_i32_174 c1_i32_176 k0_t3
  let c512_i32_220 : BitVec 32 := 512#32
  let v382 : BitVec 32 := Scalar.muli arg8 c512_i32_220
  let v383 : BitVec 32 := v382
  let v386 : Index := Scalar.indexCast v383
  let c384_223 : Index := 384#32
  ![0, v386.toNat, 384]
@[reducible] def k0_t4_loop : Scf.Loop 32 :=
  let c0_i32_200 : BitVec 32 := 0#32
  let c3_i32_201 : BitVec 32 := 3#32
  let v347 : BitVec 32 := Scalar.addi c0_i32_200 c3_i32_201
  let c1_i32_202 : BitVec 32 := 1#32
  ⟨c0_i32_200, v347, c1_i32_202⟩
def k0_mult6 (k0_t4 : Fin k0_t4_loop.trips) : BitVec 32 :=
  let c0_i32_200 : BitVec 32 := 0#32
  let c1_i32_202 : BitVec 32 := 1#32
  let arg8 : BitVec 32 := Scf.iv c0_i32_200 c1_i32_202 k0_t4
  let c512_i32_220 : BitVec 32 := 512#32
  let v382 : BitVec 32 := Scalar.muli arg8 c512_i32_220
  v382
def k0_off10 (k0_t4 : Fin k0_t4_loop.trips) : Fin 2 → Nat :=
  let c0_i32_200 : BitVec 32 := 0#32
  let c1_i32_202 : BitVec 32 := 1#32
  let arg8 : BitVec 32 := Scf.iv c0_i32_200 c1_i32_202 k0_t4
  let c512_i32_220 : BitVec 32 := 512#32
  let v382 : BitVec 32 := Scalar.muli arg8 c512_i32_220
  let v383 : BitVec 32 := v382
  let v384 : Index := Scalar.indexCast v383
  let c0_221 : Index := 0#32
  ![v384.toNat, 0]
def k0_off11 (k0_t4 : Fin k0_t4_loop.trips) : Fin 3 → Nat :=
  let c0_222 : Index := 0#32
  let c0_i32_200 : BitVec 32 := 0#32
  let c1_i32_202 : BitVec 32 := 1#32
  let arg8 : BitVec 32 := Scf.iv c0_i32_200 c1_i32_202 k0_t4
  let c512_i32_220 : BitVec 32 := 512#32
  let v382 : BitVec 32 := Scalar.muli arg8 c512_i32_220
  let v383 : BitVec 32 := v382
  let v386 : Index := Scalar.indexCast v383
  let c384_223 : Index := 384#32
  ![0, v386.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x8192 : Shape := ⟨3, ![4, 2048, 8192]⟩
abbrev S4x2048x128 : Shape := ⟨3, ![4, 2048, 128]⟩
abbrev S4x2048x4096 : Shape := ⟨3, ![4, 2048, 4096]⟩
abbrev S4x2048x32x256 : Shape := ⟨4, ![4, 2048, 32, 256]⟩
abbrev S4x2048x32x128 : Shape := ⟨4, ![4, 2048, 32, 128]⟩
abbrev S4x32x2048x2048 : Shape := ⟨4, ![4, 32, 2048, 2048]⟩
abbrev S4x2048x2048x32 : Shape := ⟨4, ![4, 2048, 2048, 32]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x8192, .bf16⟩
  | .hbm, ⟨1, _⟩ => ⟨S4x2048x8192, .bf16⟩
  | .hbm, ⟨2, _⟩ => ⟨S4x2048x128, .bf16⟩
  | .hbm, ⟨3, _⟩ => ⟨S4x2048x4096, .bf16⟩
  | .hbm, ⟨4, _⟩ => ⟨S4x2048x8192, .f32⟩
  | .hbm, ⟨5, _⟩ => ⟨S4x2048x8192, .f32⟩
  | .hbm, ⟨6, _⟩ => ⟨S4x2048x128, .f32⟩
  | .hbm, ⟨7, _⟩ => ⟨S4x2048x4096, .f32⟩
  | .hbm, ⟨8, _⟩ => ⟨S4x2048x32x256, .f32⟩
  | .hbm, ⟨9, _⟩ => ⟨S4x2048x32x256, .f32⟩
  | .hbm, ⟨10, _⟩ => ⟨S4x2048x32x128, .f32⟩
  | .hbm, ⟨11, _⟩ => ⟨S4x2048x32x128, .f32⟩
  | .hbm, ⟨12, _⟩ => ⟨S4x32x2048x2048, .f32⟩
  | .hbm, ⟨13, _⟩ => ⟨S4x2048x32x128, .f32⟩
  | .hbm, ⟨14, _⟩ => ⟨S4x2048x2048x32, .f32⟩
  | .hbm, ⟨15, _⟩ => ⟨S4x32x2048x2048, .f32⟩
  | .hbm, ⟨16, _⟩ => ⟨S4x32x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S4x32x2048x2048, .i1⟩
  | .hbm, ⟨26, _⟩ => ⟨S4x32x2048x2048, .f32⟩
  | .hbm, ⟨27, _⟩ => ⟨S4x32x2048x2048, .f32⟩
  | .hbm, ⟨28, _⟩ => ⟨S_, .f32⟩
  | .hbm, ⟨29, _⟩ => ⟨S4x32x2048, .f32⟩
  | .hbm, ⟨30, _⟩ => ⟨S_, .f32⟩
  | .hbm, ⟨31, _⟩ => ⟨S4x32x2048, .f32⟩
  | .hbm, ⟨32, _⟩ => ⟨S4x32x2048, .f32⟩
  | .hbm, ⟨33, _⟩ => ⟨S4x32x2048x1, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S_, .f32⟩
  | .hbm, ⟨38, _⟩ => ⟨S4x32x2048, .f32⟩
  | .hbm, ⟨39, _⟩ => ⟨S4x32x2048x1, .f32⟩
  | .hbm, ⟨40, _⟩ => ⟨S4x32x2048x2048, .f32⟩
  | .hbm, ⟨41, _⟩ => ⟨S4x32x2048x2048, .f32⟩
  | .hbm, ⟨42, _⟩ => ⟨S4x2048x32x128, .f32⟩
  | .hbm, ⟨43, _⟩ => ⟨S4x32x128x2048, .f32⟩
  | .hbm, ⟨44, _⟩ => ⟨S4x2048x32x128, .f32⟩
  | .hbm, ⟨45, _⟩ => ⟨S4x2048x4096, .f32⟩
  | .hbm, ⟨46, _⟩ => ⟨S4x2048x4096, .f32⟩
  | .hbm, ⟨47, _⟩ => ⟨S4x2048x4096, .bf16⟩
  | _, _ => ⟨S4x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Gate.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Out.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S4096x2048, .bf16⟩
  | .hbm, ⟨5, _⟩ => ⟨S1x2048, .f32⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutRefIdeal.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== HgOut.lean ====
abbrev S8192x4096 : Shape := ⟨2, ![8192, 4096]⟩
abbrev S4096x2048 : Shape := ⟨2, ![4096, 2048]⟩
abbrev S8192x2048 : Shape := ⟨2, ![8192, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S4096x2048, .bf16⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== HgOutRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S8192x4096, .f32⟩
  | .hbm, ⟨4, _⟩ => ⟨S8192x2048, .f32⟩
  | .hbm, ⟨5, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proj.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjIdeal.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Query.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryRefIdeal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KvUp.lean ====
abbrev S8192x512 : Shape := ⟨2, ![8192, 512]⟩
abbrev S512x8192 : Shape := ⟨2, ![512, 8192]⟩
abbrev S8192x8192 : Shape := ⟨2, ![8192, 8192]⟩
abbrev S512x512 : Shape := ⟨2, ![512, 512]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x8192, .f32⟩
  | .hbm, ⟨2, _⟩ => ⟨S512x8192, .bf16⟩
  | .hbm, ⟨3, _⟩ => ⟨S8192x8192, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvUpRefIdeal.lean ====
abbrev S8192x512 : Shape := ⟨2, ![8192, 512]⟩
abbrev S512x8192 : Shape := ⟨2, ![512, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x8192, .f32⟩
  | .hbm, ⟨2, _⟩ => ⟨S8192x512, .f32⟩
  | .hbm, ⟨3, _⟩ => ⟨S8192x8192, .f32⟩
  | .hbm, ⟨4, _⟩ => ⟨S8192x8192, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Forget.lean ====
abbrev S8192x2048 : Shape := ⟨2, ![8192, 2048]⟩
abbrev S2048 : Shape := ⟨1, ![2048]⟩
abbrev S2048x2048 : Shape := ⟨2, ![2048, 2048]⟩
abbrev S2x2048 : Shape := ⟨2, ![2, 2048]⟩
abbrev S1x2048 : Shape := ⟨2, ![1, 2048]⟩
abbrev S512x2048 : Shape := ⟨2, ![512, 2048]⟩
abbrev S2048x1024 : Shape := ⟨2, ![2048, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2x2048, .f32⟩
  | .hbm, ⟨4, _⟩ => ⟨S1x2048, .f32⟩
  | .hbm, ⟨5, _⟩ => ⟨S2048x2048, .bf16⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2x1024, .f32⟩
  | .local _ .vmem, ⟨6, _⟩ => ⟨S2x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ForgetRefIdeal.lean ====
abbrev S8192x2048 : Shape := ⟨2, ![8192, 2048]⟩
abbrev S2048 : Shape := ⟨1, ![2048]⟩
abbrev S2048x2048 : Shape := ⟨2, ![2048, 2048]⟩
abbrev S2x2048 : Shape := ⟨2, ![2, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2x2048, .f32⟩
  | .hbm, ⟨34, _⟩ => ⟨S2x2048, .f32⟩
  | .hbm, ⟨35, _⟩ => ⟨S_, .f32⟩
  | .hbm, ⟨36, _⟩ => ⟨S_, .f32⟩
  | .hbm, ⟨37, _⟩ => ⟨S2x2048, .f32⟩
  | .hbm, ⟨38, _⟩ => ⟨S1x2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_call0_cst : Ref sig .tc := ⟨.hbm, 35, rfl⟩
abbrev main_call0_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Latent.lean ====
abbrev S8192x2048 : Shape := ⟨2, ![8192, 2048]⟩
abbrev S2048 : Shape := ⟨1, ![2048]⟩
abbrev S2048x768 : Shape := ⟨2, ![2048, 768]⟩
abbrev S768 : Shape := ⟨1, ![768]⟩
abbrev S1x2048 : Shape := ⟨2, ![1, 2048]⟩
abbrev S1x768 : Shape := ⟨2, ![1, 768]⟩
abbrev S8192x768 : Shape := ⟨2, ![8192, 768]⟩
abbrev S512x2048 : Shape := ⟨2, ![512, 2048]⟩
abbrev S512x768 : Shape := ⟨2, ![512, 768]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x768, .f32⟩
  | .hbm, ⟨3, _⟩ => ⟨S768, .f32⟩
  | .hbm, ⟨4, _⟩ => ⟨S1x2048, .f32⟩
  | .hbm, ⟨5, _⟩ => ⟨S2048x768, .bf16⟩
  | .hbm, ⟨6, _⟩ => ⟨S1x768, .f32⟩
  | .hbm, ⟨7, _⟩ => ⟨S8192x768, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x768, .bf16⟩
  | .local _ .vmem, ⟨4, _⟩ => ⟨S1x768, .f32⟩
  | .local _ .vmem, ⟨5, _⟩ => ⟨S512x768, .bf16⟩
  | .local _ .vmem, ⟨6, _⟩ => ⟨S512x768, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LatentRefIdeal.lean ====
abbrev S8192x2048 : Shape := ⟨2, ![8192, 2048]⟩
abbrev S2048 : Shape := ⟨1, ![2048]⟩
abbrev S2048x768 : Shape := ⟨2, ![2048, 768]⟩
abbrev S768 : Shape := ⟨1, ![768]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x768 : Shape := ⟨2, ![8192, 768]⟩
abbrev S1x768 : Shape := ⟨2, ![1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x768, .f32⟩
  | .hbm, ⟨3, _⟩ => ⟨S768, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x768, .f32⟩
  | .hbm, ⟨21, _⟩ => ⟨S8192x768, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x768, .f32⟩
  | .hbm, ⟨33, _⟩ => ⟨S8192x768, .f32⟩
  | .hbm, ⟨34, _⟩ => ⟨S1x768, .f32⟩
  | .hbm, ⟨35, _⟩ => ⟨S8192x768, .f32⟩
  | .hbm, ⟨36, _⟩ => ⟨S8192x768, .f32⟩
  | .hbm, ⟨37, _⟩ => ⟨S8192x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== QUp.lean ====
abbrev S8192x768 : Shape := ⟨2, ![8192, 768]⟩
abbrev S768x6144 : Shape := ⟨2, ![768, 6144]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S768x32x192 : Shape := ⟨3, ![768, 32, 192]⟩
abbrev S768x32x128 : Shape := ⟨3, ![768, 32, 128]⟩
abbrev S768x16x256 : Shape := ⟨3, ![768, 16, 256]⟩
abbrev S768x32x64 : Shape := ⟨3, ![768, 32, 64]⟩
abbrev S768x32x32 : Shape := ⟨3, ![768, 32, 32]⟩
abbrev S768x16x128 : Shape := ⟨3, ![768, 16, 128]⟩
abbrev S768x16x512 : Shape := ⟨3, ![768, 16, 512]⟩
abbrev S768x8192 : Shape := ⟨2, ![768, 8192]⟩
abbrev S8192x8192 : Shape := ⟨2, ![8192, 8192]⟩
abbrev S512x768 : Shape := ⟨2, ![512, 768]⟩
abbrev S768x1024 : Shape := ⟨2, ![768, 1024]⟩
abbrev S512x128 : Shape := ⟨2, ![512, 128]⟩
abbrev S512x1024 : Shape := ⟨2, ![512, 1024]⟩

abbrev nBuf : Space → Nat
  | .hbm => 41
  | .vmem => 10
  | .smem => 0
  | _ => 0

abbrev bufTy : (tb : Table) → Fin (tcTables nBuf tb) → BufTy
  | .hbm, ⟨0, _⟩ => ⟨S8192x768, .bf16⟩
  | .hbm, ⟨1, _⟩ => ⟨S768x6144, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x128, .f32⟩
  | .hbm, ⟨25, _⟩ => ⟨S2048x32, .f32⟩
  | .hbm, ⟨26, _⟩ => ⟨S2048x32, .f32⟩
  | .hbm, ⟨27, _⟩ => ⟨S2048x128, .f32⟩
  | .hbm, ⟨28, _⟩ => ⟨S768x32x192, .f32⟩
  | .hbm, ⟨29, _⟩ => ⟨S768x32x128, .f32⟩
  | .hbm, ⟨30, _⟩ => ⟨S768x16x256, .f32⟩
  | .hbm, ⟨31, _⟩ => ⟨S768x32x64, .f32⟩
  | .hbm, ⟨32, _⟩ => ⟨S768x32x32, .f32⟩
  | .hbm, ⟨33, _⟩ => ⟨S768x32x32, .f32⟩
  | .hbm, ⟨34, _⟩ => ⟨S768x32x64, .f32⟩
  | .hbm, ⟨35, _⟩ => ⟨S768x16x128, .f32⟩
  | .hbm, ⟨36, _⟩ => ⟨S768x16x128, .f32⟩
  | .hbm, ⟨37, _⟩ => ⟨S768x16x512, .f32⟩
  | .hbm, ⟨38, _⟩ => ⟨S768x8192, .f32⟩
  | .hbm, ⟨39, _⟩ => ⟨S768x8192, .bf16⟩
  | .hbm, ⟨40, _⟩ => ⟨S8192x8192, .bf16⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S768x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QUpIdeal.lean ====
variable {F : FTy → Type} [FloatOps F] [Named F]
def κ : String → Option EReal := fun
  | "scale" => some (((Real.sqrt 192)⁻¹ : ℝ) : EReal)
  | _ => none
-- ==== QUpRefIdeal.lean ====
abbrev S8192x768 : Shape := ⟨2, ![8192, 768]⟩
abbrev S768x6144 : Shape := ⟨2, ![768, 6144]⟩
abbrev S8192x6144 : Shape := ⟨2, ![8192, 6144]⟩
abbrev S4x2048x32x192 : Shape := ⟨4, ![4, 2048, 32, 192]⟩
abbrev S4x2048x32x128 : Shape := ⟨4, ![4, 2048, 32, 128]⟩
abbrev S4x2048x32x64 : Shape := ⟨4, ![4, 2048, 32, 64]⟩
abbrev S2048 : Shape := ⟨1, ![2048]⟩
abbrev S32 : Shape := ⟨1, ![32]⟩
abbrev S_ : Shape := ⟨0, ![]⟩
abbrev S2048x1x1 : Shape := ⟨3, ![2048, 1, 1]⟩
abbrev S1x1x32 : Shape := ⟨3, ![1, 1, 32]⟩
abbrev S2048x1x32 : Shape := ⟨3, ![2048, 1, 32]⟩
abbrev S4x2048x32x32 : Shape := ⟨4, ![4, 2048, 32, 32]⟩
abbrev S1x2048x1x32 : Shape := ⟨4, ![1, 2048, 1, 32]⟩
abbrev S4x2048x16x64 : Shape := ⟨4, ![4, 2048, 16, 64]⟩
abbrev S4x2048x16x192 : Shape := ⟨4, ![4, 2048, 16, 192]⟩
abbrev S4x2048x16x128 : Shape := ⟨4, ![4, 2048, 16, 128]⟩
abbrev S4x2048x16x512 : Shape := ⟨4, ![4, 2048, 16, 512]⟩
abbrev S8192x8192 : Shape := ⟨2, ![8192, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S768x6144, .f32⟩
  | .hbm, ⟨2, _⟩ => ⟨S8192x768, .f32⟩
  | .hbm, ⟨3, _⟩ => ⟨S8192x6144, .f32⟩
  | .hbm, ⟨4, _⟩ => ⟨S4x2048x32x192, .f32⟩
  | .hbm, ⟨5, _⟩ => ⟨S4x2048x32x128, .f32⟩
  | .hbm, ⟨6, _⟩ => ⟨S4x2048x32x64, .f32⟩
  | .hbm, ⟨7, _⟩ => ⟨S2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1x1, .f32⟩
  | .hbm, ⟨23, _⟩ => ⟨S1x1x32, .f32⟩
  | .hbm, ⟨24, _⟩ => ⟨S2048x1x32, .f32⟩
  | .hbm, ⟨25, _⟩ => ⟨S2048x1x32, .f32⟩
  | .hbm, ⟨26, _⟩ => ⟨S2048x1x32, .f32⟩
  | .hbm, ⟨27, _⟩ => ⟨S2048x1x32, .f32⟩
  | .hbm, ⟨28, _⟩ => ⟨S2048x1x32, .f32⟩
  | .hbm, ⟨29, _⟩ => ⟨S4x2048x32x32, .f32⟩
  | .hbm, ⟨30, _⟩ => ⟨S4x2048x32x32, .f32⟩
  | .hbm, ⟨31, _⟩ => ⟨S1x2048x1x32, .f32⟩
  | .hbm, ⟨32, _⟩ => ⟨S4x2048x32x32, .f32⟩
  | .hbm, ⟨33, _⟩ => ⟨S4x2048x32x32, .f32⟩
  | .hbm, ⟨34, _⟩ => ⟨S1x2048x1x32, .f32⟩
  | .hbm, ⟨35, _⟩ => ⟨S4x2048x32x32, .f32⟩
  | .hbm, ⟨36, _⟩ => ⟨S4x2048x32x32, .f32⟩
  | .hbm, ⟨37, _⟩ => ⟨S4x2048x32x32, .f32⟩
  | .hbm, ⟨38, _⟩ => ⟨S1x2048x1x32, .f32⟩
  | .hbm, ⟨39, _⟩ => ⟨S4x2048x32x32, .f32⟩
  | .hbm, ⟨40, _⟩ => ⟨S4x2048x32x32, .f32⟩
  | .hbm, ⟨41, _⟩ => ⟨S1x2048x1x32, .f32⟩
  | .hbm, ⟨42, _⟩ => ⟨S4x2048x32x32, .f32⟩
  | .hbm, ⟨43, _⟩ => ⟨S4x2048x32x32, .f32⟩
  | .hbm, ⟨44, _⟩ => ⟨S4x2048x32x32, .f32⟩
  | .hbm, ⟨45, _⟩ => ⟨S4x2048x32x64, .f32⟩
  | .hbm, ⟨46, _⟩ => ⟨S4x2048x32x192, .f32⟩
  | .hbm, ⟨47, _⟩ => ⟨S_, .f32⟩
  | .hbm, ⟨48, _⟩ => ⟨S_, .f32⟩
  | .hbm, ⟨49, _⟩ => ⟨S4x2048x32x192, .f32⟩
  | .hbm, ⟨50, _⟩ => ⟨S4x2048x32x192, .f32⟩
  | .hbm, ⟨51, _⟩ => ⟨S_, .f32⟩
  | .hbm, ⟨52, _⟩ => ⟨S4x2048x16x64, .f32⟩
  | .hbm, ⟨53, _⟩ => ⟨S4x2048x16x192, .f32⟩
  | .hbm, ⟨54, _⟩ => ⟨S4x2048x16x192, .f32⟩
  | .hbm, ⟨55, _⟩ => ⟨S4x2048x16x128, .f32⟩
  | .hbm, ⟨56, _⟩ => ⟨S4x2048x16x64, .f32⟩
  | .hbm, ⟨57, _⟩ => ⟨S4x2048x16x512, .f32⟩
  | .hbm, ⟨58, _⟩ => ⟨S8192x8192, .f32⟩
  | .hbm, ⟨59, _⟩ => ⟨S8192x8192, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]
-- ==== KvDown.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x512 : Shape := ⟨2, ![2048, 512]⟩
abbrev S2048x64 : Shape := ⟨2, ![2048, 64]⟩
abbrev S2048x768 : Shape := ⟨2, ![2048, 768]⟩
abbrev S1x2048 : Shape := ⟨2, ![1, 2048]⟩
abbrev S1x512 : Shape := ⟨2, ![1, 512]⟩
abbrev S8192x512 : Shape := ⟨2, ![8192, 512]⟩
abbrev S8192x128 : Shape := ⟨2, ![8192, 128]⟩
abbrev S512x2048 : Shape := ⟨2, ![512, 2048]⟩
abbrev S512x128 : Shape := ⟨2, ![512, 128]⟩
abbrev S512x512 : Shape := ⟨2, ![512, 512]⟩
abbrev S512x1 : Shape := ⟨2, ![512, 1]⟩
abbrev S512x768 : Shape := ⟨2, ![512, 768]⟩

abbrev nBuf : Space → Nat
  | .hbm => 41
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x128, .f32⟩
  | .hbm, ⟨27, _⟩ => ⟨S2048x32, .f32⟩
  | .hbm, ⟨28, _⟩ => ⟨S2048x32, .f32⟩
  | .hbm, ⟨29, _⟩ => ⟨S2048x128, .f32⟩
  | .hbm, ⟨30, _⟩ => ⟨S2048x512, .f32⟩
  | .hbm, ⟨31, _⟩ => ⟨S2048x64, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S2048x768, .f32⟩
  | .hbm, ⟨36, _⟩ => ⟨S2048x768, .bf16⟩
  | .hbm, ⟨37, _⟩ => ⟨S1x2048, .f32⟩
  | .hbm, ⟨38, _⟩ => ⟨S1x512, .f32⟩
  | .hbm, ⟨39, _⟩ => ⟨S8192x512, .bf16⟩
  | .hbm, ⟨40, _⟩ => ⟨S8192x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x768, .bf16⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x128, .bf16⟩
  | .local _ .vmem, ⟨12, _⟩ => ⟨S512x128, .bf16⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KvDownRefIdeal.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x576 : Shape := ⟨2, ![8192, 576]⟩
abbrev S8192x64 : Shape := ⟨2, ![8192, 64]⟩
abbrev S4x2048x1x64 : Shape := ⟨4, ![4, 2048, 1, 64]⟩
abbrev S32 : Shape := ⟨1, ![32]⟩
abbrev S2048x1x1 : Shape := ⟨3, ![2048, 1, 1]⟩
abbrev S1x1x32 : Shape := ⟨3, ![1, 1, 32]⟩
abbrev S2048x1x32 : Shape := ⟨3, ![2048, 1, 32]⟩
abbrev S4x2048x1x32 : Shape := ⟨4, ![4, 2048, 1, 32]⟩
abbrev S1x2048x1x32 : Shape := ⟨4, ![1, 2048, 1, 32]⟩
abbrev S8192x512 : Shape := ⟨2, ![8192, 512]⟩
abbrev S1x512 : Shape := ⟨2, ![1, 512]⟩
abbrev S8192x128 : Shape := ⟨2, ![8192, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x576, .f32⟩
  | .hbm, ⟨21, _⟩ => ⟨S8192x64, .f32⟩
  | .hbm, ⟨22, _⟩ => ⟨S4x2048x1x64, .f32⟩
  | .hbm, ⟨23, _⟩ => ⟨S2048, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048x1x1, .f32⟩
  | .hbm, ⟨39, _⟩ => ⟨S1x1x32, .f32⟩
  | .hbm, ⟨40, _⟩ => ⟨S2048x1x32, .f32⟩
  | .hbm, ⟨41, _⟩ => ⟨S2048x1x32, .f32⟩
  | .hbm, ⟨42, _⟩ => ⟨S2048x1x32, .f32⟩
  | .hbm, ⟨43, _⟩ => ⟨S2048x1x32, .f32⟩
  | .hbm, ⟨44, _⟩ => ⟨S2048x1x32, .f32⟩
  | .hbm, ⟨45, _⟩ => ⟨S4x2048x1x32, .f32⟩
  | .hbm, ⟨46, _⟩ => ⟨S4x2048x1x32, .f32⟩
  | .hbm, ⟨47, _⟩ => ⟨S1x2048x1x32, .f32⟩
  | .hbm, ⟨48, _⟩ => ⟨S4x2048x1x32, .f32⟩
  | .hbm, ⟨49, _⟩ => ⟨S4x2048x1x32, .f32⟩
  | .hbm, ⟨50, _⟩ => ⟨S1x2048x1x32, .f32⟩
  | .hbm, ⟨51, _⟩ => ⟨S4x2048x1x32, .f32⟩
  | .hbm, ⟨52, _⟩ => ⟨S4x2048x1x32, .f32⟩
  | .hbm, ⟨53, _⟩ => ⟨S4x2048x1x32, .f32⟩
  | .hbm, ⟨54, _⟩ => ⟨S1x2048x1x32, .f32⟩
  | .hbm, ⟨55, _⟩ => ⟨S4x2048x1x32, .f32⟩
  | .hbm, ⟨56, _⟩ => ⟨S4x2048x1x32, .f32⟩
  | .hbm, ⟨57, _⟩ => ⟨S1x2048x1x32, .f32⟩
  | .hbm, ⟨58, _⟩ => ⟨S4x2048x1x32, .f32⟩
  | .hbm, ⟨59, _⟩ => ⟨S4x2048x1x32, .f32⟩
  | .hbm, ⟨60, _⟩ => ⟨S4x2048x1x32, .f32⟩
  | .hbm, ⟨61, _⟩ => ⟨S4x2048x1x64, .f32⟩
  | .hbm, ⟨62, _⟩ => ⟨S8192x64, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x512, .bf16⟩
  | .hbm, ⟨81, _⟩ => ⟨S8192x128, .f32⟩
  | .hbm, ⟨82, _⟩ => ⟨S8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== Proof.Softmax.lean ====
/- Online softmax over the extended reals. A row of attention keeps a running maximum `m`, a running sum `l` of
   exponentials and a running weighted sum `acc`; after any number of blocks these three describe the set of keys
   seen so far, and the quotient `acc / l` no longer depends on the maximum. -/
module

public import Idealize.ShloMosaic.PureOps.Ideal
public import Idealize.ShloMosaic.Lib.WordCmp

@[expose] public section
noncomputable section
namespace Cert.Softmax
open Idealize.ShloMosaic

theorem ofBits_neg_inf : Ideal.ofBits .f32 0xFF800000#32 = ⊥ := by simp [Ideal.ofBits, Ideal.ieee]

/-- Choosing by a comparison of two small indices, as 32-bit words. -/
theorem select_sle {α : Type} (a b : ℕ) (ha : a < 2048) (hb : b < 2048) (x y : α) :
    Scalar.select (IntOp.cmpi .sle (BitVec.ofNat 32 a) (BitVec.ofNat 32 b)) x y = if a ≤ b then x else y := by
  have ha' : a < 2 ^ (32 - 1) := by omega
  have hb' : b < 2 ^ (32 - 1) := by omega
  by_cases h : a ≤ b
  · rw [if_pos h, (Idealize.ShloMosaic.WordCmp.cmpi_sle_ofNat_eq_one_iff ha' hb').mpr h]; rfl
  · rw [if_neg h, (Idealize.ShloMosaic.WordCmp.cmpi_sle_ofNat_eq_zero_iff ha' hb').mpr h]; rfl

variable {ι κ δ : Type} [DecidableEq ι]

/-- The keys `A` have been seen, their scores are `σ`, their values are `w`. -/
def Inv (σ : ι → ℝ) (w : ι → δ → ℝ) (A : Finset ι) (m l : EReal) (acc : δ → EReal) : Prop :=
  (A = ∅ ∧ m = ⊥ ∧ l = 0 ∧ ∀ d, acc d = 0) ∨
  ∃ M : ℝ, m = (M : EReal) ∧ l = ((∑ k ∈ A, Real.exp (σ k - M) : ℝ) : EReal) ∧
    ∀ d, acc d = ((∑ k ∈ A, Real.exp (σ k - M) * w k d : ℝ) : EReal)

theorem Inv.start (σ : ι → ℝ) (w : ι → δ → ℝ) {m l : EReal} {acc : δ → EReal} (hm : m = ⊥) (hl : l = 0)
    (ha : ∀ d, acc d = 0) : Inv σ w ∅ m l acc := .inl ⟨rfl, hm, hl, ha⟩

/-- The weighted mean of the values of the keys `A`. -/
def mean (σ : ι → ℝ) (w : ι → δ → ℝ) (A : Finset ι) (d : δ) : ℝ :=
  (∑ k ∈ A, Real.exp (σ k) * w k d) / ∑ k ∈ A, Real.exp (σ k)

theorem coe_sum (s : Finset κ) (f : κ → ℝ) : ∑ c ∈ s, (f c : EReal) = ((∑ c ∈ s, f c : ℝ) : EReal) := by
  classical
  induction s using Finset.induction_on with
  | empty => simp
  | insert a s h ih => rw [Finset.sum_insert h, Finset.sum_insert h, ih, EReal.coe_add]

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A maximum over finitely many scores, each real or `⊥`, is a real as soon as one of them is. -/
theorem fold_max_real [Fintype κ] (s : κ → EReal) (h : ∀ c, s c = ⊥ ∨ ∃ x : ℝ, s c = x) (h' : ∃ c, ∃ x : ℝ, s c = x) :
    ∃ M : ℝ, Finset.univ.fold max ⊥ s = (M : EReal) := by
  classical
  have key : ∀ A : Finset κ, (A.fold max ⊥ s = ⊥ ∧ ∀ c ∈ A, s c = ⊥) ∨ ∃ M : ℝ, A.fold max ⊥ s = (M : EReal) := by
    intro A
    induction A using Finset.induction_on with
    | empty => left; simp
    | insert a A ha ih =>
      rw [Finset.fold_insert ha]
      rcases h a with e | ⟨x, e⟩ <;> rcases ih with ⟨e', hb⟩ | ⟨M, e'⟩
      · left
        refine ⟨by rw [e, e', max_self], fun c hc => ?_⟩
        rcases Finset.mem_insert.mp hc with rfl | hc
        · exact e
        · exact hb c hc
      · right; exact ⟨M, by rw [e, e', max_eq_right bot_le]⟩
      · right; exact ⟨x, by rw [e, e', max_eq_left bot_le]⟩
      · right; exact ⟨max x M, by rw [e, e', max_coe]⟩
  rcases key Finset.univ with ⟨_, hb⟩ | h
  · obtain ⟨c, x, hx⟩ := h'
    rw [hb c (Finset.mem_univ c)] at hx
    exact absurd hx (EReal.bot_ne_coe x)
  · exact h

/-- The weight of one key of a block: zero where the key is masked. -/
theorem weight (σ M : ℝ) (p : Prop) [Decidable p] :
    Ideal.exp ((if p then (σ : EReal) else ⊥) - (M : EReal)) = ((if p then Real.exp (σ - M) else 0 : ℝ) : EReal) := by
  split
  · rw [← EReal.coe_sub, Ideal.exp_coe]
  · rw [EReal.bot_sub, Ideal.exp_bot, EReal.coe_zero]

/-- One block of keys: the keys `e c` of the block where `p c` holds are added to those seen. -/
theorem Inv.step [Fintype κ] {σ : ι → ℝ} {w : ι → δ → ℝ} {A B : Finset ι} {m l : EReal} {acc : δ → EReal}
    (hI : Inv σ w A m l acc) (e : κ → ι) (he : Function.Injective e) (p : κ → Prop) [DecidablePred p] (hp : ∃ c, p c)
    (hAB : Disjoint A ((Finset.univ.filter p).image e)) (hB : B = A ∪ (Finset.univ.filter p).image e)
    (s : κ → EReal) (hs : ∀ c, s c = if p c then (σ (e c) : EReal) else ⊥)
    (v : κ → δ → EReal) (hv : ∀ c d, v c d = (w (e c) d : EReal))
    {m' l' : EReal} {acc' : δ → EReal} (hm' : m' = max m (Finset.univ.fold max ⊥ s))
    (hl' : l' = Ideal.exp (m - m') * l + ∑ c, Ideal.exp (s c - m'))
    (ha' : ∀ d, acc' d = Ideal.exp (m - m') * acc d + ∑ c, Ideal.exp (s c - m') * v c d) :
    Inv σ w B m' l' acc' := by
  obtain ⟨c0, hc0⟩ := hp
  obtain ⟨M1, hM1⟩ := fold_max_real s (fun c => by
    rw [hs c]; split
    · exact .inr ⟨_, rfl⟩
    · exact .inl rfl) ⟨c0, σ (e c0), by rw [hs c0, if_pos hc0]⟩
  rw [hM1] at hm'
  have hsum : ∀ f : ι → ℝ, ∑ k ∈ B, f k = ∑ k ∈ A, f k + ∑ c, if p c then f (e c) else 0 := by
    intro f
    rw [hB, Finset.sum_union hAB, Finset.sum_image (fun a _ b _ h => he h), Finset.sum_filter]
  right
  rcases hI with ⟨rfl, rfl, rfl, ha⟩ | ⟨M, rfl, rfl, ha⟩
  · rw [max_eq_right bot_le] at hm'
    subst hm'
    refine ⟨M1, rfl, ?_, fun d => ?_⟩
    · rw [hl', mul_zero, zero_add, hsum, Finset.sum_empty, zero_add, ← coe_sum]
      exact Finset.sum_congr rfl fun c _ => by rw [hs c, weight]
    · rw [ha' d, ha d, mul_zero, zero_add, hsum, Finset.sum_empty, zero_add, ← coe_sum]
      refine Finset.sum_congr rfl fun c _ => ?_
      rw [hs c, weight, hv c d, ← EReal.coe_mul]
      split <;> simp
  · rw [max_coe] at hm'
    generalize max M M1 = N at hm'
    subst hm'
    have hsc : ∀ x : ℝ, Real.exp (M - N) * Real.exp (x - M) = Real.exp (x - N) := fun x => by
      rw [← Real.exp_add]; congr 1; ring
    refine ⟨N, rfl, ?_, fun d => ?_⟩
    · rw [hl', ← EReal.coe_sub, Ideal.exp_coe, ← EReal.coe_mul, hsum, EReal.coe_add, ← coe_sum Finset.univ, Finset.mul_sum]
      congr 1
      · congr 1
        exact Finset.sum_congr rfl fun k _ => hsc _
      · exact Finset.sum_congr rfl fun c _ => by rw [hs c, weight]
    · rw [ha' d, ha d, ← EReal.coe_sub, Ideal.exp_coe, ← EReal.coe_mul, hsum, EReal.coe_add, ← coe_sum Finset.univ, Finset.mul_sum]
      congr 1
      · congr 1
        exact Finset.sum_congr rfl fun k _ => by rw [← mul_assoc, hsc]
      · refine Finset.sum_congr rfl fun c _ => ?_
        rw [hs c, weight, hv c d, ← EReal.coe_mul]
        split <;> simp

theorem sum_exp_pos (σ : ι → ℝ) {A : Finset ι} (hA : A.Nonempty) (M : ℝ) : 0 < ∑ k ∈ A, Real.exp (σ k - M) :=
  Finset.sum_pos (fun _ _ => Real.exp_pos _) hA

/-- Shifting every score by one constant changes no weighted mean. -/
theorem mean_shift (σ : ι → ℝ) (w : ι → δ → ℝ) (A : Finset ι) (M : ℝ) (d : δ) :
    (∑ k ∈ A, Real.exp (σ k - M) * w k d) / ∑ k ∈ A, Real.exp (σ k - M) = mean σ w A d := by
  have h1 : ∑ k ∈ A, Real.exp (σ k - M) * w k d = Real.exp (-M) * ∑ k ∈ A, Real.exp (σ k) * w k d := by
    rw [Finset.mul_sum]
    refine Finset.sum_congr rfl fun k _ => ?_
    rw [sub_eq_neg_add, Real.exp_add, mul_assoc]
  have h2 : ∑ k ∈ A, Real.exp (σ k - M) = Real.exp (-M) * ∑ k ∈ A, Real.exp (σ k) := by
    rw [Finset.mul_sum]
    refine Finset.sum_congr rfl fun k _ => ?_
    rw [sub_eq_neg_add, Real.exp_add]
  rw [h1, h2, mul_div_mul_left _ _ (Real.exp_pos _).ne', mean]

theorem div_coe {x y : ℝ} (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- What a row of attention ends with: the quotient is the weighted mean over the keys seen. -/
theorem Inv.quotient {σ : ι → ℝ} {w : ι → δ → ℝ} {A : Finset ι} {m l : EReal} {acc : δ → EReal} (hI : Inv σ w A m l acc)
    (hA : A.Nonempty) (d : δ) : Ideal.div (acc d) l = (mean σ w A d : EReal) := by
  rcases hI with ⟨rfl, _⟩ | ⟨M, _, rfl, ha⟩
  · exact absurd hA Finset.not_nonempty_empty
  · rw [ha d, div_coe (sum_exp_pos σ hA M).ne', mean_shift]

end Cert.Softmax
end
-- ==== Proof.Steps.lean ====
/- One block step of the attention kernel as a function on vectors, and what it does to one row. -/
module

public import proofs.«01_k».proof.Proof.Gen.KernelIdeal.Value
public import proofs.«01_k».proof.Proof.Softmax
public import Idealize.ShloMosaic.Lib.Pointwise

@[expose] public section
noncomputable section
namespace Cert.Att
open Cert.KernelIdeal Cert.KernelIdeal.Gen Cert.Softmax Idealize.ShloMosaic Idealize.ShloMosaic.TcCoe Idealize.SL.Sem

/-- What a tile carries: the running maximum, the running sum and the running weighted sum of each row. -/
abbrev Carry := FVec Ideal S512x1 .f32 × FVec Ideal S512x1 .f32 × FVec Ideal S512x128 .f32

/-- The scores of 512 queries against 512 keys. -/
def score (q : Vec Ideal S1x512x256 .bf16) (kk : Vec Ideal S512x256 .bf16) : FVec Ideal S512x512 .f32 :=
  matmul (F := Ideal) (φ₁ := .bf16) (φ₂ := .bf16) dot_S512x256_S512x256_S512x512_1_1_0_0_n_n none (shapeCast S512x256 q shapeCasts_S1x512x256_S512x256 : FVec Ideal S512x256 .bf16) kk
    (constant S512x512 .f32 0x00000000#32)

/-- The scores of the block on the diagonal: a key after its query scores `⊥`. -/
def masked (q : Vec Ideal S1x512x256 .bf16) (kk : Vec Ideal S512x256 .bf16) : FVec Ideal S512x512 .f32 :=
  select k0_pay3 (score q kk) (broadcast S512x512 (Scalar.ofBits .f32 0xFF800000#32 : Ideal .f32))

def newMax (s : FVec Ideal S512x512 .f32) (m : FVec Ideal S512x1 .f32) : FVec Ideal S512x1 .f32 :=
  maximumf m (shapeCast S512x1 (multiReduction .maximumf [1] S512 s 0xFF800000#32 reduces_S512x512_S512 (.inl rfl) rfl) shapeCasts_S512_S512x1)

def weights (s : FVec Ideal S512x512 .f32) (m : FVec Ideal S512x1 .f32) : FVec Ideal S512x512 .f32 :=
  exp (subf s (broadcastTo S512x512 m broadcasts_S512x1_S512x512))

def decay (m m' : FVec Ideal S512x1 .f32) : FVec Ideal S512x1 .f32 := exp (subf m m')

def newSum (a l : FVec Ideal S512x1 .f32) (p : FVec Ideal S512x512 .f32) : FVec Ideal S512x1 .f32 :=
  addf (mulf a l) (shapeCast S512x1 (multiReduction .add [1] S512 p 0x00000000#32 reduces_S512x512_S512 (.inl rfl) rfl) shapeCasts_S512_S512x1)

def newAcc (a : FVec Ideal S512x1 .f32) (acc : FVec Ideal S512x128 .f32) (p : FVec Ideal S512x512 .f32) (v : Vec Ideal S1x512x128 .bf16) :
    FVec Ideal S512x128 .f32 :=
  addf (mulf (broadcastTo S512x128 a broadcasts_S512x1_S512x128) acc)
    (matmul dot_S512x512_S512x128_S512x128_1_0_0_1_n_n none (truncf .bf16 p bitsLt_bf16_f32)
      (shapeCast S512x128 v shapeCasts_S1x512x128_S512x128 : FVec Ideal S512x128 .bf16) (constant S512x128 .f32 0x00000000#32))

/-- One block: the carry after the scores `s` and the values `v`. -/
def step (s : FVec Ideal S512x512 .f32) (v : Vec Ideal S1x512x128 .bf16) (cr : Carry) : Carry :=
  (newMax s cr.1, newSum (decay cr.1 (newMax s cr.1)) cr.2.1 (weights s (newMax s cr.1)),
    newAcc (decay cr.1 (newMax s cr.1)) cr.2.2 (weights s (newMax s cr.1)) v)

def start : Carry :=
  (broadcast S512x1 (Scalar.ofBits .f32 0xFF800000#32 : Ideal .f32), broadcast S512x1 (Scalar.ofBits .f32 0x00000000#32 : Ideal .f32),
    broadcast S512x128 (Scalar.ofBits .f32 0x00000000#32 : Ideal .f32))

/-- What a tile stores: the quotient, times the gate. -/
def gated (cr : Carry) (g : Vec Ideal S1x512x128 .bf16) : FVec Ideal S1x512x128 .bf16 :=
  shapeCast S1x512x128 (truncf .bf16 (mulf (divf cr.2.2 (broadcastTo S512x128 cr.2.1 broadcasts_S512x1_S512x128))
    (extf .f32 (shapeCast S512x128 g shapeCasts_S1x512x128_S512x128 : FVec Ideal S512x128 .bf16) bitsLt_bf16_f32)) bitsLt_bf16_f32) shapeCasts_S512x128_S1x512x128

/-- The carry after the first `n` blocks, none of them on the diagonal. -/
def before (q : Vec Ideal S1x512x256 .bf16) (kk : ℕ → Vec Ideal S512x256 .bf16) (v : ℕ → Vec Ideal S1x512x128 .bf16) : ℕ → Carry
  | 0 => start
  | n + 1 => step (score q (kk n)) (v n) (before q kk v n)

/-- A whole tile: the blocks before the diagonal, the block on it, and the quotient. -/
def tile (n : ℕ) (q : Vec Ideal S1x512x256 .bf16) (kk : ℕ → Vec Ideal S512x256 .bf16) (v : ℕ → Vec Ideal S1x512x128 .bf16)
    (g : Vec Ideal S1x512x128 .bf16) : FVec Ideal S1x512x128 .bf16 :=
  gated (step (masked q (kk n)) (v n) (before q kk v n)) g

/-! ### One entry of each -/

theorem score_apply (q : Vec Ideal S1x512x256 .bf16) (kk : Vec Ideal S512x256 .bf16) (r k : Fin 512) :
    score q kk (ix2 r k) = ∑ e : Fin 256, q (ix3 0 r e) * kk (ix2 k e) := by
  pointwise [score]

theorem masked_apply (q : Vec Ideal S1x512x256 .bf16) (kk : Vec Ideal S512x256 .bf16) (r k : Fin 512) :
    masked q kk (ix2 r k) = if k ≤ r then score q kk (ix2 r k) else ⊥ := by
  pointwise [masked, k0_pay3]
  rw [select_sle _ _ (by omega) (by omega), ofBits_neg_inf]
  rfl

theorem newMax_apply (s : FVec Ideal S512x512 .f32) (m : FVec Ideal S512x1 .f32) (r : Fin 512) :
    newMax s m (ix2 r 0) = max (m (ix2 r 0)) (Finset.univ.fold max ⊥ fun k : Fin 512 => s (ix2 r k)) := by
  pointwise [newMax]
  rw [ofBits_neg_inf]

theorem newSum_apply (a l : FVec Ideal S512x1 .f32) (s : FVec Ideal S512x512 .f32) (m : FVec Ideal S512x1 .f32) (r : Fin 512) :
    newSum a l (weights s m) (ix2 r 0) = a (ix2 r 0) * l (ix2 r 0) + ∑ k : Fin 512, Ideal.exp (s (ix2 r k) - m (ix2 r 0)) := by
  pointwise [newSum, weights]

theorem newAcc_apply (a : FVec Ideal S512x1 .f32) (acc : FVec Ideal S512x128 .f32) (s : FVec Ideal S512x512 .f32) (m : FVec Ideal S512x1 .f32)
    (v : Vec Ideal S1x512x128 .bf16) (r : Fin 512) (d : Fin 128) :
    newAcc a acc (weights s m) v (ix2 r d)
      = a (ix2 r 0) * acc (ix2 r d) + ∑ k : Fin 512, Ideal.exp (s (ix2 r k) - m (ix2 r 0)) * v (ix3 0 k d) := by
  pointwise [newAcc, weights]

theorem decay_apply (m m' : FVec Ideal S512x1 .f32) (r : Fin 512) :
    decay m m' (ix2 r 0) = Ideal.exp (m (ix2 r 0) - m' (ix2 r 0)) := by
  pointwise [decay]

theorem gated_apply (cr : Carry) (g : Vec Ideal S1x512x128 .bf16) (r : Fin 512) (d : Fin 128) :
    gated cr g (ix3 0 r d) = Ideal.div (cr.2.2 (ix2 r d)) (cr.2.1 (ix2 r 0)) * g (ix3 0 r d) := by
  pointwise [gated]

theorem start_apply (r : Fin 512) (d : Fin 128) :
    start.1 (ix2 r 0) = ⊥ ∧ start.2.1 (ix2 r 0) = 0 ∧ start.2.2 (ix2 r d) = 0 := by
  refine ⟨?_, ?_, ?_⟩ <;> pointwise [start]
  exact ofBits_neg_inf

/-! ### One row of a tile -/

/-- Key `k` of block `j`. -/
def key (j : ℕ) (k : Fin 512) : Fin 2048 := ⟨512 * (j % 4) + k, by omega⟩

theorem key_injective (j : ℕ) : Function.Injective (key j) := fun a b h => by
  have := congrArg Fin.val h
  simp only [key] at this
  exact Fin.ext (by omega)

/-- The score of a key: the query times the key. -/
def dotp (qr : Fin 256 → ℝ) (kr : Fin 2048 → Fin 256 → ℝ) (k : Fin 2048) : ℝ := ∑ e, qr e * kr k e

theorem score_real {q : Vec Ideal S1x512x256 .bf16} {kk : ℕ → Vec Ideal S512x256 .bf16} {r : Fin 512}
    {qr : Fin 256 → ℝ} {kr : Fin 2048 → Fin 256 → ℝ} (hq : ∀ e, q (ix3 0 r e) = (qr e : EReal))
    (hk : ∀ j k e, kk j (ix2 k e) = (kr (key j k) e : EReal)) (j : ℕ) (k : Fin 512) :
    score q (kk j) (ix2 r k) = (dotp qr kr (key j k) : EReal) := by
  rw [score_apply, dotp, ← coe_sum]
  exact Finset.sum_congr rfl fun e _ => by rw [hq, hk, EReal.coe_mul]

/-- A block step at one row, in the terms of the running softmax. -/
theorem step_inv {σ : Fin 2048 → ℝ} {w : Fin 2048 → Fin 128 → ℝ} {A B : Finset (Fin 2048)} {r : Fin 512} {cr : Carry}
    (hI : Inv σ w A (cr.1 (ix2 r 0)) (cr.2.1 (ix2 r 0)) fun d => cr.2.2 (ix2 r d)) (j : ℕ) (p : Fin 512 → Prop) [DecidablePred p]
    (hp : ∃ c, p c) (hAB : Disjoint A ((Finset.univ.filter p).image (key j))) (hB : B = A ∪ (Finset.univ.filter p).image (key j))
    {s : FVec Ideal S512x512 .f32} (hs : ∀ c, s (ix2 r c) = if p c then (σ (key j c) : EReal) else ⊥)
    {v : Vec Ideal S1x512x128 .bf16} (hv : ∀ c d, v (ix3 0 c d) = (w (key j c) d : EReal)) :
    Inv σ w B ((step s v cr).1 (ix2 r 0)) ((step s v cr).2.1 (ix2 r 0)) fun d => (step s v cr).2.2 (ix2 r d) := by
  refine hI.step (key j) (key_injective j) p hp hAB hB (fun c => s (ix2 r c)) hs (fun c d => v (ix3 0 c d)) hv ?_ ?_ ?_
  · exact newMax_apply s cr.1 r
  · exact (newSum_apply _ _ s _ r).trans (by rw [decay_apply]; rfl)
  · exact fun d => (newAcc_apply _ _ s _ v r d).trans (by rw [decay_apply]; rfl)

section
variable {q : Vec Ideal S1x512x256 .bf16} {kk : ℕ → Vec Ideal S512x256 .bf16} {v : ℕ → Vec Ideal S1x512x128 .bf16} {r : Fin 512}
    {qr : Fin 256 → ℝ} {kr : Fin 2048 → Fin 256 → ℝ} {w : Fin 2048 → Fin 128 → ℝ}

theorem before_inv (hq : ∀ e, q (ix3 0 r e) = (qr e : EReal)) (hk : ∀ j k e, kk j (ix2 k e) = (kr (key j k) e : EReal))
    (hv : ∀ j k d, v j (ix3 0 k d) = (w (key j k) d : EReal)) (n : ℕ) (hn : n < 4) :
    Inv (dotp qr kr) w (Finset.univ.filter fun k : Fin 2048 => k.val < 512 * n) ((before q kk v n).1 (ix2 r 0))
      ((before q kk v n).2.1 (ix2 r 0)) fun d => (before q kk v n).2.2 (ix2 r d) := by
  induction n with
  | zero =>
    have h : (Finset.univ.filter fun k : Fin 2048 => k.val < 512 * 0) = ∅ := by ext k; simp
    rw [h]
    exact Inv.start _ _ (start_apply r 0).1 (start_apply r 0).2.1 fun d => (start_apply r d).2.2
  | succ n ih =>
    have hn' : n % 4 = n := Nat.mod_eq_of_lt (by omega)
    refine step_inv (ih (by omega)) n (fun _ => True) ⟨0, trivial⟩ ?_ ?_ (fun c => ?_) (hv n)
    · rw [Finset.disjoint_left]
      intro k hk' hk2
      obtain ⟨c, _, rfl⟩ := Finset.mem_image.mp hk2
      have := (Finset.mem_filter.mp hk').2
      simp only [key] at this
      omega
    · ext k
      simp only [Finset.mem_filter, Finset.mem_univ, true_and, Finset.mem_union, Finset.mem_image]
      constructor
      · intro h
        by_cases h' : k.val < 512 * n
        · exact .inl h'
        · exact .inr ⟨⟨k.val - 512 * n, by omega⟩, Fin.ext (by simp only [key]; omega)⟩
      · rintro (h | ⟨c, rfl⟩)
        · omega
        · simp only [key]; omega
    · rw [if_pos trivial, score_real hq hk]

/-- A tile's entry: the weighted mean of the values over the keys up to the query, times the gate. -/
theorem tile_apply (hq : ∀ e, q (ix3 0 r e) = (qr e : EReal)) (hk : ∀ j k e, kk j (ix2 k e) = (kr (key j k) e : EReal))
    (hv : ∀ j k d, v j (ix3 0 k d) = (w (key j k) d : EReal)) (n : ℕ) (hn : n < 4) (g : Vec Ideal S1x512x128 .bf16) (d : Fin 128) :
    tile n q kk v g (ix3 0 r d)
      = (mean (dotp qr kr) w (Finset.univ.filter fun k : Fin 2048 => k.val ≤ 512 * n + r.val) d : EReal) * g (ix3 0 r d) := by
  have hn' : n % 4 = n := Nat.mod_eq_of_lt hn
  rw [tile, gated_apply]
  congr 1
  refine Inv.quotient (σ := dotp qr kr) (w := w) (m := _) (acc := fun d => _) (step_inv (before_inv hq hk hv n hn) n (fun c => c ≤ r) ⟨r, le_refl r⟩ ?_ ?_ (fun c => ?_) (hv n)) ?_ d
  · rw [Finset.disjoint_left]
    intro k hk' hk2
    obtain ⟨c, _, rfl⟩ := Finset.mem_image.mp hk2
    have := (Finset.mem_filter.mp hk').2
    simp only [key] at this
    omega
  · ext k
    simp only [Finset.mem_filter, Finset.mem_univ, true_and, Finset.mem_union, Finset.mem_image]
    constructor
    · intro h
      by_cases h' : k.val < 512 * n
      · exact .inl h'
      · exact .inr ⟨⟨k.val - 512 * n, by omega⟩, Fin.le_def.mpr (by simp only []; omega), Fin.ext (by simp only [key]; omega)⟩
    · rintro (h | ⟨c, hc, rfl⟩)
      · omega
      · have := Fin.le_def.mp hc
        simp only [key]; omega
  · rw [masked_apply, score_real hq hk]
  · exact ⟨⟨0, by omega⟩, by simp⟩
end

end Cert.Att
end
-- ==== Proof.Tiles.lean ====
/- The attention kernel's body, point by point: the eight tiles it stores are the tiles of Steps. -/
module

public import proofs.«01_k».proof.Proof.Steps
public import Idealize.ShloMosaic.Lib.Tactic

@[expose] public section
set_option maxRecDepth 16384
noncomputable section
namespace Cert.Att
open Cert.KernelIdeal Cert.KernelIdeal.Gen Idealize.ShloMosaic Idealize.ShloMosaic.TcCoe Idealize.SL.Sem

/-- Rows `512 j …` of the scratch. -/
def kRect (j : ℕ) : Rect S2048x256 := Rect.unit ![512 * (j % 4), 0] ![512, 256] (fun a => by
  match a with
  | ⟨0, _⟩ => show 512 * (j % 4) + 512 ≤ 2048; omega
  | ⟨1, _⟩ => show 0 + 256 ≤ 256; omega)

/-- Rows `512 j …` of the values of head `h` of a point. -/
def vRect (h j : ℕ) : Rect S1x2048x512 := Rect.unit ![0, 512 * (j % 4), 256 * (h % 2) + 128] ![1, 512, 128] (fun a => by
  match a with
  | ⟨0, _⟩ => show 0 + 1 ≤ 1; omega
  | ⟨1, _⟩ => show 512 * (j % 4) + 512 ≤ 2048; omega
  | ⟨2, _⟩ => show 256 * (h % 2) + 128 + 128 ≤ 512; omega)

/-- Rows `512 j …` of the queries of head `h` of a point. -/
def qRect (h j : ℕ) : Rect S1x2048x512 := Rect.unit ![0, 512 * (j % 4), 256 * (h % 2)] ![1, 512, 256] (fun a => by
  match a with
  | ⟨0, _⟩ => show 0 + 1 ≤ 1; omega
  | ⟨1, _⟩ => show 512 * (j % 4) + 512 ≤ 2048; omega
  | ⟨2, _⟩ => show 256 * (h % 2) + 256 ≤ 512; omega)

/-- Rows `512 j …` of the gate, and of the result, of head `h` of a point. -/
def oRect (h j : ℕ) : Rect S1x2048x256 := Rect.unit ![0, 512 * (j % 4), 128 * (h % 2)] ![1, 512, 128] (fun a => by
  match a with
  | ⟨0, _⟩ => show 0 + 1 ≤ 1; omega
  | ⟨1, _⟩ => show 512 * (j % 4) + 512 ≤ 2048; omega
  | ⟨2, _⟩ => show 128 * (h % 2) + 128 ≤ 256; omega)

section
variable (𝒱 : Variants) (c : Dev nD) (bd : Option 𝒱.V) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S2048x256 .bf16) (harg7 : arg7.IsWhole)
variable (m7 : IVec S512x512 1) (q : Vec Ideal S1x512x256 .bf16) (X3 : BufTy.Contents (Elt Ideal) arg3.view.ty) (X7 : BufTy.Contents (Elt Ideal) arg7.view.ty)

/-- The keys and the values a loop's trip loads. -/
def kLoad (j : ℕ) : Vec Ideal S512x256 .bf16 := View.readAt (Elt Ideal) arg7.view (kRect j).toLoadRect X7
def vLoad (h j : ℕ) : Vec Ideal S1x512x128 .bf16 := View.readAt (Elt Ideal) arg3.view (vRect h j).toLoadRect X3

theorem loop1 (u1 : FVec Ideal S512x128 .f32) :
    st_k0_t1 (F := Ideal) 𝒱 c bd i arg2 harg2 arg3 harg3 arg4 harg4 arg5 harg5 arg6 harg6 arg7 harg7 m7 u1 q X3 X7 (k0_pay23, k0_pay24, k0_pay25)
      (Scf.trips k0_t1_loop.lb k0_t1_loop.ub k0_t1_loop.st) = before q (kLoad arg7 X7) (vLoad arg3 X3 0) 2 := by
  have h0 := st_k0_t1_succ (F := Ideal) 𝒱 c bd i arg2 harg2 arg3 harg3 arg4 harg4 arg5 harg5 arg6 harg6 arg7 harg7 m7 u1 q X3 X7 (k0_pay23, k0_pay24, k0_pay25) ⟨0, by decide⟩
  have h1 := st_k0_t1_succ (F := Ideal) 𝒱 c bd i arg2 harg2 arg3 harg3 arg4 harg4 arg5 harg5 arg6 harg6 arg7 harg7 m7 u1 q X3 X7 (k0_pay23, k0_pay24, k0_pay25) ⟨1, by decide⟩
  rw [st_k0_t1_zero] at h0
  simp only [Nat.zero_add, Nat.reduceAdd] at h0 h1
  rw [h0] at h1
  refine Eq.trans ?_ (h1.trans ?_)
  · rfl
  · unfold tripR_k0_t1 trip_k0_t1
    rfl

theorem loop2 (u1 : FVec Ideal S512x128 .f32) :
    st_k0_t2 (F := Ideal) 𝒱 c bd i arg2 harg2 arg3 harg3 arg4 harg4 arg5 harg5 arg6 harg6 arg7 harg7 m7 u1 q X3 X7 (k0_pay35, k0_pay36, k0_pay37)
      (Scf.trips k0_t2_loop.lb k0_t2_loop.ub k0_t2_loop.st) = before q (kLoad arg7 X7) (vLoad arg3 X3 0) 3 := by
  have h0 := st_k0_t2_succ (F := Ideal) 𝒱 c bd i arg2 harg2 arg3 harg3 arg4 harg4 arg5 harg5 arg6 harg6 arg7 harg7 m7 u1 q X3 X7 (k0_pay35, k0_pay36, k0_pay37) ⟨0, by decide⟩
  have h1 := st_k0_t2_succ (F := Ideal) 𝒱 c bd i arg2 harg2 arg3 harg3 arg4 harg4 arg5 harg5 arg6 harg6 arg7 harg7 m7 u1 q X3 X7 (k0_pay35, k0_pay36, k0_pay37) ⟨1, by decide⟩
  have h2 := st_k0_t2_succ (F := Ideal) 𝒱 c bd i arg2 harg2 arg3 harg3 arg4 harg4 arg5 harg5 arg6 harg6 arg7 harg7 m7 u1 q X3 X7 (k0_pay35, k0_pay36, k0_pay37) ⟨2, by decide⟩
  rw [st_k0_t2_zero] at h0
  simp only [Nat.zero_add, Nat.reduceAdd] at h0 h1 h2
  rw [h0] at h1
  rw [h1] at h2
  refine Eq.trans ?_ (h2.trans ?_)
  · rfl
  · unfold tripR_k0_t2 trip_k0_t2
    rfl

theorem loop3 (u1 : FVec Ideal S512x128 .f32) :
    st_k0_t3 (F := Ideal) 𝒱 c bd i arg2 harg2 arg3 harg3 arg4 harg4 arg5 harg5 arg6 harg6 arg7 harg7 m7 u1 q X3 X7 (k0_pay67, k0_pay68, k0_pay69)
      (Scf.trips k0_t3_loop.lb k0_t3_loop.ub k0_t3_loop.st) = before q (kLoad arg7 X7) (vLoad arg3 X3 1) 2 := by
  have h0 := st_k0_t3_succ (F := Ideal) 𝒱 c bd i arg2 harg2 arg3 harg3 arg4 harg4 arg5 harg5 arg6 harg6 arg7 harg7 m7 u1 q X3 X7 (k0_pay67, k0_pay68, k0_pay69) ⟨0, by decide⟩
  have h1 := st_k0_t3_succ (F := Ideal) 𝒱 c bd i arg2 harg2 arg3 harg3 arg4 harg4 arg5 harg5 arg6 harg6 arg7 harg7 m7 u1 q X3 X7 (k0_pay67, k0_pay68, k0_pay69) ⟨1, by decide⟩
  rw [st_k0_t3_zero] at h0
  simp only [Nat.zero_add, Nat.reduceAdd] at h0 h1
  rw [h0] at h1
  refine Eq.trans ?_ (h1.trans ?_)
  · rfl
  · unfold tripR_k0_t3 trip_k0_t3
    rfl

theorem loop4 (u1 : FVec Ideal S512x128 .bf16) (u2 : FVec Ideal S512x512 .f32) (u3 : FVec Ideal S512x1 .f32) (u4 : FVec Ideal S512x128 .f32) :
    st_k0_t4 (F := Ideal) 𝒱 c bd i arg2 harg2 arg3 harg3 arg4 harg4 arg5 harg5 arg6 harg6 arg7 harg7 m7 u1 u2 u3 u4 q X3 X7 (k0_pay85, k0_pay86, k0_pay87)
      (Scf.trips k0_t4_loop.lb k0_t4_loop.ub k0_t4_loop.st) = before q (kLoad arg7 X7) (vLoad arg3 X3 1) 3 := by
  have h0 := st_k0_t4_succ (F := Ideal) 𝒱 c bd i arg2 harg2 arg3 harg3 arg4 harg4 arg5 harg5 arg6 harg6 arg7 harg7 m7 u1 u2 u3 u4 q X3 X7 (k0_pay85, k0_pay86, k0_pay87) ⟨0, by decide⟩
  have h1 := st_k0_t4_succ (F := Ideal) 𝒱 c bd i arg2 harg2 arg3 harg3 arg4 harg4 arg5 harg5 arg6 harg6 arg7 harg7 m7 u1 u2 u3 u4 q X3 X7 (k0_pay85, k0_pay86, k0_pay87) ⟨1, by decide⟩
  have h2 := st_k0_t4_succ (F := Ideal) 𝒱 c bd i arg2 harg2 arg3 harg3 arg4 harg4 arg5 harg5 arg6 harg6 arg7 harg7 m7 u1 u2 u3 u4 q X3 X7 (k0_pay85, k0_pay86, k0_pay87) ⟨2, by decide⟩
  rw [st_k0_t4_zero] at h0
  simp only [Nat.zero_add, Nat.reduceAdd] at h0 h1 h2
  rw [h0] at h1
  rw [h1] at h2
  refine Eq.trans ?_ (h2.trans ?_)
  · rfl
  · unfold tripR_k0_t4 trip_k0_t4
    rfl

/-- The scratch while head 0, then head 1, is computed: the head's keys beside the keys all heads share. -/
def scr0 (x1 : Vec Ideal S1x2048x512 .bf16) (x2 : Vec Ideal S1x2048x128 .bf16) : List (View.Piece (Elt Ideal) S2048x256 .bf16) :=
  [⟨Rect.unit ![0, 0] ![2048, 128] inb_S2048x256_S2048x128_0_0, k0_pay4 (View.readAt (Elt Ideal) arg3.view (Rect.unit ![0, 0, 0] ![1, 2048, 128] inb_S1x2048x512_S1x2048x128_0_0_0).toLoadRect (harg3.unread x1))⟩,
   ⟨Rect.unit ![0, 128] ![2048, 128] inb_S2048x256_S2048x128_0_128, k0_pay2 (View.readAt (Elt Ideal) arg4.view (Rect.unit ![0, 0, 0] ![1, 2048, 128] inb_S1x2048x128_S1x2048x128_0_0_0).toLoadRect (harg4.unread x2))⟩]
def scr1 (x1 : Vec Ideal S1x2048x512 .bf16) (x2 : Vec Ideal S1x2048x128 .bf16) : List (View.Piece (Elt Ideal) S2048x256 .bf16) :=
  ⟨Rect.unit ![0, 0] ![2048, 128] inb_S2048x256_S2048x128_0_0, k0_pay52 (View.readAt (Elt Ideal) arg3.view (Rect.unit ![0, 0, 256] ![1, 2048, 128] inb_S1x2048x512_S1x2048x128_0_0_256).toLoadRect (harg3.unread x1))⟩ ::
    scr0 arg3 harg3 arg4 harg4 x1 x2

/-- The piece a tile stores, its operands loaded from the point's blocks and from the scratch. -/
def piece (h n : ℕ) (x0 x1 : Vec Ideal S1x2048x512 .bf16) (x3 : Vec Ideal S1x2048x256 .bf16) (L : List (View.Piece (Elt Ideal) S2048x256 .bf16)) :
    View.Piece (Elt Ideal) S1x2048x256 .bf16 :=
  ⟨oRect h n, tile n (View.readAt (Elt Ideal) arg2.view (qRect h n).toLoadRect (harg2.unread x0)) (kLoad arg7 (arg7.view.writes (Elt Ideal) arg7.view.junk L))
    (vLoad arg3 (harg3.unread x1) h) (View.readAt (Elt Ideal) arg5.view (oRect h n).toLoadRect (harg5.unread x3))⟩

theorem body_pieces (x0 x1 : Vec Ideal S1x2048x512 .bf16) (x2 : Vec Ideal S1x2048x128 .bf16) (x3 : Vec Ideal S1x2048x256 .bf16) :
    (kernelRun0_A (F := Ideal) c i arg2 harg2 arg3 harg3 arg4 harg4 arg5 harg5 arg6 harg6 arg7 harg7 x0 x1 x2 x3).1
      = [piece arg2 harg2 arg3 harg3 arg5 harg5 arg7 1 3 x0 x1 x3 (scr1 arg3 harg3 arg4 harg4 x1 x2),
         piece arg2 harg2 arg3 harg3 arg5 harg5 arg7 1 2 x0 x1 x3 (scr1 arg3 harg3 arg4 harg4 x1 x2),
         piece arg2 harg2 arg3 harg3 arg5 harg5 arg7 1 1 x0 x1 x3 (scr1 arg3 harg3 arg4 harg4 x1 x2),
         piece arg2 harg2 arg3 harg3 arg5 harg5 arg7 1 0 x0 x1 x3 (scr1 arg3 harg3 arg4 harg4 x1 x2),
         piece arg2 harg2 arg3 harg3 arg5 harg5 arg7 0 3 x0 x1 x3 (scr0 arg3 harg3 arg4 harg4 x1 x2),
         piece arg2 harg2 arg3 harg3 arg5 harg5 arg7 0 2 x0 x1 x3 (scr0 arg3 harg3 arg4 harg4 x1 x2),
         piece arg2 harg2 arg3 harg3 arg5 harg5 arg7 0 1 x0 x1 x3 (scr0 arg3 harg3 arg4 harg4 x1 x2),
         piece arg2 harg2 arg3 harg3 arg5 harg5 arg7 0 0 x0 x1 x3 (scr0 arg3 harg3 arg4 harg4 x1 x2)] := by
  unfold kernelRun0_A
  dsimp only
  sl_unfold_words
  simp only [↓ loop1, ↓ loop2, ↓ loop3, ↓ loop4]
  rfl
end
end Cert.Att
end
-- ==== Proof.Block.lean ====
/- What one grid point of the attention kernel writes, entry by entry, for finite queries, keys and values. -/
module

public import proofs.«01_k».proof.Proof.Tiles
public import Idealize.ShloMosaic.Lib.WholeRead

@[expose] public section
set_option maxRecDepth 16384
noncomputable section
namespace Cert.Att
open Cert.KernelIdeal Cert.KernelIdeal.Gen Cert.Softmax Idealize.ShloMosaic Idealize.ShloMosaic.TcCoe Idealize.SL.Sem

/-- The keys of one head: its own 128 coordinates, then the 128 all heads share. -/
def headKey (k1 : Fin 2048 → Fin 512 → ℝ) (k2 : Fin 2048 → Fin 128 → ℝ) (h : ℕ) (k : Fin 2048) (e : Fin 256) : ℝ :=
  if he : e.val < 128 then k1 k ⟨256 * (h % 2) + e, by omega⟩ else k2 k ⟨e - 128, by omega⟩

section
variable (arg3 : Memref sig .tc .vmem S1x2048x512 .bf16) (harg3 : arg3.IsWhole) (arg4 : Memref sig .tc .vmem S1x2048x128 .bf16) (harg4 : arg4.IsWhole)
  (x1 : Vec Ideal S1x2048x512 .bf16) (x2 : Vec Ideal S1x2048x128 .bf16)

theorem low_emb (inb) (k : Fin 2048) (e : Fin 256) (he : e.val < 128) :
    (ix2 k e : S2048x256.Idx) = (Rect.unit (s := S2048x256) ![0, 0] ![2048, 128] inb).emb (ix2 k (⟨e, he⟩ : Fin 128)) := by
  funext a
  match a with
  | ⟨0, _⟩ => exact Fin.ext (show k.val = 0 + 1 * k.val by omega)
  | ⟨1, _⟩ => exact Fin.ext (show e.val = 0 + 1 * e.val by omega)

theorem high_emb (inb) (k : Fin 2048) (e : Fin 256) (he : ¬ e.val < 128) :
    (ix2 k e : S2048x256.Idx) = (Rect.unit (s := S2048x256) ![0, 128] ![2048, 128] inb).emb (ix2 k (⟨e - 128, by omega⟩ : Fin 128)) := by
  funext a
  match a with
  | ⟨0, _⟩ => exact Fin.ext (show k.val = 0 + 1 * k.val by omega)
  | ⟨1, _⟩ => exact Fin.ext (show e.val = 128 + 1 * (e.val - 128) by omega)

theorem high_not_low (inb) (k : Fin 2048) (e : Fin 256) (he : ¬ e.val < 128) :
    (ix2 k e : S2048x256.Idx) ∉ (Rect.unit (s := S2048x256) ![0, 0] ![2048, 128] inb).set := by
  rw [Rect.mem_set_unit]
  intro h
  have := (h 1).2
  exact he (by simpa using this)

theorem scr_low (inb) (w : S2048x128.Idx → Elt Ideal .bf16) (L : List (View.Piece (Elt Ideal) S2048x256 .bf16)) (k : Fin 2048) (e : Fin 256) (he : e.val < 128) :
    View.canon (⟨Rect.unit ![0, 0] ![2048, 128] inb, w⟩ :: L) (ix2 k e) = w (ix2 k ⟨e, he⟩) := by
  rw [low_emb inb k e he]
  exact View.canon_cons_emb _ _ _ _

theorem scr_skip (inb) (w : S2048x128.Idx → Elt Ideal .bf16) (L : List (View.Piece (Elt Ideal) S2048x256 .bf16)) (k : Fin 2048) (e : Fin 256) (he : ¬ e.val < 128) :
    View.canon (⟨Rect.unit ![0, 0] ![2048, 128] inb, w⟩ :: L) (ix2 k e) = View.canon L (ix2 k e) :=
  View.canon_cons_of_not_mem (⟨Rect.unit ![0, 0] ![2048, 128] inb, w⟩ : View.Piece (Elt Ideal) S2048x256 .bf16) L (high_not_low inb k e he)

theorem scr_high (inb inb') (w w' : S2048x128.Idx → Elt Ideal .bf16) (k : Fin 2048) (e : Fin 256) (he : ¬ e.val < 128) :
    View.canon [⟨Rect.unit ![0, 0] ![2048, 128] inb, w⟩, (⟨Rect.unit ![0, 128] ![2048, 128] inb', w'⟩ : View.Piece (Elt Ideal) S2048x256 .bf16)] (ix2 k e)
      = w' (ix2 k ⟨e - 128, by omega⟩) := by
  rw [scr_skip, high_emb inb' k e he]
  on_goal 2 => exact he
  exact View.canon_cons_emb _ _ _ _

theorem nope_apply (o : ℕ) (ho : o + 128 ≤ 512) (inb) (k : Fin 2048) (e : Fin 128) :
    k0_pay4 (F := Ideal) (View.readAt (Elt Ideal) arg3.view (Rect.unit (s := S1x2048x512) ![0, 0, o] ![1, 2048, 128] inb).toLoadRect (harg3.unread x1)) (ix2 k e)
      = x1 (ix3 0 k ⟨o + e, by omega⟩) := by
  pointwise [k0_pay4]
  rw [harg3.readAt_unread]
  congr 1
  funext a
  match a with
  | ⟨0, _⟩ => rfl
  | ⟨1, _⟩ => exact Fin.ext (show 0 + 1 * k.val = k.val by omega)
  | ⟨2, _⟩ => exact Fin.ext (show o + 1 * e.val = o + e.val by omega)

theorem rope_apply (inb) (k : Fin 2048) (e : Fin 128) :
    k0_pay2 (F := Ideal) (View.readAt (Elt Ideal) arg4.view (Rect.unit (s := S1x2048x128) ![0, 0, 0] ![1, 2048, 128] inb).toLoadRect (harg4.unread x2)) (ix2 k e)
      = x2 (ix3 0 k e) := by
  pointwise [k0_pay2]
  rw [harg4.readAt_unread]
  congr 1
  funext a
  match a with
  | ⟨0, _⟩ => rfl
  | ⟨1, _⟩ => exact Fin.ext (show 0 + 1 * k.val = k.val by omega)
  | ⟨2, _⟩ => exact Fin.ext (show 0 + 1 * e.val = e.val by omega)

/-- The scratch of head `h`. -/
def scr (h : ℕ) : List (View.Piece (Elt Ideal) S2048x256 .bf16) :=
  if h % 2 = 0 then scr0 arg3 harg3 arg4 harg4 x1 x2 else scr1 arg3 harg3 arg4 harg4 x1 x2

theorem scr_apply {k1 : Fin 2048 → Fin 512 → ℝ} {k2 : Fin 2048 → Fin 128 → ℝ} (h1 : ∀ k e, x1 (ix3 0 k e) = (k1 k e : EReal))
    (h2 : ∀ k e, x2 (ix3 0 k e) = (k2 k e : EReal)) (h : ℕ) (k : Fin 2048) (e : Fin 256) :
    View.canon (scr arg3 harg3 arg4 harg4 x1 x2 h) (ix2 k e) = (headKey k1 k2 h k e : EReal) := by
  by_cases he : e.val < 128
  · rw [headKey, dif_pos he, ← h1]
    unfold scr
    split
    · rename_i hh
      simp only [hh]
      exact (scr_low _ _ _ k e he).trans (nope_apply arg3 harg3 x1 0 (by omega) _ k ⟨e, he⟩)
    · rename_i hh
      have hh : h % 2 = 1 := by omega
      simp only [hh]
      exact (scr_low _ _ _ k e he).trans (nope_apply arg3 harg3 x1 256 (by omega) _ k ⟨e, he⟩)
  · rw [headKey, dif_neg he, ← h2]
    have h0 := (scr_high inb_S2048x256_S2048x128_0_0 inb_S2048x256_S2048x128_0_128
        (k0_pay4 (View.readAt (Elt Ideal) arg3.view (Rect.unit ![0, 0, 0] ![1, 2048, 128] inb_S1x2048x512_S1x2048x128_0_0_0).toLoadRect (harg3.unread x1))) _ k e he).trans
      (rope_apply arg4 harg4 x2 inb_S1x2048x128_S1x2048x128_0_0_0 k ⟨e - 128, by omega⟩)
    unfold scr
    split
    · exact h0
    · exact (scr_skip _ _ _ k e he).trans h0
end

/-- One entry of what a point writes: the attention of its head over the keys up to the query, times the gate. -/
def entry (q k1 : Fin 2048 → Fin 512 → ℝ) (k2 : Fin 2048 → Fin 128 → ℝ) (i : Fin 2048) (h : ℕ) (d : Fin 128) : ℝ :=
  mean (dotp (fun e => q i ⟨256 * (h % 2) + e, by omega⟩) (headKey k1 k2 h)) (fun k (d : Fin 128) => k1 k ⟨256 * (h % 2) + 128 + d, by omega⟩)
    (Finset.univ.filter fun k : Fin 2048 => k.val ≤ i.val) d

section
variable (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S2048x256 .bf16) (harg7 : arg7.IsWhole)
  (x0 x1 : Vec Ideal S1x2048x512 .bf16) (x2 : Vec Ideal S1x2048x128 .bf16) (x3 : Vec Ideal S1x2048x256 .bf16)
  {q k1 : Fin 2048 → Fin 512 → ℝ} {k2 : Fin 2048 → Fin 128 → ℝ}
  (h0 : ∀ k e, x0 (ix3 0 k e) = (q k e : EReal)) (h1 : ∀ k e, x1 (ix3 0 k e) = (k1 k e : EReal)) (h2 : ∀ k e, x2 (ix3 0 k e) = (k2 k e : EReal))

/-- What a point's block holds. -/
def blockVal (q k1 : Fin 2048 → Fin 512 → ℝ) (k2 : Fin 2048 → Fin 128 → ℝ) (x3 : Vec Ideal S1x2048x256 .bf16) : S1x2048x256.Idx → Elt Ideal .bf16 :=
  fun y => ((entry q k1 k2 (y 1) ((y 2).val / 128) ⟨(y 2).val % 128, Nat.mod_lt _ (by omega)⟩ : ℝ) : EReal) * x3 y

include h0 h1 h2 in
theorem piece_apply (h n : ℕ) (hh : h < 2) (hn : n < 4) (x : (oRect h n).shape.Idx) :
    (piece arg2 harg2 arg3 harg3 arg5 harg5 arg7 h n x0 x1 x3 (scr arg3 harg3 arg4 harg4 x1 x2 h)).2 x = blockVal q k1 k2 x3 ((oRect h n).emb x) := by
  obtain ⟨z, r, d, rfl⟩ : ∃ (z : Fin 1) (r : Fin 512) (d : Fin 128), x = ix3 z r d := ⟨x 0, x 1, x 2, eq_ix3 x⟩
  obtain rfl : z = 0 := Subsingleton.elim _ _
  have hn' : n % 4 = n := Nat.mod_eq_of_lt hn
  have hh' : h % 2 = h := Nat.mod_eq_of_lt hh
  have hemb : (oRect h n).emb (ix3 0 r d) = ix3 0 ⟨512 * n + r, by omega⟩ ⟨128 * h + d, by omega⟩ := by
    funext a
    match a with
    | ⟨0, _⟩ => rfl
    | ⟨1, _⟩ => exact Fin.ext (show 512 * (n % 4) + 1 * r.val = 512 * n + r.val by omega)
    | ⟨2, _⟩ => exact Fin.ext (show 128 * (h % 2) + 1 * d.val = 128 * h + d.val by omega)
  have ht := tile_apply (q := View.readAt (Elt Ideal) arg2.view (qRect h n).toLoadRect (harg2.unread x0))
    (kk := kLoad arg7 (arg7.view.writes (Elt Ideal) arg7.view.junk (scr arg3 harg3 arg4 harg4 x1 x2 h))) (v := vLoad arg3 (harg3.unread x1) h) (r := r)
    (qr := fun e => q ⟨512 * n + r, by omega⟩ ⟨256 * (h % 2) + e, by omega⟩) (kr := headKey k1 k2 h) (w := fun k d => k1 k ⟨256 * (h % 2) + 128 + d, by omega⟩)
    (fun e => by
      refine (harg2.readAt_unread _ _ _).trans ?_
      rw [← h0]
      congr 1
      funext a
      match a with
      | ⟨0, _⟩ => rfl
      | ⟨1, _⟩ => exact Fin.ext (show 512 * (n % 4) + 1 * r.val = 512 * n + r.val by omega)
      | ⟨2, _⟩ => exact Fin.ext (show 256 * (h % 2) + 1 * e.val = 256 * (h % 2) + e.val by omega))
    (fun j k e => by
      rw [kLoad, View.readAt_writes_junk_eq_canon, ← scr_apply arg3 harg3 arg4 harg4 x1 x2 h1 h2]
      show View.canon _ _ = _
      congr 1
      funext a
      match a with
      | ⟨0, _⟩ => exact Fin.ext (show 512 * (j % 4) + 1 * k.val = 512 * (j % 4) + k.val by omega)
      | ⟨1, _⟩ => exact Fin.ext (show 0 + 1 * e.val = e.val by omega))
    (fun j k d => by
      refine (harg3.readAt_unread _ _ _).trans ?_
      rw [← h1]
      congr 1
      funext a
      match a with
      | ⟨0, _⟩ => rfl
      | ⟨1, _⟩ => exact Fin.ext (show 512 * (j % 4) + 1 * k.val = 512 * (j % 4) + k.val by omega)
      | ⟨2, _⟩ => exact Fin.ext (show 256 * (h % 2) + 128 + 1 * d.val = 256 * (h % 2) + 128 + d.val by omega))
    n hn (View.readAt (Elt Ideal) arg5.view (oRect h n).toLoadRect (harg5.unread x3)) d
  have e1 : (128 * h + d.val) / 128 = h := by omega
  have e2 : (⟨(128 * h + d.val) % 128, Nat.mod_lt _ (by omega)⟩ : Fin 128) = d := Fin.ext (show (128 * h + d.val) % 128 = d.val by omega)
  have eb : blockVal q k1 k2 x3 ((oRect h n).emb (ix3 0 r d))
      = ((entry q k1 k2 ⟨512 * n + r, by omega⟩ h d : ℝ) : EReal) * x3 ((oRect h n).emb (ix3 0 r d)) := by
    rw [hemb]
    show ((entry q k1 k2 ⟨512 * n + r, _⟩ ((128 * h + d.val) / 128) ⟨(128 * h + d.val) % 128, _⟩ : ℝ) : EReal) * _ = _
    rw [e1, e2]
  rw [eb]
  refine ht.trans ?_
  exact congrArg (fun z : EReal => ((entry q k1 k2 ⟨512 * n + r, by omega⟩ h d : ℝ) : EReal) * z) (harg5.readAt_unread x3 _ _)

include h0 h1 h2 in
theorem out_apply (y : S1x2048x256.Idx) :
    out0_A_4 (F := Ideal) c i arg2 harg2 arg3 harg3 arg4 harg4 arg5 harg5 arg6 harg6 arg7 harg7 x0 x1 x2 x3 y = blockVal q k1 k2 x3 y := by
  unfold out0_A_4
  rw [View.read_writes_junk_eq_canon]
  refine View.canon_apply_of_pieces (blockVal q k1 k2 x3) _ ?_ y (cover0_A_4 c i arg2 harg2 arg3 harg3 arg4 harg4 arg5 harg5 arg6 harg6 arg7 harg7 x0 x1 x2 x3 y)
  rw [body_pieces]
  have key := piece_apply arg2 harg2 arg3 harg3 arg4 harg4 arg5 harg5 arg7 x0 x1 x2 x3 h0 h1 h2
  intro p hp
  simp only [List.mem_cons, List.not_mem_nil, or_false] at hp
  rcases hp with rfl | rfl | rfl | rfl | rfl | rfl | rfl | rfl
  · exact key 1 3 (by omega) (by omega)
  · exact key 1 2 (by omega) (by omega)
  · exact key 1 1 (by omega) (by omega)
  · exact key 1 0 (by omega) (by omega)
  · exact key 0 3 (by omega) (by omega)
  · exact key 0 2 (by omega) (by omega)
  · exact key 0 1 (by omega) (by omega)
  · exact key 0 0 (by omega) (by omega)
end
end Cert.Att
end
-- ==== Proof.Target.lean ====
/- The attention's result as one formula: what both programs are shown to leave in the result array. -/
module

public import proofs.«01_k».proof.Proof.Block

@[expose] public section
noncomputable section
namespace Cert.Att
open Cert.Softmax Idealize.ShloMosaic Idealize.SL.Sem

/-- Head `h`'s query of row `i`: its 256 columns of the query array. -/
def query (q : Fin 4 → Fin 2048 → Fin 8192 → ℝ) (b : Fin 4) (h : Fin 32) (i : Fin 2048) (e : Fin 256) : ℝ :=
  q b i ⟨256 * h.val + e.val, by omega⟩

/-- Head `h`'s key: 128 columns of its own, then the 128 columns all heads share. -/
def keyOf (kv : Fin 4 → Fin 2048 → Fin 8192 → ℝ) (kr : Fin 4 → Fin 2048 → Fin 128 → ℝ) (b : Fin 4) (h : Fin 32) (k : Fin 2048)
    (e : Fin 256) : ℝ :=
  if he : e.val < 128 then kv b k ⟨256 * h.val + e.val, by omega⟩ else kr b k ⟨e.val - 128, by omega⟩

/-- Head `h`'s value: the second 128 of its 256 columns. -/
def valueOf (kv : Fin 4 → Fin 2048 → Fin 8192 → ℝ) (b : Fin 4) (h : Fin 32) (k : Fin 2048) (d : Fin 128) : ℝ :=
  kv b k ⟨256 * h.val + 128 + d.val, by omega⟩

/-- Causal attention: the mean of the values of the keys up to row `i`, weighted by the exponentials of the scores. -/
def attn (q : Fin 4 → Fin 2048 → Fin 8192 → ℝ) (kv : Fin 4 → Fin 2048 → Fin 8192 → ℝ) (kr : Fin 4 → Fin 2048 → Fin 128 → ℝ)
    (b : Fin 4) (i : Fin 2048) (h : Fin 32) (d : Fin 128) : ℝ :=
  mean (dotp (query q b h i) (keyOf kv kr b h)) (valueOf kv b h) (Finset.univ.filter fun k => k.val ≤ i.val) d

/-- The gated result array: head `h`'s 128 columns lie from column `128 * h`. -/
def result (q kv : Fin 4 → Fin 2048 → Fin 8192 → ℝ) (kr : Fin 4 → Fin 2048 → Fin 128 → ℝ)
    (g : Cert.KernelIdeal.S4x2048x4096.Idx → EReal) (y : Cert.KernelIdeal.S4x2048x4096.Idx) : EReal :=
  ((attn q kv kr (y 0) (y 1) ⟨(y 2).val / 128, by have : (y 2).val < 4096 := (y 2).isLt; omega⟩
    ⟨(y 2).val % 128, Nat.mod_lt _ (by omega)⟩ : ℝ) : EReal) * g y

end Cert.Att
end
-- ==== Proof.Array.lean ====
/- From the blocks of the 64 grid points to the whole result array of the attention kernel. -/
module

public import proofs.«01_k».proof.Proof.Target
public import proofs.«01_k».proof.Proof.Gen.KernelIdeal.Value

@[expose] public section
set_option maxRecDepth 16384
noncomputable section
namespace Cert.Att
open Cert.KernelIdeal Cert.KernelIdeal.Gen Cert.Softmax Idealize.ShloMosaic Idealize.ShloMosaic.TcCoe Idealize.SL.Sem
open Idealize.ShloMosaic.Pipeline (Dat Window)

/-- Point `t` is batch row `t / 16` and pair of heads `t % 16`: where its blocks lie. -/
theorem places : ∀ t : Fin grid0.N,
    (win0_0.index t 0 = t.val / 16 ∧ win0_0.index t 1 = 0 ∧ win0_0.index t 2 = t.val % 16)
    ∧ (win0_1.index t 0 = t.val / 16 ∧ win0_1.index t 1 = 0 ∧ win0_1.index t 2 = t.val % 16)
    ∧ (win0_2.index t 0 = t.val / 16 ∧ win0_2.index t 1 = 0 ∧ win0_2.index t 2 = 0)
    ∧ (win0_3.index t 0 = t.val / 16 ∧ win0_3.index t 1 = 0 ∧ win0_3.index t 2 = t.val % 16)
    ∧ (win0_4.index t 0 = t.val / 16 ∧ win0_4.index t 1 = 0 ∧ win0_4.index t 2 = t.val % 16) := by
  decide +kernel

theorem extents : ∀ t : Fin grid0.N, win0_4.xsize (grid0.coords t) 0 = 1 ∧ win0_4.xsize (grid0.coords t) 1 = 2048
    ∧ win0_4.xsize (grid0.coords t) 2 = 256 := by
  decide +kernel

/-- An index of the result lies in point `t`'s block exactly when its batch row and its pair of heads are `t`'s. -/
theorem mem_blk (t : Fin cfg0.N) (i : S4x2048x4096.Idx) :
    i ∈ ((cfg0.win 4).blk t).view.set ↔ (i 0).val = t.val / 16 ∧ (i 2).val / 256 = t.val % 16 := by
  show i ∈ ((View.whole main_v0).slice (win0_4.rect t)).set ↔ _
  rw [View.set_slice_whole, Rect.mem_set_unit]
  obtain ⟨-, -, -, -, p0, p1, p2⟩ := places t
  obtain ⟨e0, e1, e2⟩ := extents t
  have h1 : (i 1).val < 2048 := (i 1).isLt
  have s0 : win0_4.size 0 = 1 := rfl
  have s1 : win0_4.size 1 = 2048 := rfl
  have s2 : win0_4.size 2 = 256 := rfl
  have key : (∀ a : Fin 3, win0_4.index t a * win0_4.size a ≤ (i a).val ∧ (i a).val < win0_4.index t a * win0_4.size a + win0_4.xsize (grid0.coords t) a)
      ↔ (i 0).val = t.val / 16 ∧ (i 2).val / 256 = t.val % 16 := by
    constructor
    · intro h
      have a0 := h 0
      have a2 := h 2
      rw [p0, s0, e0] at a0
      rw [p2, s2, e2] at a2
      omega
    · rintro ⟨h0, h2⟩ a
      match a with
      | ⟨0, _⟩ => show win0_4.index t 0 * win0_4.size 0 ≤ (i 0).val ∧ (i 0).val < win0_4.index t 0 * win0_4.size 0 + win0_4.xsize (grid0.coords t) 0
                  rw [p0, s0, e0]; omega
      | ⟨1, _⟩ => show win0_4.index t 1 * win0_4.size 1 ≤ (i 1).val ∧ (i 1).val < win0_4.index t 1 * win0_4.size 1 + win0_4.xsize (grid0.coords t) 1
                  rw [p1, s1, e1]; omega
      | ⟨2, _⟩ => show win0_4.index t 2 * win0_4.size 2 ≤ (i 2).val ∧ (i 2).val < win0_4.index t 2 * win0_4.size 2 + win0_4.xsize (grid0.coords t) 2
                  rw [p2, s2, e2]; omega
  exact key

theorem cover (i : S4x2048x4096.Idx) : ∃ t : Fin cfg0.N, (cfg0.win 4).flush t = true ∧ i ∈ ((cfg0.win 4).blk t).view.set := by
  have h0 : (i 0).val < 4 := (i 0).isLt
  have h2 : (i 2).val < 4096 := (i 2).isLt
  have hN : cfg0.N = 64 := N_0
  refine ⟨⟨16 * (i 0).val + (i 2).val / 256, by omega⟩, flush0_4 _, ?_⟩
  rw [mem_blk]
  dsimp only
  omega

section
variable (m : (ℓ : Loc nD τ sig) → Buf (Elt Ideal) ℓ) (c : Dev nD)
  {q kv : Fin 4 → Fin 2048 → Fin 8192 → ℝ} {kr : Fin 4 → Fin 2048 → Fin 128 → ℝ}
  (hq : ∀ b i e, m ((c : Thread nD τ).loc main_arg0) (ix3 b i e) = ((q b i e : ℝ) : EReal))
  (hkv : ∀ b i e, m ((c : Thread nD τ).loc main_arg1) (ix3 b i e) = ((kv b i e : ℝ) : EReal))
  (hkr : ∀ b i e, m ((c : Thread nD τ).loc main_arg2) (ix3 b i e) = ((kr b i e : ℝ) : EReal))

/-- Point `t`'s part of the batch and of the columns. -/
def bat (t : Fin cfg0.N) : Fin 4 := ⟨t.val / 16, by have h : t.val < cfg0.N := t.isLt; have hN : cfg0.N = 64 := N_0; omega⟩
def wide (t : Fin cfg0.N) (e : Fin 512) : Fin 8192 := ⟨512 * (t.val % 16) + e.val, by omega⟩

include hq in
theorem block_q (t : Fin cfg0.N) (i : Fin 2048) (e : Fin 512) : iblk m c 0 t (ix3 0 i e) = ((q (bat t) i (wide t e) : ℝ) : EReal) := by
  rw [← hq]
  show V m c main_arg0 ((win0_0.rect t).emb (ix3 0 i e)) = _
  rw [V_main_arg0]
  obtain ⟨⟨p0, p1, p2⟩, -⟩ := places t
  congr 1
  funext a
  match a with
  | ⟨0, _⟩ => exact Fin.ext ((win0_0.rect_emb_val t (ix3 0 i e) 0).trans (by rw [p0]; show t.val / 16 * 1 + 0 = t.val / 16; omega))
  | ⟨1, _⟩ => exact Fin.ext ((win0_0.rect_emb_val t (ix3 0 i e) 1).trans (by rw [p1]; show 0 * 2048 + i.val = i.val; omega))
  | ⟨2, _⟩ => exact Fin.ext ((win0_0.rect_emb_val t (ix3 0 i e) 2).trans (by rw [p2]; show t.val % 16 * 512 + e.val = 512 * (t.val % 16) + e.val; omega))

include hkv in
theorem block_kv (t : Fin cfg0.N) (i : Fin 2048) (e : Fin 512) : iblk m c 1 t (ix3 0 i e) = ((kv (bat t) i (wide t e) : ℝ) : EReal) := by
  rw [← hkv]
  show V m c main_arg1 ((win0_1.rect t).emb (ix3 0 i e)) = _
  rw [V_main_arg1]
  obtain ⟨-, ⟨p0, p1, p2⟩, -⟩ := places t
  congr 1
  funext a
  match a with
  | ⟨0, _⟩ => exact Fin.ext ((win0_1.rect_emb_val t (ix3 0 i e) 0).trans (by rw [p0]; show t.val / 16 * 1 + 0 = t.val / 16; omega))
  | ⟨1, _⟩ => exact Fin.ext ((win0_1.rect_emb_val t (ix3 0 i e) 1).trans (by rw [p1]; show 0 * 2048 + i.val = i.val; omega))
  | ⟨2, _⟩ => exact Fin.ext ((win0_1.rect_emb_val t (ix3 0 i e) 2).trans (by rw [p2]; show t.val % 16 * 512 + e.val = 512 * (t.val % 16) + e.val; omega))

include hkr in
theorem block_kr (t : Fin cfg0.N) (i : Fin 2048) (e : Fin 128) : iblk m c 2 t (ix3 0 i e) = ((kr (bat t) i e : ℝ) : EReal) := by
  rw [← hkr]
  show V m c main_arg2 ((win0_2.rect t).emb (ix3 0 i e)) = _
  rw [V_main_arg2]
  obtain ⟨-, -, ⟨p0, p1, p2⟩, -⟩ := places t
  congr 1
  funext a
  match a with
  | ⟨0, _⟩ => exact Fin.ext ((win0_2.rect_emb_val t (ix3 0 i e) 0).trans (by rw [p0]; show t.val / 16 * 1 + 0 = t.val / 16; omega))
  | ⟨1, _⟩ => exact Fin.ext ((win0_2.rect_emb_val t (ix3 0 i e) 1).trans (by rw [p1]; show 0 * 2048 + i.val = i.val; omega))
  | ⟨2, _⟩ => exact Fin.ext ((win0_2.rect_emb_val t (ix3 0 i e) 2).trans (by rw [p2]; show 0 * 128 + e.val = e.val; omega))

/-- The two heads of a block are heads `2 * (t % 16)` and `2 * (t % 16) + 1` of the array. -/
theorem entry_eq (t : Fin cfg0.N) (i : Fin 2048) (h : ℕ) (hh : h < 2) (d : Fin 128) :
    entry (fun i e => q (bat t) i (wide t e)) (fun i e => kv (bat t) i (wide t e)) (fun i e => kr (bat t) i e) i h d
      = attn q kv kr (bat t) i ⟨2 * (t.val % 16) + h, by omega⟩ d := by
  have hm : h % 2 = h := by omega
  have eq : (fun e : Fin 256 => q (bat t) i (wide t ⟨256 * (h % 2) + e.val, by omega⟩)) = query q (bat t) ⟨2 * (t.val % 16) + h, by omega⟩ i := by
    funext e
    exact congrArg (q (bat t) i) (Fin.ext (show 512 * (t.val % 16) + (256 * (h % 2) + e.val) = 256 * (2 * (t.val % 16) + h) + e.val by omega))
  have ek : headKey (fun i e => kv (bat t) i (wide t e)) (fun i e => kr (bat t) i e) h = keyOf kv kr (bat t) ⟨2 * (t.val % 16) + h, by omega⟩ := by
    funext k e
    unfold headKey keyOf
    split
    · exact congrArg (kv (bat t) k) (Fin.ext (show 512 * (t.val % 16) + (256 * (h % 2) + e.val) = 256 * (2 * (t.val % 16) + h) + e.val by omega))
    · rfl
  have ev : (fun (k : Fin 2048) (d : Fin 128) => kv (bat t) k (wide t ⟨256 * (h % 2) + 128 + d.val, by omega⟩))
      = valueOf kv (bat t) ⟨2 * (t.val % 16) + h, by omega⟩ := by
    funext k d
    exact congrArg (kv (bat t) k) (Fin.ext (show 512 * (t.val % 16) + (256 * (h % 2) + 128 + d.val) = 256 * (2 * (t.val % 16) + h) + 128 + d.val by omega))
  unfold entry attn
  rw [eq, ek, ev]

include hq hkv hkr in
/-- What point `t` writes back is its block of the one result array. -/
theorem flushed_eq (t : Fin cfg0.N) :
    (dats m 0 c).flushed 4 t = (win0_4.blk t).view.read (Elt Ideal) (result q kv kr (m ((c : Thread nD τ).loc main_arg3))) := by
  rw [Value.flushed4_A]
  funext y
  change S1x2048x256.Idx at y
  show out0_A_4 (F := Ideal) c (grid0.coords t) _ _ _ _ _ _ _ _ _ _ _ _ (iblk m c 0 t) (iblk m c 1 t) (iblk m c 2 t) (iblk m c 3 t) y
    = result q kv kr (m ((c : Thread nD τ).loc main_arg3)) ((win0_4.rect t).emb y)
  rw [out_apply c (grid0.coords t) _ _ _ _ _ _ _ _ _ _ _ _ _ _ _ _ (block_q m c hq t) (block_kv m c hkv t) (block_kr m c hkr t) y]
  obtain ⟨-, -, -, ⟨g0, g1, g2⟩, p0, p1, p2⟩ := places t
  have y0 : (y 0).val < 1 := (y 0).isLt
  have y1 : (y 1).val < 2048 := (y 1).isLt
  have y2 : (y 2).val < 256 := (y 2).isLt
  have e0 : ((win0_4.rect t).emb y) 0 = bat t :=
    Fin.ext ((win0_4.rect_emb_val t y 0).trans (by rw [p0]; show t.val / 16 * 1 + (y 0).val = t.val / 16; omega))
  have e1 : ((win0_4.rect t).emb y) 1 = y 1 :=
    Fin.ext ((win0_4.rect_emb_val t y 1).trans (by rw [p1]; show 0 * 2048 + (y 1).val = (y 1).val; omega))
  have e2 : (((win0_4.rect t).emb y) 2).val = 256 * (t.val % 16) + (y 2).val :=
    (win0_4.rect_emb_val t y 2).trans (by rw [p2]; show t.val % 16 * 256 + (y 2).val = _; omega)
  have eg : iblk m c 3 t y = m ((c : Thread nD τ).loc main_arg3) ((win0_4.rect t).emb y) := by
    show V m c main_arg3 ((win0_3.rect t).emb y) = _
    rw [V_main_arg3]
    rfl
  have ee : ((entry (fun i e => q (bat t) i (wide t e)) (fun i e => kv (bat t) i (wide t e)) (fun i e => kr (bat t) i e) (y 1) ((y 2).val / 128)
      ⟨(y 2).val % 128, Nat.mod_lt _ (by omega)⟩ : ℝ)) = attn q kv kr (((win0_4.rect t).emb y) 0) (((win0_4.rect t).emb y) 1)
        ⟨(((win0_4.rect t).emb y) 2).val / 128, by rw [e2]; omega⟩ ⟨(((win0_4.rect t).emb y) 2).val % 128, Nat.mod_lt _ (by omega)⟩ := by
    refine (entry_eq t (y 1) ((y 2).val / 128) (by omega) _).trans ?_
    congr 1
    · exact e0.symm
    · exact e1.symm
    · exact Fin.ext (by show 2 * (t.val % 16) + (y 2).val / 128 = (((win0_4.rect t).emb y) 2).val / 128; rw [e2]; omega)
    · exact Fin.ext (by show (y 2).val % 128 = (((win0_4.rect t).emb y) 2).val % 128; rw [e2]; omega)
  unfold blockVal result
  rw [ee, eg]

include hq hkv hkr in
theorem final : (dats m 0 c).arrAt 4 cfg0.N = result q kv kr (m ((c : Thread nD τ).loc main_arg3)) :=
  (dats m 0 c).arrAt_eq_of_cover 4 (result q kv kr (m ((c : Thread nD τ).loc main_arg3))) (fun t _ => flushed_eq m c hq hkv hkr t) cover
end
end Cert.Att
end
-- ==== Proof.RefValue.lean ====
/- The reference's result, read at an index: the same causal attention. -/
module

public import proofs.«01_k».proof.Proof.Target
public import proofs.«01_k».proof.Proof.Gen.ReferenceIdeal.Read

@[expose] public section
set_option maxRecDepth 16384
noncomputable section
namespace Cert.Att.Ref
open Cert.ReferenceIdeal Cert.ReferenceIdeal.Gen Cert.ReferenceIdeal.Read Cert.Softmax Idealize.ShloMosaic Idealize.SL.Sem

/-- A softmax over all keys, masked ones at `-∞`, after any real shift, against the values: the mean over the unmasked. -/
theorem softmax_mean {n : ℕ} (s : Fin n → ℝ) (v : Fin n → ℝ) (p : Fin n → Prop) [DecidablePred p] (hp : ∃ k, p k) (M : ℝ)
    (e l : EReal) (z : Fin n → EReal) (hz : ∀ k, z k = Ideal.exp ((if p k then (s k : EReal) else ⊥) - (M : EReal)))
    (hl : l = 0 + ∑ k, z k) (he : e = ∑ k, (v k : EReal) * Ideal.div (z k) l) :
    e = ((mean (δ := Unit) s (fun k _ => v k) (Finset.univ.filter p) () : ℝ) : EReal) := by
  have hz' : ∀ k, z k = ((if p k then Real.exp (s k - M) else 0 : ℝ) : EReal) := fun k => by rw [hz, weight]
  have hL : l = ((∑ k ∈ Finset.univ.filter p, Real.exp (s k - M) : ℝ) : EReal) := by
    rw [hl, zero_add, Finset.sum_filter, ← coe_sum]
    exact Finset.sum_congr rfl fun k _ => hz' k
  have hpos : 0 < ∑ k ∈ Finset.univ.filter p, Real.exp (s k - M) := by
    obtain ⟨k, hk⟩ := hp
    exact sum_exp_pos s ⟨k, Finset.mem_filter.mpr ⟨Finset.mem_univ k, hk⟩⟩ M
  rw [he, ← mean_shift s _ _ M, Finset.sum_div, Finset.sum_filter, ← coe_sum]
  refine Finset.sum_congr rfl fun k _ => ?_
  rw [hz' k, hL, div_coe hpos.ne', ← EReal.coe_mul]
  congr 1
  split
  · ring
  · simp

section
variable {q kv : Fin 4 → Fin 2048 → Fin 8192 → ℝ} {kr : Fin 4 → Fin 2048 → Fin 128 → ℝ}
  (x0 x1 : (⟨S4x2048x8192, .bf16⟩ : BufTy).Contents (Elt Ideal)) (x2 : (⟨S4x2048x128, .bf16⟩ : BufTy).Contents (Elt Ideal))
  (x3 : (⟨S4x2048x4096, .bf16⟩ : BufTy).Contents (Elt Ideal))
  (h0 : ∀ b i e, x0 (ix3 b i e) = ((q b i e : ℝ) : EReal)) (h1 : ∀ b i e, x1 (ix3 b i e) = ((kv b i e : ℝ) : EReal))
  (h2 : ∀ b i e, x2 (ix3 b i e) = ((kr b i e : ℝ) : EReal))
  (b : Fin 4) (h : Fin 32) (i : Fin 2048)

include h0 in
theorem v4 (e : Fin 256) : val_main_v4 (F := Ideal) x0 (ix4 b i h e) = ((query q b h i e : ℝ) : EReal) := by
  rw [val_main_v4_apply, query, ← h0]
  show x0 _ = x0 _
  congr 1
  funext a
  match a with
  | ⟨0, _⟩ => exact Fin.ext (show (((b.val * 2048 + i.val) * 32 + h.val) * 256 + e.val) / 16777216 = b.val by omega)
  | ⟨1, _⟩ => exact Fin.ext (show (((b.val * 2048 + i.val) * 32 + h.val) * 256 + e.val) / 8192 % 2048 = i.val by omega)
  | ⟨2, _⟩ => exact Fin.ext (show (((b.val * 2048 + i.val) * 32 + h.val) * 256 + e.val) % 8192 = 256 * h.val + e.val by omega)

include h1 in
theorem v5 (e : Fin 256) : val_main_v5 (F := Ideal) x1 (ix4 b i h e) = ((query kv b h i e : ℝ) : EReal) := v4 x1 h1 b h i e

include h0 h1 h2 in
theorem score (k : Fin 2048) :
    val_main_v12 (F := Ideal) x0 x1 x2 (ix4 b h i k) = ((dotp (query q b h i) (keyOf kv kr b h) k : ℝ) : EReal) := by
  have hs : dotp (query q b h i) (keyOf kv kr b h) k
      = (∑ e : Fin 128, query q b h i ⟨e.val, by omega⟩ * query kv b h k ⟨e.val, by omega⟩)
        + ∑ e : Fin 128, kr b k e * query q b h i ⟨128 + e.val, by omega⟩ := by
    unfold dotp
    refine (Fin.sum_univ_add (a := 128) (b := 128) _).trans (congrArg₂ (fun u w : ℝ => u + w) ?_ ?_)
    · refine Finset.sum_congr rfl fun e _ => ?_
      unfold keyOf
      rw [dif_pos (show (Fin.castAdd 128 e).val < 128 from e.isLt)]
      rfl
    · refine Finset.sum_congr rfl fun e _ => ?_
      unfold keyOf
      rw [dif_neg (show ¬ (Fin.natAdd 128 e).val < 128 by show ¬ 128 + e.val < 128; omega), mul_comm]
      exact congrArg (fun w : ℝ => w * query q b h i (Fin.natAdd 128 e)) (congrArg (kr b k) (Fin.ext (show 128 + e.val - 128 = e.val by omega)))
  rw [val_main_v12_apply, val_main_v8_apply, val_main_v11_apply, val_main_v10_apply, hs, EReal.coe_add, ← coe_sum, ← coe_sum]
  show _ + _ = _
  congr 1
  · refine Finset.sum_congr rfl fun e _ => ?_
    rw [val_main_v6_apply, val_main_v7_apply, EReal.coe_mul]
    exact congrArg₂ (fun u w : EReal => u * w) (v4 x0 h0 b h i ⟨e.val, by omega⟩) (v5 x1 h1 b h k ⟨e.val, by omega⟩)
  · refine Finset.sum_congr rfl fun e _ => ?_
    rw [val_main_v9_apply, EReal.coe_mul]
    exact congrArg₂ (fun u w : EReal => u * w) (show val_main_v2 (F := Ideal) x2 (lidx_main_v10 (idx_main_v11 (ix4 b h i k)) e) = ((kr b k e : ℝ) : EReal) by
      rw [val_main_v2_apply, ← h2]
      show x2 _ = x2 _
      congr 1
      funext a
      match a with
      | ⟨0, _⟩ => rfl
      | ⟨1, _⟩ => rfl
      | ⟨2, _⟩ => rfl) (v4 x0 h0 b h i ⟨128 + e.val, by omega⟩)

include h0 h1 h2 in
theorem masked_score (k : Fin 2048) :
    val_main_v19 (F := Ideal) x0 x1 x2 (ix4 b h i k)
      = if k.val ≤ i.val then ((dotp (query q b h i) (keyOf kv kr b h) k : ℝ) : EReal) else ⊥ := by
  rw [val_main_v19_apply, score x0 x1 x2 h0 h1 h2]
  have e2 : val_main_call0_v2 (F := Ideal) (ix4 b h i k) = (⊥ : EReal) := by
    rw [val_main_call0_v2_apply]
    exact ofBits_neg_inf
  rw [e2, val_main_call0_v1_apply, val_main_v18_apply, val_main_v16_apply, val_main_v14_apply, val_main_v17_apply, val_main_v15_apply,
    val_main_v13_apply, val_main_v13_apply]
  exact select_sle k.val i.val k.isLt i.isLt _ _

include h0 h1 h2 in
/-- The row's maximum is some real number: which one does not matter. -/
theorem shift : ∃ M : ℝ, val_main_v22 (F := Ideal) x0 x1 x2 (ix3 b h i) = (M : EReal) := by
  have hr : S4x32x2048x2048.Reduces [3] S4x32x2048 := by decide
  obtain ⟨M, hM⟩ := fold_max_real (fun k : Fin 2048 => val_main_v19 (F := Ideal) x0 x1 x2 (ix4 b h i k))
    (fun k => by
      rw [masked_score x0 x1 x2 h0 h1 h2]
      split
      · exact .inr ⟨_, rfl⟩
      · exact .inl rfl)
    ⟨i, _, by rw [masked_score x0 x1 x2 h0 h1 h2, if_pos (le_refl _)]⟩
  refine ⟨M, ?_⟩
  rw [val_main_v22_apply, val_main_v21_apply]
  have e1 : val_main_cst_1 (F := Ideal) (idx_main_v21 (ix3 b h i)) = (⊥ : EReal) := ofBits_neg_inf
  have e2 : val_main_v20 (F := Ideal) x0 x1 x2 (ix3 b h i) = (M : EReal) := by
    unfold val_main_v20
    rw [Host.reduce_eq_fold_single FloatOps.maximumf _ _ _ hr]
    have e3 : val_main_cst_0 (F := Ideal) (Shape.Idx.first h_S_) = (⊥ : EReal) := ofBits_neg_inf
    rw [e3, ← hM]
    show Finset.univ.fold max (⊥ : EReal) _ = _
    congr 1
    funext k
    show val_main_v19 (F := Ideal) x0 x1 x2 (hr.lift (ix3 b h i) k) = _
    congr 1
    funext a
    match a with
    | ⟨0, _⟩ => rfl
    | ⟨1, _⟩ => rfl
    | ⟨2, _⟩ => rfl
    | ⟨3, _⟩ => rfl
  rw [e1, e2]
  exact max_eq_right bot_le

include h0 h1 h2 in
theorem head_apply (d : Fin 128) :
    val_main_v33 (F := Ideal) x0 x1 x2 (ix4 b i h d) = ((attn q kv kr b i h d : ℝ) : EReal) := by
  obtain ⟨M, hM⟩ := shift x0 x1 x2 h0 h1 h2 b h i
  have hz : ∀ k : Fin 2048, val_main_v26 (F := Ideal) x0 x1 x2 (ix4 b h i k)
      = Ideal.exp ((if k.val ≤ i.val then ((dotp (query q b h i) (keyOf kv kr b h) k : ℝ) : EReal) else ⊥) - (M : EReal)) := fun k => by
    rw [val_main_v26_apply, val_main_v25_apply, masked_score x0 x1 x2 h0 h1 h2, val_main_v24_apply, val_main_v23_apply]
    have e : idx_main_v23 (idx_main_v24 (ix4 b h i k)) = ix3 b h i := by
      funext a
      match a with
      | ⟨0, _⟩ => rfl
      | ⟨1, _⟩ => rfl
      | ⟨2, _⟩ => rfl
    rw [e, hM]
    rfl
  refine softmax_mean (dotp (query q b h i) (keyOf kv kr b h)) (fun k => valueOf kv b h k d) (fun k => k.val ≤ i.val) ⟨i, le_refl _⟩ M
    _ (val_main_v27 (F := Ideal) x0 x1 x2 (ix3 b h i)) (fun k => val_main_v26 (F := Ideal) x0 x1 x2 (ix4 b h i k)) hz ?_ ?_
  · rw [val_main_v27_apply]
    have e3 : val_main_cst_2 (F := Ideal) (Shape.Idx.first h_S_) = (0 : EReal) := Ideal.ofBits_zero_f32
    rw [e3]
    refine congrArg (fun w : EReal => 0 + w) (Finset.sum_congr rfl fun k _ => congrArg _ ?_)
    funext a
    match a with
    | ⟨0, _⟩ => rfl
    | ⟨1, _⟩ => rfl
    | ⟨2, _⟩ => rfl
    | ⟨3, _⟩ => rfl
  · rw [val_main_v33_apply, val_main_v32_apply]
    refine Finset.sum_congr rfl fun k _ => ?_
    rw [val_main_v31_apply, val_main_v30_apply, val_main_v29_apply, val_main_v28_apply]
    have ea : idx_main_v31 (lidx_main_v32 (idx_main_v33 (ix4 b i h d)) k) = ix4 b k h (⟨128 + d.val, by omega⟩ : Fin 256) := by
      funext a
      match a with
      | ⟨0, _⟩ => rfl
      | ⟨1, _⟩ => rfl
      | ⟨2, _⟩ => rfl
      | ⟨3, _⟩ => rfl
    have eb : ridx_main_v32 (idx_main_v33 (ix4 b i h d)) k = ix4 b h i k := by
      funext a
      match a with
      | ⟨0, _⟩ => rfl
      | ⟨1, _⟩ => rfl
      | ⟨2, _⟩ => rfl
      | ⟨3, _⟩ => rfl
    have ec : idx_main_v28 (idx_main_v29 (ix4 b h i k)) = ix3 b h i := by
      funext a
      match a with
      | ⟨0, _⟩ => rfl
      | ⟨1, _⟩ => rfl
      | ⟨2, _⟩ => rfl
    rw [ea, eb, ec, v5 x1 h1]
    refine congrArg (fun w : ℝ => (w : EReal) * _) ?_
    exact congrArg (kv b k) (Fin.ext (show 256 * h.val + (128 + d.val) = 256 * h.val + 128 + d.val by omega))

include h0 h1 h2 in
theorem result_eq : val_main_v36 (F := Ideal) x0 x1 x2 x3 = result q kv kr x3 := by
  funext y
  rw [val_main_v36_apply, val_main_v35_apply, val_main_v34_apply]
  have y0 : (y 0).val < 4 := (y 0).isLt
  have y1 : (y 1).val < 2048 := (y 1).isLt
  have y2 : (y 2).val < 4096 := (y 2).isLt
  have e : idx_main_v34 y = ix4 (y 0) (y 1) (⟨(y 2).val / 128, by omega⟩ : Fin 32) (⟨(y 2).val % 128, Nat.mod_lt _ (by omega)⟩ : Fin 128) := by
    funext a
    match a with
    | ⟨0, _⟩ => exact Fin.ext (show (((y 0).val * 2048 + (y 1).val) * 4096 + (y 2).val) / 8388608 = (y 0).val by omega)
    | ⟨1, _⟩ => exact Fin.ext (show (((y 0).val * 2048 + (y 1).val) * 4096 + (y 2).val) / 4096 % 2048 = (y 1).val by omega)
    | ⟨2, _⟩ => exact Fin.ext (show (((y 0).val * 2048 + (y 1).val) * 4096 + (y 2).val) / 128 % 32 = (y 2).val / 128 by omega)
    | ⟨3, _⟩ => exact Fin.ext (show (((y 0).val * 2048 + (y 1).val) * 4096 + (y 2).val) % 128 = (y 2).val % 128 by omega)
  rw [e]
  exact congrArg (fun w : EReal => w * x3 y) (head_apply x0 x1 x2 h0 h1 h2 (y 0) ⟨(y 2).val / 128, by omega⟩ (y 1) ⟨(y 2).val % 128, Nat.mod_lt _ (by omega)⟩)
end
end Cert.Att.Ref
end
-- ==== Proof.Finite.lean ====
/- The precondition, read: every query, key and value is a real number. -/
module

public import proofs.«01_k».proof.Defs
public import Idealize.ShloMosaic.PureOps.Ideal.Laws

@[expose] public section
noncomputable section
namespace Cert.Finite
open Idealize.ShloMosaic

theorem facts : Cert.Pre_finite.Facts := ⟨by decide, by decide, by decide⟩

theorem ofBits_inf : Ideal.ofBits .f32 0x7F800000#32 = ⊤ := by simp [Ideal.ofBits, Ideal.ieee]

/-- A number whose absolute value is below infinity is a real. -/
theorem real_of_lt (x : EReal) (h : Ideal.cmp .olt (max x (-x)) (Ideal.ofBits .f32 0x7F800000#32) = 1#1) : x = ((x.toReal : ℝ) : EReal) := by
  rw [ofBits_inf] at h
  have hlt : max x (-x) < ⊤ := by
    by_contra hn
    simp [Ideal.cmp, hn] at h
  refine (EReal.coe_toReal ?_ ?_).symm
  · rintro rfl
    simp at hlt
  · rintro rfl
    simp at hlt

section
variable [Cert.Pre_finite.Facts]
  (a0 a1 : FVec Ideal Cert.Pre_finite.S4x2048x8192 .bf16) (a2 : FVec Ideal Cert.Pre_finite.S4x2048x128 .bf16)
  (a3 : FVec Ideal Cert.Pre_finite.S4x2048x4096 .bf16)

theorem first (h : (Cert.Pre_finite.fn (F := Ideal) a0 a1 a2 a3).1 = fun _ => 1#1) (j) : a0 j = (((a0 j).toReal : ℝ) : EReal) :=
  real_of_lt _ (congrFun h j)
theorem second (h : (Cert.Pre_finite.fn (F := Ideal) a0 a1 a2 a3).2.1 = fun _ => 1#1) (j) : a1 j = (((a1 j).toReal : ℝ) : EReal) :=
  real_of_lt _ (congrFun h j)
theorem third (h : (Cert.Pre_finite.fn (F := Ideal) a0 a1 a2 a3).2.2 = fun _ => 1#1) (j) : a2 j = (((a2 j).toReal : ℝ) : EReal) :=
  real_of_lt _ (congrFun h j)
end
end Cert.Finite
end
-- ==== Proof.AttClaims.lean ====
/- The claims about the attention call, put together. -/
module

public import proofs.«01_k».proof.Proof.Array
public import proofs.«01_k».proof.Proof.RefValue
public import proofs.«01_k».proof.Proof.Finite
public import proofs.«01_k».proof.Proof.Gen.Kernel.Frame
public import proofs.«01_k».proof.Proof.Gen.ReferenceIdeal.Run

@[expose] public section
noncomputable section
namespace Cert.Att
open Idealize.ShloMosaic Idealize.ShloMosaic.TcCoe Idealize.SL.Sem

theorem pre_facts : Cert.Pre_finite.Facts := Cert.Finite.facts

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hagree
  refine ⟨fun c => result (fun b i e => (m ((c : Thread Cert.KernelIdeal.nD Cert.KernelIdeal.τ).loc Cert.KernelIdeal.main_arg0) (ix3 b i e)).toReal)
      (fun b i e => (m ((c : Thread Cert.KernelIdeal.nD Cert.KernelIdeal.τ).loc Cert.KernelIdeal.main_arg1) (ix3 b i e)).toReal)
      (fun b i e => (m ((c : Thread Cert.KernelIdeal.nD Cert.KernelIdeal.τ).loc Cert.KernelIdeal.main_arg2) (ix3 b i e)).toReal)
      (m ((c : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Value.run_blocks (F := Ideal) m ρ)
    obtain ⟨h0, h1, h2⟩ := hpre c
    letI : Cert.Pre_finite.Facts := Cert.Finite.facts
    exact final m c (fun b i e => Cert.Finite.first _ _ _ _ h0 (ix3 b i e)) (fun b i e => Cert.Finite.second _ _ _ _ h1 (ix3 b i e))
      (fun b i e => Cert.Finite.third _ _ _ _ h2 (ix3 b i e))
  · refine (θ_run Cert.ReferenceIdeal.defs _ _).mono (fun _ h c => ⟨(h c).1.trans ?_, (h c).2⟩) (Cert.ReferenceIdeal.Value.run (F := Ideal) m' ρ')
    obtain ⟨h0, h1, h2⟩ := hpre c
    obtain ⟨a0, a1, a2, a3⟩ := hagree c
    letI : Cert.Pre_finite.Facts := Cert.Finite.facts
    rw [Cert.ReferenceIdeal.Read.val_main_v36_eq, a0, a1, a2, a3]
    exact Ref.result_eq _ _ _ _ (fun b i e => Cert.Finite.first _ _ _ _ h0 (ix3 b i e)) (fun b i e => Cert.Finite.second _ _ _ _ h1 (ix3 b i e))
      (fun b i e => Cert.Finite.third _ _ _ _ h2 (ix3 b i e))
end Cert.Att
end
-- ==== Proof.Rows.lean ====
/- Row by row mathematics shared by the projection calls: the rms norm of a row, its product with a matrix, and the gates. -/
module

public import Idealize.ShloMosaic.Lib.Pointwise

@[expose] public section
noncomputable section
namespace Cert.Rows
open Idealize.ShloMosaic

/-- The reciprocal root mean square of a row of length `n` (the word of `n` as an f32 is `len`), with the word of 1e-6 added under the root. -/
def rstd {K : ℕ} (len : BitVec 32) (x : Fin K → EReal) : EReal :=
  Ideal.rsqrt (Ideal.div (∑ k, x k * x k) (Ideal.ofBits .f32 len) + Ideal.ofBits .f32 0x358637BD#32)

/-- A row after its rms norm, weighted by `g`. -/
def normed {K : ℕ} (len : BitVec 32) (x g : Fin K → EReal) (k : Fin K) : EReal := x k * rstd len x * g k

/-- One entry of a row times a matrix. -/
def dot {K : ℕ} (a w : Fin K → EReal) : EReal := ∑ k, a k * w k

theorem exp_nonneg (z : EReal) : 0 ≤ Ideal.exp z := by
  induction z with
  | bot => exact le_refl _
  | top => exact le_top
  | coe r => exact EReal.coe_nonneg.mpr (Real.exp_pos r).le

theorem one_add_exp_ne (z : EReal) : 1 + Ideal.exp z ≠ 0 :=
  (lt_of_lt_of_le zero_lt_one (le_add_of_nonneg_right (exp_nonneg z))).ne'

/-- `z / (1 + e^(0 - z))` is `z` times the logistic function of `z`, at every extended real. -/
theorem silu (z : EReal) : Ideal.div z (1 + Ideal.exp (0 - z)) = z * Ideal.div 1 (1 + Ideal.exp (-z)) := by
  rw [zero_sub]
  unfold Ideal.div
  rw [if_neg (one_add_exp_ne _), if_neg (one_add_exp_ne _), one_mul]
end Cert.Rows
end
-- ==== Proof.Cut.lean ====
/- A sum over 4096 columns taken in stretches: what an accumulator holds after its first `n` columns. -/
module

public import proofs.«01_k».proof.Proof.Rows

@[expose] public section
noncomputable section
namespace Cert.Rows
open Idealize.ShloMosaic

/-- The sum of the first `n` terms. -/
def upTo {K : ℕ} (f : Fin K → EReal) (n : ℕ) : EReal := ∑ k ∈ Finset.range n, if h : k < K then f ⟨k, h⟩ else 0

theorem upTo_all {K : ℕ} (f : Fin K → EReal) : upTo f K = ∑ k, f k := by
  unfold upTo
  rw [Finset.sum_range]
  exact Finset.sum_congr rfl fun k _ => dif_pos k.isLt

theorem upTo_stretch {K : ℕ} (f : Fin K → EReal) (n L : ℕ) (h : n + L ≤ K) :
    upTo f n + ∑ k : Fin L, f ⟨n + k.val, by omega⟩ = upTo f (n + L) := by
  unfold upTo
  rw [Finset.sum_range_add, Finset.sum_range (fun k => if h : n + k < K then f ⟨n + k, h⟩ else 0)]
  exact congrArg _ (Finset.sum_congr rfl fun k _ => by rw [dif_pos (show n + k.val < K by omega)])

/-- Two coordinates name an index. -/
theorem idx_eq {A B : ℕ} (e : (⟨2, ![A, B]⟩ : Shape).Idx) (a : Fin A) (b : Fin B) (h0 : (e 0).val = a.val) (h1 : (e 1).val = b.val) : e = ix2 a b :=
  (eq_ix2 e).trans (congrArg₂ ix2 (Fin.ext h0) (Fin.ext h1))

/-- The point before `t`. -/
def before {N : ℕ} (t : Fin N) : Fin N := ⟨t.val - 1, Nat.lt_of_le_of_lt (Nat.sub_le _ _) t.isLt⟩

/-- An accumulator over four stretches of 1024 columns: at each row block's first point it starts from `start` and takes the first
stretch, at the other points it adds the next one; so after each point it holds `start` plus every column so far. -/
theorem accumulated {N : ℕ} (S start : Fin N → EReal) (f : Fin N → Fin 4096 → EReal)
    (first : ∀ t : Fin N, t.val % 4 = 0 → S t = start t + ∑ k : Fin 1024, f t ⟨1024 * (t.val % 4) + k.val, by omega⟩)
    (later : ∀ t : Fin N, ¬t.val % 4 = 0 → S t = S (before t) + ∑ k : Fin 1024, f t ⟨1024 * (t.val % 4) + k.val, by omega⟩)
    (same : ∀ t : Fin N, ¬t.val % 4 = 0 → start (before t) = start t ∧ f (before t) = f t) :
    ∀ (q : ℕ) (t : Fin N), t.val = q → S t = start t + upTo (f t) (1024 * (t.val % 4 + 1)) := by
  have move : ∀ t : Fin N, start t + upTo (f t) (1024 * (t.val % 4)) + ∑ k : Fin 1024, f t ⟨1024 * (t.val % 4) + k.val, by omega⟩
      = start t + upTo (f t) (1024 * (t.val % 4 + 1)) := fun t => by
    rw [add_assoc, Nat.mul_add, ← upTo_stretch (f t) (1024 * (t.val % 4)) (1024 * 1) (by omega)]
  have none : ∀ t : Fin N, t.val % 4 = 0 → start t = start t + upTo (f t) (1024 * (t.val % 4)) := fun t h => by
    unfold upTo
    rw [h, Nat.mul_zero, Finset.range_zero, Finset.sum_empty, add_zero]
  intro q
  induction q with
  | zero => exact fun t ht => (first t (by omega)).trans ((congrArg (· + _) (none t (by omega))).trans (move t))
  | succ q ih =>
    intro t ht
    by_cases h0 : t.val % 4 = 0
    · exact (first t h0).trans ((congrArg (· + _) (none t h0)).trans (move t))
    · refine (later t h0).trans ((congrArg (· + _) ?_).trans (move t))
      refine (ih (before t) (by show t.val - 1 = q; omega)).trans ?_
      have e : (before t).val % 4 + 1 = t.val % 4 := by show (t.val - 1) % 4 + 1 = t.val % 4; omega
      rw [e, (same t h0).1, (same t h0).2]

/-- What a scratch holds that each row block's first point fills and the `L - 1` points after it leave alone. -/
theorem kept {A : Type*} {N : ℕ} (L : ℕ) (S T : Fin N → A)
    (first : ∀ t : Fin N, t.val % L = 0 → S t = T t)
    (later : ∀ t : Fin N, ¬t.val % L = 0 → S t = S (before t))
    (same : ∀ t : Fin N, ¬t.val % L = 0 → T (before t) = T t) :
    ∀ (q : ℕ) (t : Fin N), t.val = q → S t = T t := by
  intro q
  induction q with
  | zero => exact fun t ht => first t (by rw [ht, Nat.zero_mod])
  | succ q ih =>
    intro t ht
    by_cases h0 : t.val % L = 0
    · exact first t h0
    · exact (later t h0).trans ((ih (before t) (by show t.val - 1 = q; omega)).trans (same t h0))
end Cert.Rows
end
-- ==== Proof.GateBody.lean ====
/- What one grid point of the gate's call computes: its block's rows normalised, times a block of columns, through the gate. -/
module

public import proofs.«01_k».proof.Proof.Cut
public import proofs.«01_k».proof.Proof.Gen.GateIdeal.Value

@[expose] public section
noncomputable section
namespace Cert.Rows.Gate
open Cert.GateIdeal Cert.GateIdeal.Gen Idealize.ShloMosaic Idealize.ShloMosaic.TcCoe Idealize.SL.Sem

theorem hz : (![0, 0] : Fin 2 → ℕ) = fun _ => 0 := funext fun a => by fin_cases a <;> rfl

/-- The normalised rows the scratch holds. -/
theorem norm_apply (x : Vec Ideal S512x2048 .f32) (g : Vec Ideal S1x2048 .f32) (r : Fin 512) (k : Fin 2048) :
    k0_pay1 x g (ix2 r k) = normed 0x45000000#32 (fun k => x (ix2 r k)) (fun k => g (ix2 0 k)) k := by
  pointwise [k0_pay1]
  rfl

theorem gate_apply (a : Vec Ideal S512x2048 .bf16) (w : Vec Ideal S2048x1024 .bf16) (r : Fin 512) (n : Fin 1024) :
    k0_pay2 a w (ix2 r n) = Ideal.div (dot (fun k => a (ix2 r k)) (fun k => w (ix2 k n))) (1 + Ideal.exp (0 - dot (fun k => a (ix2 r k)) (fun k => w (ix2 k n)))) := by
  pointwise [k0_pay2]
  rfl

section
variable (c : Dev nD) (i : grid0.Coords) (a2 : Memref sig .tc .vmem S512x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S512x1024 .bf16) (h5 : a5.IsWhole)
  (a6 : Memref sig .tc .vmem S512x2048 .bf16) (h6 : a6.IsWhole)
  (x : Vec Ideal S512x2048 .f32) (g : Vec Ideal S1x2048 .f32) (w : Vec Ideal S2048x1024 .bf16) (s : Vec Ideal S512x2048 .bf16)

/-- The first column block of a row block stores the normalised rows. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_cons_unit_zero (S := S512x2048) hz]
  simp only [View.readAt_eq_ld, h2.read_unread, h3.read_unread, View.ld_unit_zero (S := S512x2048) hz, View.ld_unit_zero (S := S1x2048) hz]

/-- It stores the gate of the rows just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_cons_unit_zero (S := S512x1024) hz, View.readCov_unit_zero (S := S512x2048) _ hz]
  simp only [View.readAt_eq_ld, h2.read_unread, h3.read_unread, h4.read_unread, View.ld_unit_zero (S := S512x2048) hz, View.ld_unit_zero (S := S1x2048) hz,
    View.ld_unit_zero (S := S2048x1024) hz]

/-- The other column blocks store the gate of the rows the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_cons_unit_zero (S := S512x1024) hz]
  simp only [View.readAt_eq_ld, h4.read_unread, h6.read_unread, View.ld_unit_zero (S := S512x2048) hz, View.ld_unit_zero (S := S2048x1024) hz]
end
end Cert.Rows.Gate
end
-- ==== Proof.GateArray.lean ====
/- From the gate call's grid points to its whole result: entry `(i, n)` is the gate of the normalised row `i` times column `n`. -/
module

public import proofs.«01_k».proof.Proof.GateBody

@[expose] public section
set_option maxRecDepth 16384
noncomputable section
namespace Cert.Rows.Gate
open Cert.GateIdeal Cert.GateIdeal.Gen Idealize.ShloMosaic Idealize.ShloMosaic.TcCoe Idealize.SL.Sem

/-- Point `t` is row block `t / 4` and column block `t % 4`: where its blocks lie. -/
theorem places : ∀ t : Fin grid0.N,
    (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val / 4 ∧ win0_3.index t 1 = t.val % 4) := by
  decide +kernel

section
variable (m : (ℓ : Loc nD τ sig) → Buf (Elt Ideal) ℓ) (c : Dev nD)

theorem entry_gain (k : Fin 2048) : V m c main_v0 (ix2 0 k) = m ((c : Thread nD τ).loc main_arg1) (ix1 k) := by
  show StableHlo.after hostOps0 (fun b => m (c, b)) (Proc.devRef .tc main_v0) (ix2 0 k) = _
  after_results
  pointwise

theorem entry_weight (k : Fin 2048) (n : Fin 4096) : V m c main_v1 (ix2 k n) = m ((c : Thread nD τ).loc main_arg2) (ix2 k n) := by
  show StableHlo.after hostOps0 (fun b => m (c, b)) (Proc.devRef .tc main_v1) (ix2 k n) = _
  after_results
  rfl

/-- Point `t`'s part of the rows and of the columns. -/
def row (t : Fin cfg0.N) (r : Fin 512) : Fin 8192 := ⟨512 * (t.val / 4) + r.val, by have h : t.val < cfg0.N := t.isLt; have hN : cfg0.N = 64 := N_0; omega⟩
def col (t : Fin cfg0.N) (n : Fin 1024) : Fin 4096 := ⟨1024 * (t.val % 4) + n.val, by omega⟩

theorem block_x (t : Fin cfg0.N) (r : Fin 512) (k : Fin 2048) : iblk m c 0 t (ix2 r k) = m ((c : Thread nD τ).loc main_arg0) (ix2 (row t r) k) := by
  show V m c main_arg0 ((win0_0.rect t).emb (ix2 r k)) = _
  rw [V_main_arg0]
  obtain ⟨⟨p0, p1⟩, -⟩ := places t
  congr 1
  funext a
  match a with
  | ⟨0, _⟩ => exact Fin.ext ((win0_0.rect_emb_val t (ix2 r k) 0).trans (by rw [p0]; show t.val / 4 * 512 + r.val = 512 * (t.val / 4) + r.val; omega))
  | ⟨1, _⟩ => exact Fin.ext ((win0_0.rect_emb_val t (ix2 r k) 1).trans (by rw [p1]; show 0 * 2048 + k.val = k.val; omega))

theorem block_g (t : Fin cfg0.N) (k : Fin 2048) : iblk m c 1 t (ix2 0 k) = m ((c : Thread nD τ).loc main_arg1) (ix1 k) := by
  refine Eq.trans ?_ (entry_gain m c k)
  show V m c main_v0 ((win0_1.rect t).emb (ix2 0 k)) = _
  obtain ⟨-, ⟨p0, p1⟩, -⟩ := places t
  congr 1
  funext a
  match a with
  | ⟨0, _⟩ => exact Fin.ext ((win0_1.rect_emb_val t (ix2 0 k) 0).trans (by rw [p0]; rfl))
  | ⟨1, _⟩ => exact Fin.ext ((win0_1.rect_emb_val t (ix2 0 k) 1).trans (by rw [p1]; show 0 * 2048 + k.val = k.val; omega))

theorem block_w (t : Fin cfg0.N) (k : Fin 2048) (n : Fin 1024) : iblk m c 2 t (ix2 k n) = m ((c : Thread nD τ).loc main_arg2) (ix2 k (col t n)) := by
  refine Eq.trans ?_ (entry_weight m c k (col t n))
  show V m c main_v1 ((win0_2.rect t).emb (ix2 k n)) = _
  obtain ⟨-, -, ⟨p0, p1⟩, -⟩ := places t
  congr 1
  funext a
  match a with
  | ⟨0, _⟩ => exact Fin.ext ((win0_2.rect_emb_val t (ix2 k n) 0).trans (by rw [p0]; show 0 * 2048 + k.val = k.val; omega))
  | ⟨1, _⟩ => exact Fin.ext ((win0_2.rect_emb_val t (ix2 k n) 1).trans (by rw [p1]; show t.val % 4 * 1024 + n.val = 1024 * (t.val % 4) + n.val; omega))

/-- Row `i` of the argument after its norm. -/
def rowOf (i : Fin 8192) : Fin 2048 → EReal :=
  normed 0x45000000#32 (fun k => m ((c : Thread nD τ).loc main_arg0) (ix2 i k)) (fun k => m ((c : Thread nD τ).loc main_arg1) (ix1 k))

theorem block_norm (t : Fin cfg0.N) (r : Fin 512) (k : Fin 2048) :
    k0_pay1 (iblk m c 0 t) (iblk m c 1 t) (ix2 r k) = rowOf m c (row t r) k :=
  (norm_apply _ _ r k).trans (by simp only [block_x, block_g]; rfl)

theorem row_before (t : Fin cfg0.N) (h0 : ¬t.val % 4 = 0) (r : Fin 512) : row (before t) r = row t r :=
  Fin.ext (show 512 * ((t.val - 1) / 4) + r.val = 512 * (t.val / 4) + r.val by omega)

/-- After each point the scratch holds its row block, normalised. -/
theorem state (r : Fin 512) (k : Fin 2048) (t : Fin cfg0.N) : (outsAt0 m c t.val t.isLt).2 (ix2 r k) = rowOf m c (row t r) k := by
  refine kept 4 (fun t => (outsAt0 m c t.val t.isLt).2 (ix2 r k)) (fun t => rowOf m c (row t r) k) (fun t h0 => ?_) (fun t h0 => ?_)
    (fun t h0 => by rw [row_before t h0]) _ t rfl
  · rw [outsAt0_A m c t h0]
    dsimp only
    rw [scratch_first]
    exact block_norm m c t r k
  · rw [outsAt0_B m c t h0]
    rfl

/-- The rows a later column block finds in the scratch. -/
theorem carried (t : Fin cfg0.N) (h0 : ¬t.val % 4 = 0) (r : Fin 512) (k : Fin 2048) :
    (outsAt0 m c (t.val - 1) (Nat.lt_of_le_of_lt (Nat.sub_le _ _) t.isLt)).2 (ix2 r k) = rowOf m c (row t r) k :=
  (state m c r k (before t)).trans (by rw [row_before t h0])

/-- What each point computes, entry by entry. -/
theorem out_eq (t : Fin cfg0.N) (r : Fin 512) (n : Fin 1024) : (outsAt0 m c t.val t.isLt).1 (ix2 r n)
    = Ideal.div (dot (rowOf m c (row t r)) (fun k => m ((c : Thread nD τ).loc main_arg2) (ix2 k (col t n))))
        (1 + Ideal.exp (0 - dot (rowOf m c (row t r)) (fun k => m ((c : Thread nD τ).loc main_arg2) (ix2 k (col t n))))) := by
  by_cases h0 : t.val % 4 = 0
  · rw [outsAt0_A m c t h0]
    dsimp only
    rw [out_first]
    refine (gate_apply _ _ r n).trans ?_
    simp only [block_norm, block_w]
  · rw [outsAt0_B m c t h0]
    dsimp only
    rw [out_later]
    refine (gate_apply _ _ r n).trans ?_
    simp only [carried m c t h0, block_w]

/-- The whole result. -/
def result : Buf (Elt Ideal) ((c : Thread nD τ).loc main_v2) := fun i =>
  dot (rowOf m c (i 0)) (fun k => m ((c : Thread nD τ).loc main_arg2) (ix2 k (i 1)))
    * Ideal.div 1 (1 + Ideal.exp (-dot (rowOf m c (i 0)) (fun k => m ((c : Thread nD τ).loc main_arg2) (ix2 k (i 1)))))

theorem flushed_eq (t : Fin cfg0.N) : (dats m 0 c).flushed 3 t = (win0_3.blk t).view.read (Elt Ideal) (result m c) := by
  rw [Value.flushed3]
  funext y
  change S512x1024.Idx at y
  show (outsAt0 m c t.val t.isLt).1 y = result m c ((win0_3.rect t).emb y)
  obtain ⟨-, -, -, p0, p1⟩ := places t
  have e0 : ((win0_3.rect t).emb y) 0 = row t (y 0) :=
    Fin.ext ((win0_3.rect_emb_val t y 0).trans (by rw [p0]; show t.val / 4 * 512 + (y 0).val = 512 * (t.val / 4) + (y 0).val; omega))
  have e1 : ((win0_3.rect t).emb y) 1 = col t (y 1) :=
    Fin.ext ((win0_3.rect_emb_val t y 1).trans (by rw [p1]; show t.val % 4 * 1024 + (y 1).val = 1024 * (t.val % 4) + (y 1).val; omega))
  unfold result
  rw [e0, e1, ← silu]
  refine Eq.trans ?_ (out_eq m c t (y 0) (y 1))
  exact congrArg _ (eq_ix2 y)

theorem final : (dats m 0 c).arrAt 3 cfg0.N = result m c :=
  (dats m 0 c).arrAt_eq_of_cover 3 (result m c) (fun t _ => flushed_eq m c t) (fun i => (Value.covered_iff3 i).2 (by
    have h0 : (i 0).val < 8192 := (i 0).isLt; have h1 : (i 1).val < 4096 := (i 1).isLt; omega))
end
end Cert.Rows.Gate
end
-- ==== Proof.GateRef.lean ====
/- The gate's reference, entry by entry. -/
module

public import proofs.«01_k».proof.Proof.Rows
public import proofs.«01_k».proof.Proof.Gen.GateRefIdeal.Read

@[expose] public section
noncomputable section
namespace Cert.Rows.GateRef
open Cert.GateRefIdeal Cert.GateRefIdeal.Gen Cert.GateRefIdeal.Read Idealize.ShloMosaic Idealize.ShloMosaic.TcCoe

theorem result_apply (x : Vec Ideal S8192x2048 .f32) (g : Vec Ideal S2048 .f32) (w : Vec Ideal S2048x4096 .f32) (r : Fin 8192) (n : Fin 4096) :
    val_main_v15 (F := Ideal) x g w (ix2 r n)
      = dot (normed 0x45000000#32 (fun k => x (ix2 r k)) (fun k => g (ix1 k))) (fun k => w (ix2 k n))
        * Ideal.div 1 (1 + Ideal.exp (-dot (normed 0x45000000#32 (fun k => x (ix2 r k)) (fun k => g (ix1 k))) (fun k => w (ix2 k n)))) := by
  pointwise [val_main_v15, val_main_v14, val_main_call0_v5, val_main_call0_v4, val_main_call0_v3, val_main_call0_v2, val_main_call0_v1, val_main_call0_v0,
    val_main_call0_cst, val_main_call0_cst_0, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl
end Cert.Rows.GateRef
end
-- ==== Proof.GateClaims.lean ====
/- The claims about the gate's call, put together. -/
module

public import proofs.«01_k».proof.Defs
public import proofs.«01_k».proof.Proof.GateArray
public import proofs.«01_k».proof.Proof.GateRef
public import proofs.«01_k».proof.Proof.Gen.GateRefIdeal.Run

@[expose] public section
noncomputable section
namespace Cert.Rows.Gate
open Idealize.ShloMosaic Idealize.ShloMosaic.TcCoe Idealize.SL.Sem

theorem frame_reference : Cert.quiescent_GateRefIdeal (hGateRefIdeal := Cert.GateRefIdeal.Gen.facts) := fun m ρ _ =>
  (θ_run Cert.GateRefIdeal.defs _ _).mono (fun r h => ⟨fun c => (h c).2, sem_eq_zero_of_no_sems (by decide) r.2⟩)
    (Cert.GateRefIdeal.Value.run (F := Ideal) m ρ)

theorem algebraic : Cert.algebraic_GateIdeal_GateRefIdeal (hGateIdeal := Cert.GateIdeal.Gen.facts) (hGateRefIdeal := Cert.GateRefIdeal.Gen.facts) := by
  intro m ρ m' ρ' hpre hagree
  refine ⟨fun c => result m c, ?_, ?_⟩
  · exact (θ_run Cert.GateIdeal.defs _ _).mono (fun _ h c => ⟨(h c).1.trans (final m c), (h c).2⟩) (Cert.GateIdeal.Value.run_blocks (F := Ideal) m ρ)
  · refine (θ_run Cert.GateRefIdeal.defs _ _).mono (fun _ h c => ⟨(h c).1.trans ?_, (h c).2⟩) (Cert.GateRefIdeal.Value.run (F := Ideal) m' ρ')
    obtain ⟨a0, a1, a2⟩ := hagree c
    rw [Cert.GateRefIdeal.Read.val_main_v15_eq, a0, a1, a2]
    funext i
    exact (congrArg _ (eq_ix2 i)).trans (Cert.Rows.GateRef.result_apply _ _ _ (i 0) (i 1))
end Cert.Rows.Gate
end
-- ==== Proof.OutBody.lean ====
/- What one grid point of the last projection's call does: it adds a stretch of the product to the accumulator, which the residual starts and the rms norm ends. -/
module

public import proofs.«01_k».proof.Proof.Cut
public import proofs.«01_k».proof.Proof.Gen.OutIdeal.Value

@[expose] public section
noncomputable section
namespace Cert.Rows.Out
open Cert.OutIdeal Cert.OutIdeal.Gen Idealize.ShloMosaic Idealize.ShloMosaic.TcCoe Idealize.SL.Sem

theorem hz : (![0, 0] : Fin 2 → ℕ) = fun _ => 0 := funext fun a => by fin_cases a <;> rfl

theorem init_apply (x : Vec Ideal S512x2048 .f32) (r : Fin 512) (n : Fin 2048) : k0_pay1 x (ix2 r n) = x (ix2 r n) := by
  pointwise [k0_pay1]

theorem add_apply (s : Vec Ideal S512x2048 .f32) (y : Vec Ideal S512x1024 .bf16) (w : Vec Ideal S1024x2048 .bf16) (r : Fin 512) (n : Fin 2048) :
    k0_pay2 s y w (ix2 r n) = s (ix2 r n) + ∑ k, y (ix2 r k) * w (ix2 k n) := by
  pointwise [k0_pay2]

theorem norm_apply (s : Vec Ideal S512x2048 .f32) (g : Vec Ideal S1x2048 .f32) (r : Fin 512) (n : Fin 2048) :
    k0_pay3 s g (ix2 r n) = normed 0x45000000#32 (fun k => s (ix2 r k)) (fun k => g (ix2 0 k)) n := by
  pointwise [k0_pay3]
  rfl

section
variable (c : Dev nD) (i : grid0.Coords) (a2 : Memref sig .tc .vmem S512x1024 .bf16) (h2 : a2.IsWhole) (a3 : Memref sig .tc .vmem S1024x2048 .bf16) (h3 : a3.IsWhole)
  (a4 : Memref sig .tc .vmem S512x2048 .f32) (h4 : a4.IsWhole) (a5 : Memref sig .tc .vmem S1x2048 .f32) (h5 : a5.IsWhole)
  (a6 : Memref sig .tc .vmem S512x2048 .f32) (h6 : a6.IsWhole) (a7 : Memref sig .tc .vmem S512x2048 .f32) (h7 : a7.IsWhole)
  (y : Vec Ideal S512x1024 .bf16) (w : Vec Ideal S1024x2048 .bf16) (x : Vec Ideal S512x2048 .f32) (g : Vec Ideal S1x2048 .f32) (s : Vec Ideal S512x2048 .f32)

/-- The first stretch starts from the residual. -/
theorem scratch_first (hc0 : cond0_0 i) (hc1 : ¬cond0_1 i) :
    sout0_A_0 c i a2 h2 a3 h3 a4 h4 a5 h5 a6 h6 a7 h7 hc0 hc1 y w x g = k0_pay2 (k0_pay1 x) y w := by
  unfold sout0_A_0
  rw [View.read_writes_eq_canon _ _ _ (scover0_A_0 c i a2 h2 a3 h3 a4 h4 a5 h5 a6 h6 a7 h7 hc0 hc1 y w x g)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, View.ld_unit_zero (S := S512x2048) hz,
    View.ld_unit_zero (S := S512x1024) hz, View.ld_unit_zero (S := S1024x2048) hz]

/-- A later stretch adds to what the scratch holds. -/
theorem scratch_later (hc0 : ¬cond0_0 i) (hc1 : ¬cond0_1 i) :
    sout0_B_0 c i a2 h2 a3 h3 a4 h4 a5 h5 a6 h6 a7 h7 hc0 hc1 y w x g s = k0_pay2 s y w := by
  unfold sout0_B_0
  rw [View.read_writes_eq_canon _ _ _ (scover0_B_0 c i a2 h2 a3 h3 a4 h4 a5 h5 a6 h6 a7 h7 hc0 hc1 y w x g s)]
  unfold kernelRun0_B
  dsimp only
  sl_unfold_words
  rw [View.canon_cons_unit_zero (S := S512x2048) hz]
  simp only [View.readAt_eq_ld, h2.read_unread, h3.read_unread, h7.read_unread, View.ld_unit_zero (S := S512x2048) hz,
    View.ld_unit_zero (S := S512x1024) hz, View.ld_unit_zero (S := S1024x2048) hz]

/-- The last stretch adds too. -/
theorem scratch_last (hc0 : ¬cond0_0 i) (hc1 : cond0_1 i) :
    sout0_C_0 c i a2 h2 a3 h3 a4 h4 a5 h5 a6 h6 a7 h7 hc0 hc1 y w x g s = k0_pay2 s y w := by
  unfold sout0_C_0
  rw [View.read_writes_eq_canon _ _ _ (scover0_C_0 c i a2 h2 a3 h3 a4 h4 a5 h5 a6 h6 a7 h7 hc0 hc1 y w x g s)]
  unfold kernelRun0_C
  dsimp only
  sl_unfold_words
  rw [View.canon_cons_unit_zero (S := S512x2048) hz]
  simp only [View.readAt_eq_ld, h2.read_unread, h3.read_unread, h7.read_unread, View.ld_unit_zero (S := S512x2048) hz,
    View.ld_unit_zero (S := S512x1024) hz, View.ld_unit_zero (S := S1024x2048) hz]

/-- After the last stretch the output block is the accumulator's rows, normalised. -/
theorem out_last (hc0 : ¬cond0_0 i) (hc1 : cond0_1 i) :
    out0_C_4 c i a2 h2 a3 h3 a4 h4 a5 h5 a6 h6 a7 h7 hc0 hc1 y w x g s = k0_pay3 (k0_pay2 s y w) g := by
  unfold out0_C_4
  rw [View.read_writes_eq_canon _ _ _ (cover0_C_4 c i a2 h2 a3 h3 a4 h4 a5 h5 a6 h6 a7 h7 hc0 hc1 y w x g s)]
  unfold kernelRun0_C
  dsimp only
  sl_unfold_words
  rw [View.canon_cons_unit_zero (S := S512x2048) hz, View.readCov_unit_zero (S := S512x2048) _ hz]
  simp only [View.readAt_eq_ld, h2.read_unread, h3.read_unread, h5.read_unread, h7.read_unread, View.ld_unit_zero (S := S512x2048) hz,
    View.ld_unit_zero (S := S512x1024) hz, View.ld_unit_zero (S := S1024x2048) hz, View.ld_unit_zero (S := S1x2048) hz]
end
end Cert.Rows.Out
end
-- ==== Proof.OutArray.lean ====
/- From the grid points of the last projection's call to its whole result: the accumulator after each stretch, then the normalised rows. -/
module

public import proofs.«01_k».proof.Proof.OutBody

@[expose] public section
set_option maxRecDepth 16384
noncomputable section
namespace Cert.Rows.Out
open Cert.OutIdeal Cert.OutIdeal.Gen Idealize.ShloMosaic Idealize.ShloMosaic.TcCoe Idealize.SL.Sem

/-- Point `t` is row block `t / 4` and stretch `t % 4`: where its blocks lie. -/
theorem places : ∀ t : Fin grid0.N,
    (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = 0 ∧ win0_3.index t 1 = 0)
    ∧ (win0_4.index t 0 = t.val / 4 ∧ win0_4.index t 1 = 0) := by
  decide +kernel

/-- The output block is written back after the last stretch only. -/
theorem flushes : ∀ t : Fin grid0.N, win0_4.flush t = true → t.val % 4 = 3 := by
  decide +kernel

section
variable (m : (ℓ : Loc nD τ sig) → Buf (Elt Ideal) ℓ) (c : Dev nD)

theorem entry_weight (k : Fin 4096) (n : Fin 2048) : V m c main_v0 (ix2 k n) = m ((c : Thread nD τ).loc main_arg1) (ix2 k n) := by
  show StableHlo.after hostOps0 (fun b => m (c, b)) (Proc.devRef .tc main_v0) (ix2 k n) = _
  after_results
  rfl

theorem entry_gain (k : Fin 2048) : V m c main_v1 (ix2 0 k) = m ((c : Thread nD τ).loc main_arg3) (ix1 k) := by
  show StableHlo.after hostOps0 (fun b => m (c, b)) (Proc.devRef .tc main_v1) (ix2 0 k) = _
  after_results
  pointwise

/-- Point `t`'s part of the rows, and its stretch of the contracted columns. -/
def row (t : Fin cfg0.N) (r : Fin 512) : Fin 8192 := ⟨512 * (t.val / 4) + r.val, by have h : t.val < cfg0.N := t.isLt; have hN : cfg0.N = 64 := N_0; omega⟩
def inner (t : Fin cfg0.N) (k : Fin 1024) : Fin 4096 := ⟨1024 * (t.val % 4) + k.val, by omega⟩

theorem block_y (t : Fin cfg0.N) (r : Fin 512) (k : Fin 1024) : iblk m c 0 t (ix2 r k) = m ((c : Thread nD τ).loc main_arg0) (ix2 (row t r) (inner t k)) := by
  show V m c main_arg0 ((win0_0.rect t).emb (ix2 r k)) = _
  rw [V_main_arg0]
  obtain ⟨⟨p0, p1⟩, -⟩ := places t
  congr 1
  funext a
  match a with
  | ⟨0, _⟩ => exact Fin.ext ((win0_0.rect_emb_val t (ix2 r k) 0).trans (by rw [p0]; show t.val / 4 * 512 + r.val = 512 * (t.val / 4) + r.val; omega))
  | ⟨1, _⟩ => exact Fin.ext ((win0_0.rect_emb_val t (ix2 r k) 1).trans (by rw [p1]; show t.val % 4 * 1024 + k.val = 1024 * (t.val % 4) + k.val; omega))

theorem block_w (t : Fin cfg0.N) (k : Fin 1024) (n : Fin 2048) : iblk m c 1 t (ix2 k n) = m ((c : Thread nD τ).loc main_arg1) (ix2 (inner t k) n) := by
  refine Eq.trans ?_ (entry_weight m c (inner t k) n)
  show V m c main_v0 ((win0_1.rect t).emb (ix2 k n)) = _
  obtain ⟨-, ⟨p0, p1⟩, -⟩ := places t
  congr 1
  funext a
  match a with
  | ⟨0, _⟩ => exact Fin.ext ((win0_1.rect_emb_val t (ix2 k n) 0).trans (by rw [p0]; show t.val % 4 * 1024 + k.val = 1024 * (t.val % 4) + k.val; omega))
  | ⟨1, _⟩ => exact Fin.ext ((win0_1.rect_emb_val t (ix2 k n) 1).trans (by rw [p1]; show 0 * 2048 + n.val = n.val; omega))

theorem block_res (t : Fin cfg0.N) (r : Fin 512) (n : Fin 2048) : iblk m c 2 t (ix2 r n) = m ((c : Thread nD τ).loc main_arg2) (ix2 (row t r) n) := by
  show V m c main_arg2 ((win0_2.rect t).emb (ix2 r n)) = _
  rw [V_main_arg2]
  obtain ⟨-, -, ⟨p0, p1⟩, -⟩ := places t
  congr 1
  funext a
  match a with
  | ⟨0, _⟩ => exact Fin.ext ((win0_2.rect_emb_val t (ix2 r n) 0).trans (by rw [p0]; show t.val / 4 * 512 + r.val = 512 * (t.val / 4) + r.val; omega))
  | ⟨1, _⟩ => exact Fin.ext ((win0_2.rect_emb_val t (ix2 r n) 1).trans (by rw [p1]; show 0 * 2048 + n.val = n.val; omega))

theorem block_g (t : Fin cfg0.N) (k : Fin 2048) : iblk m c 3 t (ix2 0 k) = m ((c : Thread nD τ).loc main_arg3) (ix1 k) := by
  refine Eq.trans ?_ (entry_gain m c k)
  show V m c main_v1 ((win0_3.rect t).emb (ix2 0 k)) = _
  obtain ⟨-, -, -, ⟨p0, p1⟩, -⟩ := places t
  congr 1
  funext a
  match a with
  | ⟨0, _⟩ => exact Fin.ext ((win0_3.rect_emb_val t (ix2 0 k) 0).trans (by rw [p0]; rfl))
  | ⟨1, _⟩ => exact Fin.ext ((win0_3.rect_emb_val t (ix2 0 k) 1).trans (by rw [p1]; show 0 * 2048 + k.val = k.val; omega))

/-- The arguments' entries as extended reals. -/
abbrev yAt (i : Fin 8192) (k : Fin 4096) : EReal := m ((c : Thread nD τ).loc main_arg0) (ix2 i k)
abbrev wAt (k : Fin 4096) (n : Fin 2048) : EReal := m ((c : Thread nD τ).loc main_arg1) (ix2 k n)
abbrev resAt (i : Fin 8192) (n : Fin 2048) : EReal := m ((c : Thread nD τ).loc main_arg2) (ix2 i n)

theorem row_before (t : Fin cfg0.N) (h0 : ¬t.val % 4 = 0) (r : Fin 512) : row (before t) r = row t r :=
  Fin.ext (show 512 * ((t.val - 1) / 4) + r.val = 512 * (t.val / 4) + r.val by omega)

/-- A point's stretch of the product, added to what the scratch held. -/
theorem step (t : Fin cfg0.N) (s : Vec Ideal S512x2048 .f32) (r : Fin 512) (n : Fin 2048) :
    k0_pay2 s (iblk m c 0 t) (iblk m c 1 t) (ix2 r n) = s (ix2 r n) + ∑ k : Fin 1024, yAt m c (row t r) (inner t k) * wAt m c (inner t k) n := by
  refine (add_apply _ _ _ r n).trans ?_
  simp only [block_y, block_w]

theorem start (t : Fin cfg0.N) (r : Fin 512) (n : Fin 2048) : k0_pay1 (iblk m c 2 t) (ix2 r n) = resAt m c (row t r) n :=
  (init_apply _ r n).trans (block_res m c t r n)

/-- The accumulator after each point: the residual plus the terms of the stretches so far. -/
theorem state (r : Fin 512) (n : Fin 2048) (t : Fin cfg0.N) : (outsAt0 m c t.val t.isLt).2 (ix2 r n)
    = resAt m c (row t r) n + upTo (fun k => yAt m c (row t r) k * wAt m c k n) (1024 * (t.val % 4 + 1)) := by
  refine accumulated (fun t => (outsAt0 m c t.val t.isLt).2 (ix2 r n)) (fun t => resAt m c (row t r) n)
    (fun t k => yAt m c (row t r) k * wAt m c k n) (fun t h0 => ?_) (fun t h0 => ?_)
    (fun t h0 => ⟨by rw [row_before t h0], by rw [row_before t h0]⟩) _ t rfl
  · rw [outsAt0_A m c t h0 (by omega)]
    dsimp only
    rw [scratch_first]
    exact (step m c t _ r n).trans (congrArg (· + _) (start m c t r n))
  · by_cases h1 : t.val % 4 = 3
    · rw [outsAt0_C m c t h0 h1]
      dsimp only
      rw [scratch_last]
      exact step m c t _ r n
    · rw [outsAt0_B m c t h0 h1]
      dsimp only
      rw [scratch_later]
      exact step m c t _ r n

/-- Row `i` of the residual plus the product. -/
def sumRow (i : Fin 8192) (n : Fin 2048) : EReal := resAt m c i n + dot (yAt m c i) (fun k => wAt m c k n)

/-- After a row block's last stretch the accumulator holds the whole sum. -/
theorem last_sum (t : Fin cfg0.N) (h1 : t.val % 4 = 3) (r : Fin 512) (n : Fin 2048) :
    k0_pay2 (outsAt0 m c (t.val - 1) (Nat.lt_of_le_of_lt (Nat.sub_le _ _) t.isLt)).2 (iblk m c 0 t) (iblk m c 1 t) (ix2 r n) = sumRow m c (row t r) n := by
  have h := state m c r n t
  rw [outsAt0_C m c t (by omega) h1] at h
  dsimp only at h
  rw [scratch_last] at h
  refine h.trans ?_
  rw [h1]
  exact congrArg (fun z => resAt m c (row t r) n + z) (upTo_all _)

/-- The whole result. -/
def result : Buf (Elt Ideal) ((c : Thread nD τ).loc main_v2) := fun i =>
  normed 0x45000000#32 (sumRow m c (i 0)) (fun k => m ((c : Thread nD τ).loc main_arg3) (ix1 k)) (i 1)

theorem out_eq (t : Fin cfg0.N) (h1 : t.val % 4 = 3) (r : Fin 512) (n : Fin 2048) : (outsAt0 m c t.val t.isLt).1 (ix2 r n)
    = normed 0x45000000#32 (sumRow m c (row t r)) (fun k => m ((c : Thread nD τ).loc main_arg3) (ix1 k)) n := by
  rw [outsAt0_C m c t (by omega) h1]
  dsimp only
  rw [out_last]
  refine (norm_apply _ _ r n).trans ?_
  simp only [last_sum m c t h1, block_g]

theorem flushed_eq (t : Fin cfg0.N) (hf : win0_4.flush t = true) : (dats m 0 c).flushed 4 t = (win0_4.blk t).view.read (Elt Ideal) (result m c) := by
  rw [Value.flushed4]
  funext y
  change S512x2048.Idx at y
  show (outsAt0 m c t.val t.isLt).1 y = result m c ((win0_4.rect t).emb y)
  obtain ⟨-, -, -, -, p0, p1⟩ := places t
  have e0 : ((win0_4.rect t).emb y) 0 = row t (y 0) :=
    Fin.ext ((win0_4.rect_emb_val t y 0).trans (by rw [p0]; show t.val / 4 * 512 + (y 0).val = 512 * (t.val / 4) + (y 0).val; omega))
  have e1 : ((win0_4.rect t).emb y) 1 = y 1 :=
    Fin.ext ((win0_4.rect_emb_val t y 1).trans (by rw [p1]; show 0 * 2048 + (y 1).val = (y 1).val; omega))
  unfold result
  rw [e0, e1]
  refine Eq.trans ?_ (out_eq m c t (flushes t hf) (y 0) (y 1))
  exact congrArg _ (eq_ix2 y)

theorem final : (dats m 0 c).arrAt 4 cfg0.N = result m c :=
  (dats m 0 c).arrAt_eq_of_cover 4 (result m c) (fun t hf => flushed_eq m c t hf) (fun i => (Value.covered_iff4 i).2 (by
    have h0 : (i 0).val < 8192 := (i 0).isLt; have h1 : (i 1).val < 2048 := (i 1).isLt; omega))
end
end Cert.Rows.Out
end
-- ==== Proof.OutRef.lean ====
/- The last projection's reference, entry by entry: the residual plus the product, then the rms norm of each row. -/
module

public import proofs.«01_k».proof.Proof.Rows
public import proofs.«01_k».proof.Proof.Gen.OutRefIdeal.Read

@[expose] public section
noncomputable section
namespace Cert.Rows.OutRef
open Cert.OutRefIdeal Cert.OutRefIdeal.Gen Cert.OutRefIdeal.Read Idealize.ShloMosaic Idealize.ShloMosaic.TcCoe

theorem result_apply (y : Vec Ideal S8192x4096 .bf16) (w : Vec Ideal S4096x2048 .f32) (x : Vec Ideal S8192x2048 .f32) (g : Vec Ideal S2048 .f32)
    (r : Fin 8192) (n : Fin 2048) :
    val_main_v15 (F := Ideal) y w x g (ix2 r n)
      = normed 0x45000000#32 (fun j => x (ix2 r j) + dot (fun k => y (ix2 r k)) (fun k => w (ix2 k j))) (fun k => g (ix1 k)) n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl
end Cert.Rows.OutRef
end
-- ==== Proof.OutClaims.lean ====
/- The claims about the last projection's call, put together. -/
module

public import proofs.«01_k».proof.Defs
public import proofs.«01_k».proof.Proof.OutArray
public import proofs.«01_k».proof.Proof.OutRef
public import proofs.«01_k».proof.Proof.Gen.OutRefIdeal.Run

@[expose] public section
noncomputable section
namespace Cert.Rows.Out
open Idealize.ShloMosaic Idealize.ShloMosaic.TcCoe Idealize.SL.Sem

theorem frame_reference : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

theorem algebraic : Cert.algebraic_OutIdeal_OutRefIdeal (hOutIdeal := Cert.OutIdeal.Gen.facts) (hOutRefIdeal := Cert.OutRefIdeal.Gen.facts) := by
  intro m ρ m' ρ' hpre hagree
  refine ⟨fun c => result m c, ?_, ?_⟩
  · exact (θ_run Cert.OutIdeal.defs _ _).mono (fun _ h c => ⟨(h c).1.trans (final m c), (h c).2⟩) (Cert.OutIdeal.Value.run_blocks (F := Ideal) m ρ)
  · refine (θ_run Cert.OutRefIdeal.defs _ _).mono (fun _ h c => ⟨(h c).1.trans ?_, (h c).2⟩) (Cert.OutRefIdeal.Value.run (F := Ideal) m' ρ')
    obtain ⟨a0, a1, a2, a3⟩ := hagree c
    rw [Cert.OutRefIdeal.Read.val_main_v15_eq, a0, a1, a2, a3]
    funext i
    exact (congrArg _ (eq_ix2 i)).trans (Cert.Rows.OutRef.result_apply _ _ _ _ (i 0) (i 1))
end Cert.Rows.Out
end
-- ==== Proof.HgOutBody.lean ====
/- What one grid point of the recurrence's output projection does: it adds a stretch of the product to the accumulator, which the residual starts. -/
module

public import proofs.«01_k».proof.Proof.OutBody
public import proofs.«01_k».proof.Proof.Gen.HgOutIdeal.Value

@[expose] public section
noncomputable section
namespace Cert.Rows.HgOut
open Cert.HgOutIdeal Cert.HgOutIdeal.Gen Idealize.ShloMosaic Idealize.ShloMosaic.TcCoe Idealize.SL.Sem
open Cert.Rows.Out (hz)

section
variable (c : Dev nD) (i : grid0.Coords) (a2 : Memref sig .tc .vmem S512x1024 .bf16) (h2 : a2.IsWhole) (a3 : Memref sig .tc .vmem S1024x2048 .bf16) (h3 : a3.IsWhole)
  (a4 : Memref sig .tc .vmem S512x2048 .f32) (h4 : a4.IsWhole) (a5 : Memref sig .tc .vmem S512x2048 .f32) (h5 : a5.IsWhole)
  (a6 : Memref sig .tc .vmem S512x2048 .f32) (h6 : a6.IsWhole)
  (y : Vec Ideal S512x1024 .bf16) (w : Vec Ideal S1024x2048 .bf16) (x : Vec Ideal S512x2048 .f32) (s : Vec Ideal S512x2048 .f32)

/-- The first stretch starts from the residual. -/
theorem scratch_first (hc0 : cond0_0 i) (hc1 : ¬cond0_1 i) : sout0_A_0 c i a2 h2 a3 h3 a4 h4 a5 h5 a6 h6 hc0 hc1 y w x = k0_pay2 (k0_pay1 x) y w := by
  unfold sout0_A_0
  rw [View.read_writes_eq_canon _ _ _ (scover0_A_0 c i a2 h2 a3 h3 a4 h4 a5 h5 a6 h6 hc0 hc1 y w x)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, View.ld_unit_zero (S := S512x2048) hz,
    View.ld_unit_zero (S := S512x1024) hz, View.ld_unit_zero (S := S1024x2048) hz]

/-- A later stretch adds to what the scratch holds. -/
theorem scratch_later (hc0 : ¬cond0_0 i) (hc1 : ¬cond0_1 i) : sout0_B_0 c i a2 h2 a3 h3 a4 h4 a5 h5 a6 h6 hc0 hc1 y w x s = k0_pay2 s y w := by
  unfold sout0_B_0
  rw [View.read_writes_eq_canon _ _ _ (scover0_B_0 c i a2 h2 a3 h3 a4 h4 a5 h5 a6 h6 hc0 hc1 y w x s)]
  unfold kernelRun0_B
  dsimp only
  sl_unfold_words
  rw [View.canon_cons_unit_zero (S := S512x2048) hz]
  simp only [View.readAt_eq_ld, h2.read_unread, h3.read_unread, h6.read_unread, View.ld_unit_zero (S := S512x2048) hz,
    View.ld_unit_zero (S := S512x1024) hz, View.ld_unit_zero (S := S1024x2048) hz]

/-- The last stretch adds too. -/
theorem scratch_last (hc0 : ¬cond0_0 i) (hc1 : cond0_1 i) : sout0_C_0 c i a2 h2 a3 h3 a4 h4 a5 h5 a6 h6 hc0 hc1 y w x s = k0_pay2 s y w := by
  unfold sout0_C_0
  rw [View.read_writes_eq_canon _ _ _ (scover0_C_0 c i a2 h2 a3 h3 a4 h4 a5 h5 a6 h6 hc0 hc1 y w x s)]
  unfold kernelRun0_C
  dsimp only
  sl_unfold_words
  rw [View.canon_cons_unit_zero (S := S512x2048) hz]
  simp only [View.readAt_eq_ld, h2.read_unread, h3.read_unread, h6.read_unread, View.ld_unit_zero (S := S512x2048) hz,
    View.ld_unit_zero (S := S512x1024) hz, View.ld_unit_zero (S := S1024x2048) hz]

/-- After the last stretch the output block is the accumulator. -/
theorem out_last (hc0 : ¬cond0_0 i) (hc1 : cond0_1 i) : out0_C_3 c i a2 h2 a3 h3 a4 h4 a5 h5 a6 h6 hc0 hc1 y w x s = k0_pay2 s y w := by
  unfold out0_C_3
  rw [View.read_writes_eq_canon _ _ _ (cover0_C_3 c i a2 h2 a3 h3 a4 h4 a5 h5 a6 h6 hc0 hc1 y w x s)]
  unfold kernelRun0_C
  dsimp only
  sl_unfold_words
  rw [View.canon_cons_unit_zero (S := S512x2048) hz, View.readCov_unit_zero (S := S512x2048) _ hz]
  simp only [View.readAt_eq_ld, h2.read_unread, h3.read_unread, h6.read_unread, View.ld_unit_zero (S := S512x2048) hz,
    View.ld_unit_zero (S := S512x1024) hz, View.ld_unit_zero (S := S1024x2048) hz]
end
end Cert.Rows.HgOut
end
-- ==== Proof.HgOutArray.lean ====
/- From the grid points of the recurrence's output projection to its whole result: the residual plus the product. -/
module

public import proofs.«01_k».proof.Proof.HgOutBody

@[expose] public section
set_option maxRecDepth 16384
noncomputable section
namespace Cert.Rows.HgOut
open Cert.HgOutIdeal Cert.HgOutIdeal.Gen Idealize.ShloMosaic Idealize.ShloMosaic.TcCoe Idealize.SL.Sem

/-- Point `t` is row block `t / 4` and stretch `t % 4`: where its blocks lie. -/
theorem places : ∀ t : Fin grid0.N,
    (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = t.val / 4 ∧ win0_3.index t 1 = 0) := by
  decide +kernel

/-- The output block is written back after the last stretch only. -/
theorem flushes : ∀ t : Fin grid0.N, win0_3.flush t = true → t.val % 4 = 3 := by
  decide +kernel

section
variable (m : (ℓ : Loc nD τ sig) → Buf (Elt Ideal) ℓ) (c : Dev nD)

/-- The arguments' entries as extended reals. -/
abbrev yAt (i : Fin 8192) (k : Fin 4096) : EReal := m ((c : Thread nD τ).loc main_arg0) (ix2 i k)
abbrev wAt (k : Fin 4096) (n : Fin 2048) : EReal := m ((c : Thread nD τ).loc main_arg1) (ix2 k n)
abbrev resAt (i : Fin 8192) (n : Fin 2048) : EReal := m ((c : Thread nD τ).loc main_arg2) (ix2 i n)

theorem entry_weight (k : Fin 4096) (n : Fin 2048) : V m c main_v0 (ix2 k n) = wAt m c k n := by
  show StableHlo.after hostOps0 (fun b => m (c, b)) (Proc.devRef .tc main_v0) (ix2 k n) = _
  after_results
  rfl

/-- Point `t`'s part of the rows, and its stretch of the contracted columns. -/
def row (t : Fin cfg0.N) (r : Fin 512) : Fin 8192 := ⟨512 * (t.val / 4) + r.val, by have h : t.val < cfg0.N := t.isLt; have hN : cfg0.N = 64 := N_0; omega⟩
def inner (t : Fin cfg0.N) (k : Fin 1024) : Fin 4096 := ⟨1024 * (t.val % 4) + k.val, by omega⟩

theorem row_before (t : Fin cfg0.N) (h0 : ¬t.val % 4 = 0) (r : Fin 512) : row (before t) r = row t r :=
  Fin.ext (show 512 * ((t.val - 1) / 4) + r.val = 512 * (t.val / 4) + r.val by omega)

theorem block_y (t : Fin cfg0.N) (r : Fin 512) (k : Fin 1024) : iblk m c 0 t (ix2 r k) = yAt m c (row t r) (inner t k) := by
  show V m c main_arg0 ((win0_0.rect t).emb (ix2 r k)) = m ((c : Thread nD τ).loc main_arg0) (ix2 (row t r) (inner t k))
  rw [V_main_arg0]
  obtain ⟨⟨p0, p1⟩, -⟩ := places t
  congr 1
  funext a
  match a with
  | ⟨0, _⟩ => exact Fin.ext ((win0_0.rect_emb_val t (ix2 r k) 0).trans (by rw [p0]; show t.val / 4 * 512 + r.val = 512 * (t.val / 4) + r.val; omega))
  | ⟨1, _⟩ => exact Fin.ext ((win0_0.rect_emb_val t (ix2 r k) 1).trans (by rw [p1]; show t.val % 4 * 1024 + k.val = 1024 * (t.val % 4) + k.val; omega))

theorem block_w (t : Fin cfg0.N) (k : Fin 1024) (n : Fin 2048) : iblk m c 1 t (ix2 k n) = wAt m c (inner t k) n := by
  refine Eq.trans ?_ (entry_weight m c (inner t k) n)
  show V m c main_v0 ((win0_1.rect t).emb (ix2 k n)) = _
  obtain ⟨-, ⟨p0, p1⟩, -⟩ := places t
  congr 1
  funext a
  match a with
  | ⟨0, _⟩ => exact Fin.ext ((win0_1.rect_emb_val t (ix2 k n) 0).trans (by rw [p0]; show t.val % 4 * 1024 + k.val = 1024 * (t.val % 4) + k.val; omega))
  | ⟨1, _⟩ => exact Fin.ext ((win0_1.rect_emb_val t (ix2 k n) 1).trans (by rw [p1]; show 0 * 2048 + n.val = n.val; omega))

theorem block_res (t : Fin cfg0.N) (r : Fin 512) (n : Fin 2048) : iblk m c 2 t (ix2 r n) = resAt m c (row t r) n := by
  show V m c main_arg2 ((win0_2.rect t).emb (ix2 r n)) = m ((c : Thread nD τ).loc main_arg2) (ix2 (row t r) n)
  rw [V_main_arg2]
  obtain ⟨-, -, ⟨p0, p1⟩, -⟩ := places t
  congr 1
  funext a
  match a with
  | ⟨0, _⟩ => exact Fin.ext ((win0_2.rect_emb_val t (ix2 r n) 0).trans (by rw [p0]; show t.val / 4 * 512 + r.val = 512 * (t.val / 4) + r.val; omega))
  | ⟨1, _⟩ => exact Fin.ext ((win0_2.rect_emb_val t (ix2 r n) 1).trans (by rw [p1]; show 0 * 2048 + n.val = n.val; omega))

/-- A point's stretch of the product, added to what the scratch held. -/
theorem step (t : Fin cfg0.N) (s : Vec Ideal S512x2048 .f32) (r : Fin 512) (n : Fin 2048) :
    k0_pay2 s (iblk m c 0 t) (iblk m c 1 t) (ix2 r n) = s (ix2 r n) + ∑ k : Fin 1024, yAt m c (row t r) (inner t k) * wAt m c (inner t k) n := by
  refine (Out.add_apply s (iblk m c 0 t) (iblk m c 1 t) r n).trans ?_
  simp only [block_y, block_w]

theorem start (t : Fin cfg0.N) (r : Fin 512) (n : Fin 2048) : k0_pay1 (iblk m c 2 t) (ix2 r n) = resAt m c (row t r) n :=
  (Out.init_apply (iblk m c 2 t) r n).trans (block_res m c t r n)

/-- The accumulator after each point: the residual plus the terms of the stretches so far. -/
theorem state (r : Fin 512) (n : Fin 2048) (t : Fin cfg0.N) : (outsAt0 m c t.val t.isLt).2 (ix2 r n)
    = resAt m c (row t r) n + upTo (fun k => yAt m c (row t r) k * wAt m c k n) (1024 * (t.val % 4 + 1)) := by
  refine accumulated (fun t => (outsAt0 m c t.val t.isLt).2 (ix2 r n)) (fun t => resAt m c (row t r) n)
    (fun t k => yAt m c (row t r) k * wAt m c k n) (fun t h0 => ?_) (fun t h0 => ?_)
    (fun t h0 => ⟨by rw [row_before t h0], by rw [row_before t h0]⟩) _ t rfl
  · rw [outsAt0_A m c t h0 (by omega)]
    dsimp only
    rw [scratch_first]
    exact (step m c t _ r n).trans (congrArg (· + _) (start m c t r n))
  · by_cases h1 : t.val % 4 = 3
    · rw [outsAt0_C m c t h0 h1]
      dsimp only
      rw [scratch_last]
      exact step m c t _ r n
    · rw [outsAt0_B m c t h0 h1]
      dsimp only
      rw [scratch_later]
      exact step m c t _ r n

/-- The whole result. -/
def result : Buf (Elt Ideal) ((c : Thread nD τ).loc main_v1) := fun i => resAt m c (i 0) (i 1) + dot (yAt m c (i 0)) (fun k => wAt m c k (i 1))

/-- After a row block's last stretch the output block holds the whole sum: it is what the accumulator then holds. -/
theorem out_eq (t : Fin cfg0.N) (h1 : t.val % 4 = 3) (r : Fin 512) (n : Fin 2048) :
    (outsAt0 m c t.val t.isLt).1 (ix2 r n) = resAt m c (row t r) n + dot (yAt m c (row t r)) (fun k => wAt m c k n) := by
  have h := state m c r n t
  have e : (outsAt0 m c t.val t.isLt).1 = (outsAt0 m c t.val t.isLt).2 := by
    rw [outsAt0_C m c t (by omega) h1]
    dsimp only
    rw [out_last, scratch_last]
  rw [e]
  refine h.trans ?_
  rw [h1]
  exact congrArg (fun z => resAt m c (row t r) n + z) (upTo_all _)

theorem flushed_eq (t : Fin cfg0.N) (hf : win0_3.flush t = true) : (dats m 0 c).flushed 3 t = (win0_3.blk t).view.read (Elt Ideal) (result m c) := by
  rw [Value.flushed3]
  funext y
  change S512x2048.Idx at y
  show (outsAt0 m c t.val t.isLt).1 y = result m c ((win0_3.rect t).emb y)
  obtain ⟨-, -, -, p0, p1⟩ := places t
  have e0 : ((win0_3.rect t).emb y) 0 = row t (y 0) :=
    Fin.ext ((win0_3.rect_emb_val t y 0).trans (by rw [p0]; show t.val / 4 * 512 + (y 0).val = 512 * (t.val / 4) + (y 0).val; omega))
  have e1 : ((win0_3.rect t).emb y) 1 = y 1 :=
    Fin.ext ((win0_3.rect_emb_val t y 1).trans (by rw [p1]; show 0 * 2048 + (y 1).val = (y 1).val; omega))
  unfold result
  rw [e0, e1]
  refine Eq.trans ?_ (out_eq m c t (flushes t hf) (y 0) (y 1))
  exact congrArg _ (eq_ix2 y)

theorem final : (dats m 0 c).arrAt 3 cfg0.N = result m c :=
  (dats m 0 c).arrAt_eq_of_cover 3 (result m c) (fun t hf => flushed_eq m c t hf) (fun i => (Value.covered_iff3 i).2 (by
    have h0 : (i 0).val < 8192 := (i 0).isLt; have h1 : (i 1).val < 2048 := (i 1).isLt; omega))
end
end Cert.Rows.HgOut
end
-- ==== Proof.HgOutClaims.lean ====
/- The claims about the recurrence's output projection, put together. -/
module

public import proofs.«01_k».proof.Defs
public import proofs.«01_k».proof.Proof.HgOutArray
public import proofs.«01_k».proof.Proof.Gen.HgOutRefIdeal.Read
public import proofs.«01_k».proof.Proof.Gen.HgOutRefIdeal.Run

@[expose] public section
noncomputable section
namespace Cert.Rows.HgOut
open Idealize.ShloMosaic Idealize.ShloMosaic.TcCoe Idealize.SL.Sem

section
open Cert.HgOutRefIdeal Cert.HgOutRefIdeal.Gen Cert.HgOutRefIdeal.Read

/-- The reference, entry by entry. -/
theorem reference_apply (y : Vec Ideal S8192x4096 .bf16) (w : Vec Ideal S4096x2048 .f32) (x : Vec Ideal S8192x2048 .f32) (r : Fin 8192) (n : Fin 2048) :
    val_main_v2 (F := Ideal) y w x (ix2 r n) = x (ix2 r n) + dot (fun k => y (ix2 r k)) (fun k => w (ix2 k n)) := by
  pointwise [val_main_v2, val_main_v1, val_main_v0]
  rfl
end

theorem frame_reference : Cert.quiescent_HgOutRefIdeal (hHgOutRefIdeal := Cert.HgOutRefIdeal.Gen.facts) := fun m ρ _ =>
  (θ_run Cert.HgOutRefIdeal.defs _ _).mono (fun r h => ⟨fun c => (h c).2, sem_eq_zero_of_no_sems (by decide) r.2⟩)
    (Cert.HgOutRefIdeal.Value.run (F := Ideal) m ρ)

theorem algebraic : Cert.algebraic_HgOutIdeal_HgOutRefIdeal (hHgOutIdeal := Cert.HgOutIdeal.Gen.facts)
    (hHgOutRefIdeal := Cert.HgOutRefIdeal.Gen.facts) := by
  intro m ρ m' ρ' hpre hagree
  refine ⟨fun c => result m c, ?_, ?_⟩
  · exact (θ_run Cert.HgOutIdeal.defs _ _).mono (fun _ h c => ⟨(h c).1.trans (final m c), (h c).2⟩) (Cert.HgOutIdeal.Value.run_blocks (F := Ideal) m ρ)
  · refine (θ_run Cert.HgOutRefIdeal.defs _ _).mono (fun _ h c => ⟨(h c).1.trans ?_, (h c).2⟩) (Cert.HgOutRefIdeal.Value.run (F := Ideal) m' ρ')
    obtain ⟨a0, a1, a2⟩ := hagree c
    rw [Cert.HgOutRefIdeal.Read.val_main_v2_eq, a0, a1, a2]
    funext i
    exact (congrArg _ (eq_ix2 i)).trans (reference_apply _ _ _ (i 0) (i 1))
end Cert.Rows.HgOut
end
-- ==== Proof.ProjBody.lean ====
/- What one grid point of the recurrence's value projection computes: its block's rows normalised, times a block of columns. -/
module

public import proofs.«01_k».proof.Proof.GateBody
public import proofs.«01_k».proof.Proof.Gen.ProjIdeal.Value

@[expose] public section
noncomputable section
namespace Cert.Rows.Proj
open Cert.ProjIdeal Cert.ProjIdeal.Gen Idealize.ShloMosaic Idealize.ShloMosaic.TcCoe Idealize.SL.Sem
open Cert.Rows.Gate (hz)

theorem product_apply (a : Vec Ideal S512x2048 .bf16) (w : Vec Ideal S2048x1024 .bf16) (r : Fin 512) (n : Fin 1024) :
    k0_pay2 a w (ix2 r n) = dot (fun k => a (ix2 r k)) (fun k => w (ix2 k n)) := by
  pointwise [k0_pay2]
  rfl

section
variable (c : Dev nD) (i : grid0.Coords) (a2 : Memref sig .tc .vmem S512x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S512x1024 .bf16) (h5 : a5.IsWhole)
  (a6 : Memref sig .tc .vmem S512x2048 .bf16) (h6 : a6.IsWhole)
  (x : Vec Ideal S512x2048 .f32) (g : Vec Ideal S1x2048 .f32) (w : Vec Ideal S2048x1024 .bf16) (s : Vec Ideal S512x2048 .bf16)

/-- The first column block of a row block stores the normalised rows. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_cons_unit_zero (S := S512x2048) hz]
  simp only [View.readAt_eq_ld, h2.read_unread, h3.read_unread, View.ld_unit_zero (S := S512x2048) hz, View.ld_unit_zero (S := S1x2048) hz]

/-- It stores the product of the rows just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_cons_unit_zero (S := S512x1024) hz, View.readCov_unit_zero (S := S512x2048) _ hz]
  simp only [View.readAt_eq_ld, h2.read_unread, h3.read_unread, h4.read_unread, View.ld_unit_zero (S := S512x2048) hz, View.ld_unit_zero (S := S1x2048) hz,
    View.ld_unit_zero (S := S2048x1024) hz]

/-- The other column blocks store the product of the rows the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_cons_unit_zero (S := S512x1024) hz]
  simp only [View.readAt_eq_ld, h4.read_unread, h6.read_unread, View.ld_unit_zero (S := S512x2048) hz, View.ld_unit_zero (S := S2048x1024) hz]
end
end Cert.Rows.Proj
end
-- ==== Proof.ProjArray.lean ====
/- From the grid points of the recurrence's value projection to its whole result: entry `(i, n)` is the normalised row `i` times column `n`. -/
module

public import proofs.«01_k».proof.Proof.ProjBody

@[expose] public section
set_option maxRecDepth 16384
noncomputable section
namespace Cert.Rows.Proj
open Cert.ProjIdeal Cert.ProjIdeal.Gen Idealize.ShloMosaic Idealize.ShloMosaic.TcCoe Idealize.SL.Sem

/-- Point `t` is row block `t / 4` and column block `t % 4`: where its blocks lie. -/
theorem places : ∀ t : Fin grid0.N,
    (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val / 4 ∧ win0_3.index t 1 = t.val % 4) := by
  decide +kernel

section
variable (m : (ℓ : Loc nD τ sig) → Buf (Elt Ideal) ℓ) (c : Dev nD)

/-- The arguments' entries as extended reals. -/
abbrev xAt (i : Fin 8192) (k : Fin 2048) : EReal := m ((c : Thread nD τ).loc main_arg0) (ix2 i k)
abbrev gAt (k : Fin 2048) : EReal := m ((c : Thread nD τ).loc main_arg1) (ix1 k)
abbrev wAt (k : Fin 2048) (n : Fin 4096) : EReal := m ((c : Thread nD τ).loc main_arg2) (ix2 k n)

theorem entry_gain (k : Fin 2048) : V m c main_v0 (ix2 0 k) = gAt m c k := by
  show StableHlo.after hostOps0 (fun b => m (c, b)) (Proc.devRef .tc main_v0) (ix2 0 k) = m ((c : Thread nD τ).loc main_arg1) (ix1 k)
  after_results
  pointwise

theorem entry_weight (k : Fin 2048) (n : Fin 4096) : V m c main_v1 (ix2 k n) = wAt m c k n := by
  show StableHlo.after hostOps0 (fun b => m (c, b)) (Proc.devRef .tc main_v1) (ix2 k n) = _
  after_results
  rfl

/-- Point `t`'s part of the rows and of the columns. -/
def row (t : Fin cfg0.N) (r : Fin 512) : Fin 8192 := ⟨512 * (t.val / 4) + r.val, by have h : t.val < cfg0.N := t.isLt; have hN : cfg0.N = 64 := N_0; omega⟩
def col (t : Fin cfg0.N) (n : Fin 1024) : Fin 4096 := ⟨1024 * (t.val % 4) + n.val, by omega⟩

theorem row_before (t : Fin cfg0.N) (h0 : ¬t.val % 4 = 0) (r : Fin 512) : row (before t) r = row t r :=
  Fin.ext (show 512 * ((t.val - 1) / 4) + r.val = 512 * (t.val / 4) + r.val by omega)

theorem block_x (t : Fin cfg0.N) (r : Fin 512) (k : Fin 2048) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val / 4 * 512 + r.val = 512 * (t.val / 4) + r.val; omega)
  · exact (win0_0.rect_emb_val t (ix2 r k) 1).trans (by rw [p1]; show 0 * 2048 + k.val = k.val; omega)

theorem block_g (t : Fin cfg0.N) (k : Fin 2048) : iblk m c 1 t (ix2 0 k) = gAt m c k := by
  obtain ⟨-, ⟨p0, p1⟩, -⟩ := places t
  refine (congrArg (V m c main_v0) (idx_eq ((win0_1.rect t).emb (ix2 0 k)) 0 k ?_ ?_)).trans (entry_gain m c k)
  · exact (win0_1.rect_emb_val t (ix2 0 k) 0).trans (by rw [p0]; rfl)
  · exact (win0_1.rect_emb_val t (ix2 0 k) 1).trans (by rw [p1]; show 0 * 2048 + k.val = k.val; omega)

theorem block_w (t : Fin cfg0.N) (k : Fin 2048) (n : Fin 1024) : iblk m c 2 t (ix2 k n) = wAt m c k (col t n) := by
  obtain ⟨-, -, ⟨p0, p1⟩, -⟩ := places t
  refine (congrArg (V m c main_v1) (idx_eq ((win0_2.rect t).emb (ix2 k n)) k (col t n) ?_ ?_)).trans (entry_weight m c k (col t n))
  · exact (win0_2.rect_emb_val t (ix2 k n) 0).trans (by rw [p0]; show 0 * 2048 + k.val = k.val; omega)
  · exact (win0_2.rect_emb_val t (ix2 k n) 1).trans (by rw [p1]; show t.val % 4 * 1024 + n.val = 1024 * (t.val % 4) + n.val; omega)

/-- Row `i` of the argument after its norm. -/
def rowOf (i : Fin 8192) : Fin 2048 → EReal := normed 0x45000000#32 (xAt m c i) (gAt m c)

theorem block_norm (t : Fin cfg0.N) (r : Fin 512) (k : Fin 2048) : k0_pay1 (iblk m c 0 t) (iblk m c 1 t) (ix2 r k) = rowOf m c (row t r) k :=
  (Gate.norm_apply (iblk m c 0 t) (iblk m c 1 t) r k).trans (by simp only [block_x, block_g]; rfl)

/-- After each point the scratch holds its row block, normalised. -/
theorem state (r : Fin 512) (k : Fin 2048) (t : Fin cfg0.N) : (outsAt0 m c t.val t.isLt).2 (ix2 r k) = rowOf m c (row t r) k := by
  refine kept 4 (fun t => (outsAt0 m c t.val t.isLt).2 (ix2 r k)) (fun t => rowOf m c (row t r) k) (fun t h0 => ?_) (fun t h0 => ?_)
    (fun t h0 => by rw [row_before t h0]) _ t rfl
  · rw [outsAt0_A m c t h0]
    dsimp only
    rw [scratch_first]
    exact block_norm m c t r k
  · rw [outsAt0_B m c t h0]
    rfl

/-- What each point computes, entry by entry. -/
theorem out_eq (t : Fin cfg0.N) (r : Fin 512) (n : Fin 1024) :
    (outsAt0 m c t.val t.isLt).1 (ix2 r n) = dot (rowOf m c (row t r)) (fun k => wAt m c k (col t n)) := by
  by_cases h0 : t.val % 4 = 0
  · rw [outsAt0_A m c t h0]
    dsimp only
    rw [out_first]
    refine (product_apply _ _ r n).trans ?_
    simp only [block_norm, block_w]
  · have e : ∀ k, (outsAt0 m c (t.val - 1) (Nat.lt_of_le_of_lt (Nat.sub_le _ _) t.isLt)).2 (ix2 r k) = rowOf m c (row t r) k := fun k =>
      (state m c r k (before t)).trans (by rw [row_before t h0])
    rw [outsAt0_B m c t h0]
    dsimp only
    rw [out_later]
    refine (product_apply _ _ r n).trans ?_
    simp only [e, block_w]

/-- The whole result. -/
def result : Buf (Elt Ideal) ((c : Thread nD τ).loc main_v2) := fun i => dot (rowOf m c (i 0)) (fun k => wAt m c k (i 1))

theorem flushed_eq (t : Fin cfg0.N) : (dats m 0 c).flushed 3 t = (win0_3.blk t).view.read (Elt Ideal) (result m c) := by
  rw [Value.flushed3]
  funext y
  change S512x1024.Idx at y
  show (outsAt0 m c t.val t.isLt).1 y = result m c ((win0_3.rect t).emb y)
  obtain ⟨-, -, -, p0, p1⟩ := places t
  have e : (win0_3.rect t).emb y = ix2 (row t (y 0)) (col t (y 1)) := idx_eq _ _ _
    ((win0_3.rect_emb_val t y 0).trans (by rw [p0]; show t.val / 4 * 512 + (y 0).val = 512 * (t.val / 4) + (y 0).val; omega))
    ((win0_3.rect_emb_val t y 1).trans (by rw [p1]; show t.val % 4 * 1024 + (y 1).val = 1024 * (t.val % 4) + (y 1).val; omega))
  rw [e]
  exact (congrArg _ (eq_ix2 y)).trans (out_eq m c t (y 0) (y 1))

theorem final : (dats m 0 c).arrAt 3 cfg0.N = result m c :=
  (dats m 0 c).arrAt_eq_of_cover 3 (result m c) (fun t _ => flushed_eq m c t) (fun i => (Value.covered_iff3 i).2 (by
    have h0 : (i 0).val < 8192 := (i 0).isLt; have h1 : (i 1).val < 4096 := (i 1).isLt; omega))
end
end Cert.Rows.Proj
end
-- ==== Proof.ProjClaims.lean ====
/- The claims about the recurrence's value projection, put together. -/
module

public import proofs.«01_k».proof.Defs
public import proofs.«01_k».proof.Proof.ProjArray
public import proofs.«01_k».proof.Proof.Gen.ProjRefIdeal.Read
public import proofs.«01_k».proof.Proof.Gen.ProjRefIdeal.Run

@[expose] public section
noncomputable section
namespace Cert.Rows.Proj
open Idealize.ShloMosaic Idealize.ShloMosaic.TcCoe Idealize.SL.Sem

section
open Cert.ProjRefIdeal Cert.ProjRefIdeal.Gen Cert.ProjRefIdeal.Read

/-- The reference, entry by entry. -/
theorem reference_apply (x : Vec Ideal S8192x2048 .f32) (g : Vec Ideal S2048 .f32) (w : Vec Ideal S2048x4096 .f32) (r : Fin 8192) (n : Fin 4096) :
    val_main_v14 (F := Ideal) x g w (ix2 r n) = dot (normed 0x45000000#32 (fun k => x (ix2 r k)) (fun k => g (ix1 k))) (fun k => w (ix2 k n)) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl
end

theorem frame_reference : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem algebraic : Cert.algebraic_ProjIdeal_ProjRefIdeal (hProjIdeal := Cert.ProjIdeal.Gen.facts) (hProjRefIdeal := Cert.ProjRefIdeal.Gen.facts) := by
  intro m ρ m' ρ' hpre hagree
  refine ⟨fun c => result m c, ?_, ?_⟩
  · exact (θ_run Cert.ProjIdeal.defs _ _).mono (fun _ h c => ⟨(h c).1.trans (final m c), (h c).2⟩) (Cert.ProjIdeal.Value.run_blocks (F := Ideal) m ρ)
  · refine (θ_run Cert.ProjRefIdeal.defs _ _).mono (fun _ h c => ⟨(h c).1.trans ?_, (h c).2⟩) (Cert.ProjRefIdeal.Value.run (F := Ideal) m' ρ')
    obtain ⟨a0, a1, a2⟩ := hagree c
    rw [Cert.ProjRefIdeal.Read.val_main_v14_eq, a0, a1, a2]
    funext i
    exact (congrArg _ (eq_ix2 i)).trans (reference_apply _ _ _ (i 0) (i 1))
end Cert.Rows.Proj
end
-- ==== Proof.QueryBody.lean ====
/- What one grid point of the recurrence's query projection computes: its block's rows normalised, times a block of columns. -/
module

public import proofs.«01_k».proof.Proof.GateBody
public import proofs.«01_k».proof.Proof.Gen.QueryIdeal.Value

@[expose] public section
noncomputable section
namespace Cert.Rows.Query
open Cert.QueryIdeal Cert.QueryIdeal.Gen Idealize.ShloMosaic Idealize.ShloMosaic.TcCoe Idealize.SL.Sem
open Cert.Rows.Gate (hz)

theorem product_apply (a : Vec Ideal S512x2048 .bf16) (w : Vec Ideal S2048x1024 .bf16) (r : Fin 512) (n : Fin 1024) :
    k0_pay2 a w (ix2 r n) = dot (fun k => a (ix2 r k)) (fun k => w (ix2 k n)) := by
  pointwise [k0_pay2]
  rfl

section
variable (c : Dev nD) (i : grid0.Coords) (a2 : Memref sig .tc .vmem S512x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S512x1024 .bf16) (h5 : a5.IsWhole)
  (a6 : Memref sig .tc .vmem S512x2048 .bf16) (h6 : a6.IsWhole)
  (x : Vec Ideal S512x2048 .f32) (g : Vec Ideal S1x2048 .f32) (w : Vec Ideal S2048x1024 .bf16) (s : Vec Ideal S512x2048 .bf16)

/-- The first column block of a row block stores the normalised rows. -/
theorem scratch_first (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_cons_unit_zero (S := S512x2048) hz]
  simp only [View.readAt_eq_ld, h2.read_unread, h3.read_unread, View.ld_unit_zero (S := S512x2048) hz, View.ld_unit_zero (S := S1x2048) hz]

/-- It stores the product of the rows just normalised. -/
theorem out_first (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_cons_unit_zero (S := S512x1024) hz, View.readCov_unit_zero (S := S512x2048) _ hz]
  simp only [View.readAt_eq_ld, h2.read_unread, h3.read_unread, h4.read_unread, View.ld_unit_zero (S := S512x2048) hz, View.ld_unit_zero (S := S1x2048) hz,
    View.ld_unit_zero (S := S2048x1024) hz]

/-- The other column blocks store the product of the rows the scratch holds. -/
theorem out_later (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_cons_unit_zero (S := S512x1024) hz]
  simp only [View.readAt_eq_ld, h4.read_unread, h6.read_unread, View.ld_unit_zero (S := S512x2048) hz, View.ld_unit_zero (S := S2048x1024) hz]
end
end Cert.Rows.Query
end
-- ==== Proof.QueryArray.lean ====
/- From the grid points of the recurrence's query projection to its whole result: entry `(i, n)` is the normalised row `i` times column `n`. -/
module

public import proofs.«01_k».proof.Proof.QueryBody

@[expose] public section
set_option maxRecDepth 16384
noncomputable section
namespace Cert.Rows.Query
open Cert.QueryIdeal Cert.QueryIdeal.Gen Idealize.ShloMosaic Idealize.ShloMosaic.TcCoe Idealize.SL.Sem

/-- Point `t` is row block `t / 2` and column block `t % 2`: where its blocks lie. -/
theorem places : ∀ t : Fin grid0.N,
    (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = t.val / 2 ∧ win0_3.index t 1 = t.val % 2) := by
  decide +kernel

section
variable (m : (ℓ : Loc nD τ sig) → Buf (Elt Ideal) ℓ) (c : Dev nD)

/-- The arguments' entries as extended reals. -/
abbrev xAt (i : Fin 8192) (k : Fin 2048) : EReal := m ((c : Thread nD τ).loc main_arg0) (ix2 i k)
abbrev gAt (k : Fin 2048) : EReal := m ((c : Thread nD τ).loc main_arg1) (ix1 k)
abbrev wAt (k : Fin 2048) (n : Fin 2048) : EReal := m ((c : Thread nD τ).loc main_arg2) (ix2 k n)

theorem entry_gain (k : Fin 2048) : V m c main_v0 (ix2 0 k) = gAt m c k := by
  show StableHlo.after hostOps0 (fun b => m (c, b)) (Proc.devRef .tc main_v0) (ix2 0 k) = m ((c : Thread nD τ).loc main_arg1) (ix1 k)
  after_results
  pointwise

theorem entry_weight (k : Fin 2048) (n : Fin 2048) : V m c main_v1 (ix2 k n) = wAt m c k n := by
  show StableHlo.after hostOps0 (fun b => m (c, b)) (Proc.devRef .tc main_v1) (ix2 k n) = _
  after_results
  rfl

/-- Point `t`'s part of the rows and of the columns. -/
def row (t : Fin cfg0.N) (r : Fin 512) : Fin 8192 := ⟨512 * (t.val / 2) + r.val, by have h : t.val < cfg0.N := t.isLt; have hN : cfg0.N = 32 := N_0; omega⟩
def col (t : Fin cfg0.N) (n : Fin 1024) : Fin 2048 := ⟨1024 * (t.val % 2) + n.val, by omega⟩

theorem row_before (t : Fin cfg0.N) (h0 : ¬t.val % 2 = 0) (r : Fin 512) : row (before t) r = row t r :=
  Fin.ext (show 512 * ((t.val - 1) / 2) + r.val = 512 * (t.val / 2) + r.val by omega)

theorem block_x (t : Fin cfg0.N) (r : Fin 512) (k : Fin 2048) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val / 2 * 512 + r.val = 512 * (t.val / 2) + r.val; omega)
  · exact (win0_0.rect_emb_val t (ix2 r k) 1).trans (by rw [p1]; show 0 * 2048 + k.val = k.val; omega)

theorem block_g (t : Fin cfg0.N) (k : Fin 2048) : iblk m c 1 t (ix2 0 k) = gAt m c k := by
  obtain ⟨-, ⟨p0, p1⟩, -⟩ := places t
  refine (congrArg (V m c main_v0) (idx_eq ((win0_1.rect t).emb (ix2 0 k)) 0 k ?_ ?_)).trans (entry_gain m c k)
  · exact (win0_1.rect_emb_val t (ix2 0 k) 0).trans (by rw [p0]; rfl)
  · exact (win0_1.rect_emb_val t (ix2 0 k) 1).trans (by rw [p1]; show 0 * 2048 + k.val = k.val; omega)

theorem block_w (t : Fin cfg0.N) (k : Fin 2048) (n : Fin 1024) : iblk m c 2 t (ix2 k n) = wAt m c k (col t n) := by
  obtain ⟨-, -, ⟨p0, p1⟩, -⟩ := places t
  refine (congrArg (V m c main_v1) (idx_eq ((win0_2.rect t).emb (ix2 k n)) k (col t n) ?_ ?_)).trans (entry_weight m c k (col t n))
  · exact (win0_2.rect_emb_val t (ix2 k n) 0).trans (by rw [p0]; show 0 * 2048 + k.val = k.val; omega)
  · exact (win0_2.rect_emb_val t (ix2 k n) 1).trans (by rw [p1]; show t.val % 2 * 1024 + n.val = 1024 * (t.val % 2) + n.val; omega)

/-- Row `i` of the argument after its norm. -/
def rowOf (i : Fin 8192) : Fin 2048 → EReal := normed 0x45000000#32 (xAt m c i) (gAt m c)

theorem block_norm (t : Fin cfg0.N) (r : Fin 512) (k : Fin 2048) : k0_pay1 (iblk m c 0 t) (iblk m c 1 t) (ix2 r k) = rowOf m c (row t r) k :=
  (Gate.norm_apply (iblk m c 0 t) (iblk m c 1 t) r k).trans (by simp only [block_x, block_g]; rfl)

/-- After each point the scratch holds its row block, normalised. -/
theorem state (r : Fin 512) (k : Fin 2048) (t : Fin cfg0.N) : (outsAt0 m c t.val t.isLt).2 (ix2 r k) = rowOf m c (row t r) k := by
  refine kept 2 (fun t => (outsAt0 m c t.val t.isLt).2 (ix2 r k)) (fun t => rowOf m c (row t r) k) (fun t h0 => ?_) (fun t h0 => ?_)
    (fun t h0 => by rw [row_before t h0]) _ t rfl
  · rw [outsAt0_A m c t h0]
    dsimp only
    rw [scratch_first]
    exact block_norm m c t r k
  · rw [outsAt0_B m c t h0]
    rfl

/-- What each point computes, entry by entry. -/
theorem out_eq (t : Fin cfg0.N) (r : Fin 512) (n : Fin 1024) :
    (outsAt0 m c t.val t.isLt).1 (ix2 r n) = dot (rowOf m c (row t r)) (fun k => wAt m c k (col t n)) := by
  by_cases h0 : t.val % 2 = 0
  · rw [outsAt0_A m c t h0]
    dsimp only
    rw [out_first]
    refine (product_apply _ _ r n).trans ?_
    simp only [block_norm, block_w]
  · have e : ∀ k, (outsAt0 m c (t.val - 1) (Nat.lt_of_le_of_lt (Nat.sub_le _ _) t.isLt)).2 (ix2 r k) = rowOf m c (row t r) k := fun k =>
      (state m c r k (before t)).trans (by rw [row_before t h0])
    rw [outsAt0_B m c t h0]
    dsimp only
    rw [out_later]
    refine (product_apply _ _ r n).trans ?_
    simp only [e, block_w]

/-- The whole result. -/
def result : Buf (Elt Ideal) ((c : Thread nD τ).loc main_v2) := fun i => dot (rowOf m c (i 0)) (fun k => wAt m c k (i 1))

theorem flushed_eq (t : Fin cfg0.N) : (dats m 0 c).flushed 3 t = (win0_3.blk t).view.read (Elt Ideal) (result m c) := by
  rw [Value.flushed3]
  funext y
  change S512x1024.Idx at y
  show (outsAt0 m c t.val t.isLt).1 y = result m c ((win0_3.rect t).emb y)
  obtain ⟨-, -, -, p0, p1⟩ := places t
  have e : (win0_3.rect t).emb y = ix2 (row t (y 0)) (col t (y 1)) := idx_eq _ _ _
    ((win0_3.rect_emb_val t y 0).trans (by rw [p0]; show t.val / 2 * 512 + (y 0).val = 512 * (t.val / 2) + (y 0).val; omega))
    ((win0_3.rect_emb_val t y 1).trans (by rw [p1]; show t.val % 2 * 1024 + (y 1).val = 1024 * (t.val % 2) + (y 1).val; omega))
  rw [e]
  exact (congrArg _ (eq_ix2 y)).trans (out_eq m c t (y 0) (y 1))

theorem final : (dats m 0 c).arrAt 3 cfg0.N = result m c :=
  (dats m 0 c).arrAt_eq_of_cover 3 (result m c) (fun t _ => flushed_eq m c t) (fun i => (Value.covered_iff3 i).2 (by
    have h0 : (i 0).val < 8192 := (i 0).isLt; have h1 : (i 1).val < 2048 := (i 1).isLt; omega))
end
end Cert.Rows.Query
end
-- ==== Proof.QueryClaims.lean ====
/- The claims about the recurrence's query projection, put together. -/
module

public import proofs.«01_k».proof.Defs
public import proofs.«01_k».proof.Proof.QueryArray
public import proofs.«01_k».proof.Proof.Gen.QueryRefIdeal.Read
public import proofs.«01_k».proof.Proof.Gen.QueryRefIdeal.Run

@[expose] public section
noncomputable section
namespace Cert.Rows.Query
open Idealize.ShloMosaic Idealize.ShloMosaic.TcCoe Idealize.SL.Sem

section
open Cert.QueryRefIdeal Cert.QueryRefIdeal.Gen Cert.QueryRefIdeal.Read

/-- The reference, entry by entry. -/
theorem reference_apply (x : Vec Ideal S8192x2048 .f32) (g : Vec Ideal S2048 .f32) (w : Vec Ideal S2048x2048 .f32) (r : Fin 8192) (n : Fin 2048) :
    val_main_v14 (F := Ideal) x g w (ix2 r n) = dot (normed 0x45000000#32 (fun k => x (ix2 r k)) (fun k => g (ix1 k))) (fun k => w (ix2 k n)) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl
end

theorem frame_reference : Cert.quiescent_QueryRefIdeal (hQueryRefIdeal := Cert.QueryRefIdeal.Gen.facts) := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem algebraic : Cert.algebraic_QueryIdeal_QueryRefIdeal (hQueryIdeal := Cert.QueryIdeal.Gen.facts) (hQueryRefIdeal := Cert.QueryRefIdeal.Gen.facts) := by
  intro m ρ m' ρ' hpre hagree
  refine ⟨fun c => result m c, ?_, ?_⟩
  · exact (θ_run Cert.QueryIdeal.defs _ _).mono (fun _ h c => ⟨(h c).1.trans (final m c), (h c).2⟩) (Cert.QueryIdeal.Value.run_blocks (F := Ideal) m ρ)
  · refine (θ_run Cert.QueryRefIdeal.defs _ _).mono (fun _ h c => ⟨(h c).1.trans ?_, (h c).2⟩) (Cert.QueryRefIdeal.Value.run (F := Ideal) m' ρ')
    obtain ⟨a0, a1, a2⟩ := hagree c
    rw [Cert.QueryRefIdeal.Read.val_main_v14_eq, a0, a1, a2]
    funext i
    exact (congrArg _ (eq_ix2 i)).trans (reference_apply _ _ _ (i 0) (i 1))
end Cert.Rows.Query
end
-- ==== Proof.KvUpArray.lean ====
/- The expansion of the key-value latents, from its grid points to its whole result: entry `(i, n)` is row `i` times column `n`. -/
module

public import proofs.«01_k».proof.Proof.GateBody
public import proofs.«01_k».proof.Proof.Gen.KvUpIdeal.Value

@[expose] public section
set_option maxRecDepth 16384
noncomputable section
namespace Cert.Rows.KvUp
open Cert.KvUpIdeal Cert.KvUpIdeal.Gen Idealize.ShloMosaic Idealize.ShloMosaic.TcCoe Idealize.SL.Sem
open Cert.Rows.Gate (hz)

theorem product_apply (a : Vec Ideal S512x512 .bf16) (w : Vec Ideal S512x1024 .bf16) (r : Fin 512) (n : Fin 1024) :
    k0_pay1 a w (ix2 r n) = dot (fun k => a (ix2 r k)) (fun k => w (ix2 k n)) := by
  pointwise [k0_pay1]
  rfl

theorem out_eq (a : Vec Ideal S512x512 .bf16) (w : Vec Ideal S512x1024 .bf16) : out0_2 a w = k0_pay1 a w := by
  unfold out0_2
  rw [View.canon_cons_unit_zero (S := S512x1024) hz, View.ld_unit_zero (S := S512x512) hz, View.ld_unit_zero (S := S512x1024) hz]

/-- Point `t` is row block `t / 8` and column block `t % 8`: where its blocks lie. -/
theorem places : ∀ t : Fin grid0.N, (win0_0.index t 0 = t.val / 8 ∧ win0_0.index t 1 = 0) ∧ (win0_1.index t 0 = 0 ∧ win0_1.index t 1 = t.val % 8)
    ∧ (win0_2.index t 0 = t.val / 8 ∧ win0_2.index t 1 = t.val % 8) := by
  decide +kernel

theorem extents : ∀ t : Fin grid0.N, win0_2.xsize (grid0.coords t) 0 = 512 ∧ win0_2.xsize (grid0.coords t) 1 = 1024 := by
  decide +kernel

/-- The points' blocks fill the result. -/
theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 128 := N_0
  obtain ⟨t, ht⟩ : ∃ t : Fin cfg0.N, t.val = 8 * ((i 0).val / 512) + (i 1).val / 1024 := ⟨⟨_, by omega⟩, rfl⟩
  refine ⟨t, flush0_2 t, ?_⟩
  show i ∈ ((View.whole main_v1).slice (win0_2.rect t)).set
  rw [View.set_slice_whole, Rect.mem_set_unit]
  obtain ⟨-, -, p0, p1⟩ := places t
  obtain ⟨e0, e1⟩ := extents t
  have s0 : win0_2.size 0 = 512 := rfl
  have s1 : win0_2.size 1 = 1024 := rfl
  intro a
  match a with
  | ⟨0, _⟩ => show win0_2.index t 0 * win0_2.size 0 ≤ (i 0).val ∧ (i 0).val < win0_2.index t 0 * win0_2.size 0 + win0_2.xsize (grid0.coords t) 0
              rw [p0, s0, e0]; omega
  | ⟨1, _⟩ => show win0_2.index t 1 * win0_2.size 1 ≤ (i 1).val ∧ (i 1).val < win0_2.index t 1 * win0_2.size 1 + win0_2.xsize (grid0.coords t) 1
              rw [p1, s1, e1]; omega

section
variable (m : (ℓ : Loc nD τ sig) → Buf (Elt Ideal) ℓ) (c : Dev nD)

/-- The arguments' entries as extended reals. -/
abbrev xAt (i : Fin 8192) (k : Fin 512) : EReal := m ((c : Thread nD τ).loc main_arg0) (ix2 i k)
abbrev wAt (k : Fin 512) (n : Fin 8192) : EReal := m ((c : Thread nD τ).loc main_arg1) (ix2 k n)

theorem entry_weight (k : Fin 512) (n : Fin 8192) : V m c main_v0 (ix2 k n) = wAt m c k n := by
  show StableHlo.after hostOps0 (fun b => m (c, b)) (Proc.devRef .tc main_v0) (ix2 k n) = _
  after_results
  rfl

/-- Point `t`'s part of the rows and of the columns. -/
def row (t : Fin cfg0.N) (r : Fin 512) : Fin 8192 := ⟨512 * (t.val / 8) + r.val, by have h : t.val < cfg0.N := t.isLt; have hN : cfg0.N = 128 := N_0; omega⟩
def col (t : Fin cfg0.N) (n : Fin 1024) : Fin 8192 := ⟨1024 * (t.val % 8) + n.val, by omega⟩

theorem block_x (t : Fin cfg0.N) (r : Fin 512) (k : Fin 512) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val / 8 * 512 + r.val = 512 * (t.val / 8) + r.val; omega)
  · exact (win0_0.rect_emb_val t (ix2 r k) 1).trans (by rw [p1]; show 0 * 512 + k.val = k.val; omega)

theorem block_w (t : Fin cfg0.N) (k : Fin 512) (n : Fin 1024) : iblk m c 1 t (ix2 k n) = wAt m c k (col t n) := by
  obtain ⟨-, ⟨p0, p1⟩, -⟩ := places t
  refine (congrArg (V m c main_v0) (idx_eq ((win0_1.rect t).emb (ix2 k n)) k (col t n) ?_ ?_)).trans (entry_weight m c k (col t n))
  · exact (win0_1.rect_emb_val t (ix2 k n) 0).trans (by rw [p0]; show 0 * 512 + k.val = k.val; omega)
  · exact (win0_1.rect_emb_val t (ix2 k n) 1).trans (by rw [p1]; show t.val % 8 * 1024 + n.val = 1024 * (t.val % 8) + n.val; omega)

/-- The whole result. -/
def result : Buf (Elt Ideal) ((c : Thread nD τ).loc main_v1) := fun i => dot (xAt m c (i 0)) (fun k => wAt m c k (i 1))

theorem point_eq (t : Fin cfg0.N) (r : Fin 512) (n : Fin 1024) :
    out0_2 (iblk m c 0 t) (iblk m c 1 t) (ix2 r n) = dot (xAt m c (row t r)) (fun k => wAt m c k (col t n)) := by
  rw [out_eq]
  refine (product_apply _ _ r n).trans ?_
  simp only [block_x, block_w]

theorem flushed_eq (t : Fin cfg0.N) : (dats m 0 c).flushed 2 t = (win0_2.blk t).view.read (Elt Ideal) (result m c) := by
  rw [Value.flushed2]
  funext y
  change S512x1024.Idx at y
  show out0_2 (iblk m c 0 t) (iblk m c 1 t) y = result m c ((win0_2.rect t).emb y)
  obtain ⟨-, -, p0, p1⟩ := places t
  have e : (win0_2.rect t).emb y = ix2 (row t (y 0)) (col t (y 1)) := idx_eq _ _ _
    ((win0_2.rect_emb_val t y 0).trans (by rw [p0]; show t.val / 8 * 512 + (y 0).val = 512 * (t.val / 8) + (y 0).val; omega))
    ((win0_2.rect_emb_val t y 1).trans (by rw [p1]; show t.val % 8 * 1024 + (y 1).val = 1024 * (t.val % 8) + (y 1).val; omega))
  rw [e]
  exact (congrArg _ (eq_ix2 y)).trans (point_eq m c t (y 0) (y 1))

theorem final : (dats m 0 c).arrAt 2 cfg0.N = result m c :=
  (dats m 0 c).arrAt_eq_of_cover 2 (result m c) (fun t _ => flushed_eq m c t) cover
end
end Cert.Rows.KvUp
end
-- ==== Proof.KvUpClaims.lean ====
/- The claims about the expansion of the key-value latents, put together. -/
module

public import proofs.«01_k».proof.Defs
public import proofs.«01_k».proof.Proof.KvUpArray
public import proofs.«01_k».proof.Proof.Gen.KvUpRefIdeal.Read
public import proofs.«01_k».proof.Proof.Gen.KvUpRefIdeal.Run

@[expose] public section
noncomputable section
namespace Cert.Rows.KvUp
open Idealize.ShloMosaic Idealize.ShloMosaic.TcCoe Idealize.SL.Sem

section
open Cert.KvUpRefIdeal Cert.KvUpRefIdeal.Gen Cert.KvUpRefIdeal.Read

/-- The reference, entry by entry. -/
theorem reference_apply (x : Vec Ideal S8192x512 .bf16) (w : Vec Ideal S512x8192 .f32) (r : Fin 8192) (n : Fin 8192) :
    val_main_v2 (F := Ideal) x w (ix2 r n) = dot (fun k => x (ix2 r k)) (fun k => w (ix2 k n)) := by
  pointwise [val_main_v2, val_main_v1, val_main_v0]
  rfl
end

theorem frame_reference : Cert.quiescent_KvUpRefIdeal (hKvUpRefIdeal := Cert.KvUpRefIdeal.Gen.facts) := fun m ρ _ =>
  (θ_run Cert.KvUpRefIdeal.defs _ _).mono (fun r h => ⟨fun c => (h c).2, sem_eq_zero_of_no_sems (by decide) r.2⟩)
    (Cert.KvUpRefIdeal.Value.run (F := Ideal) m ρ)

theorem algebraic : Cert.algebraic_KvUpIdeal_KvUpRefIdeal (hKvUpIdeal := Cert.KvUpIdeal.Gen.facts) (hKvUpRefIdeal := Cert.KvUpRefIdeal.Gen.facts) := by
  intro m ρ m' ρ' hpre hagree
  refine ⟨fun c => result m c, ?_, ?_⟩
  · exact (θ_run Cert.KvUpIdeal.defs _ _).mono (fun _ h c => ⟨(h c).1.trans (final m c), (h c).2⟩) (Cert.KvUpIdeal.Value.run_blocks (F := Ideal) m ρ)
  · refine (θ_run Cert.KvUpRefIdeal.defs _ _).mono (fun _ h c => ⟨(h c).1.trans ?_, (h c).2⟩) (Cert.KvUpRefIdeal.Value.run (F := Ideal) m' ρ')
    obtain ⟨a0, a1⟩ := hagree c
    rw [Cert.KvUpRefIdeal.Read.val_main_v2_eq, a0, a1]
    funext i
    exact (congrArg _ (eq_ix2 i)).trans (reference_apply _ _ _ _)
end Cert.Rows.KvUp
end
-- ==== Proof.ForgetGate.lean ====
/- The forget gate's mathematics at the extended reals: the logistic function in its two halves, and the floor under the gate. -/
module

public import proofs.«01_k».proof.Proof.Rows

@[expose] public section
noncomputable section
namespace Cert.Rows.Forget
open Idealize.ShloMosaic

/-- The logistic function. -/
def logistic (z : EReal) : EReal := Ideal.div 1 (1 + Ideal.exp (-z))

/-- Below the top, `e^y / (1 + e^y)` is the logistic function of `y`. -/
theorem exp_mul_half (y : EReal) (hy : y ≠ ⊤) : Ideal.exp y * Ideal.div 1 (1 + Ideal.exp y) = logistic y := by
  unfold logistic Ideal.div
  rw [if_neg (one_add_exp_ne _), if_neg (one_add_exp_ne _), one_mul, one_mul]
  induction y with
  | bot =>
    show (0 : EReal) * _ = (1 + (⊤ : EReal))⁻¹
    rw [zero_mul, EReal.add_top_of_ne_bot (by decide), EReal.inv_top]
  | top => exact absurd rfl hy
  | coe r =>
    show ((Real.exp r : ℝ) : EReal) * ((1 : ℝ) + ((Real.exp r : ℝ) : EReal))⁻¹ = ((1 : ℝ) + ((Real.exp (-r) : ℝ) : EReal))⁻¹
    rw [← EReal.coe_add, ← EReal.coe_add, ← EReal.coe_inv, ← EReal.coe_inv, ← EReal.coe_mul]
    refine congrArg _ ?_
    have h : Real.exp r ≠ 0 := Real.exp_ne_zero r
    have h1 : (1 : ℝ) + Real.exp r ≠ 0 := (add_pos one_pos (Real.exp_pos r)).ne'
    rw [Real.exp_neg]
    field_simp
    exact add_comm _ _

theorem abs_of_nonneg (z : EReal) (h : 0 ≤ z) : FloatOps.absf (F := Ideal) (φ := .f32) z = z :=
  max_eq_left ((EReal.neg_le_neg_iff.2 h).trans (by rw [neg_zero]; exact h))

theorem abs_of_neg (z : EReal) (h : ¬0 ≤ z) : FloatOps.absf (F := Ideal) (φ := .f32) z = -z := by
  have h' : z ≤ 0 := (not_le.1 h).le
  exact max_eq_right (h'.trans (by rw [← neg_zero]; exact EReal.neg_le_neg_iff.2 h'))

/-- The gate by halves: `1 / (1 + e^-|z|)` on the right, `e^-|z|` times that on the left. -/
theorem halves (z : EReal) :
    (if 0 ≤ z then Ideal.div 1 (1 + Ideal.exp (0 - FloatOps.absf (F := Ideal) (φ := .f32) z))
      else Ideal.exp (0 - FloatOps.absf (F := Ideal) (φ := .f32) z) * Ideal.div 1 (1 + Ideal.exp (0 - FloatOps.absf (F := Ideal) (φ := .f32) z))) = logistic z := by
  by_cases h : 0 ≤ z
  · rw [if_pos h, abs_of_nonneg z h, zero_sub]
    rfl
  · rw [if_neg h, abs_of_neg z h, zero_sub, neg_neg]
    exact exp_mul_half z fun e => h (e ▸ le_top)

/-- The other halves make the gate of `-z`. -/
theorem halves_neg (z : EReal) :
    (if 0 ≤ z then Ideal.exp (0 - FloatOps.absf (F := Ideal) (φ := .f32) z) * Ideal.div 1 (1 + Ideal.exp (0 - FloatOps.absf (F := Ideal) (φ := .f32) z))
      else Ideal.div 1 (1 + Ideal.exp (0 - FloatOps.absf (F := Ideal) (φ := .f32) z))) = logistic (-z) := by
  by_cases h : 0 ≤ z
  · rw [if_pos h, abs_of_nonneg z h, zero_sub]
    exact exp_mul_half (-z) fun e => by rw [EReal.neg_eq_top_iff.1 e] at h; exact absurd h (by decide)
  · rw [if_neg h, abs_of_neg z h, zero_sub]
    rfl

/-- The larger of a column's two entries, with minus infinity below them. -/
def peak (l : Fin 2 → EReal) : EReal := Finset.fold max (Ideal.ofBits .f32 0xFF800000#32) l Finset.univ

theorem peak_again (l : Fin 2 → EReal) : max (Ideal.ofBits .f32 0xFF800000#32) (peak l) = peak l :=
  max_eq_right ((Finset.le_fold_max _).2 (Or.inl le_rfl))

/-- The floor under a column's gate: the softmax of its two logits, at the first. -/
def floor (l : Fin 2 → EReal) : EReal := Ideal.div (Ideal.exp (l 0 - peak l)) (∑ x, Ideal.exp (l x - peak l))

/-- The logarithm of the gate above its floor. -/
def logGate (l : Fin 2 → EReal) (z : EReal) : EReal := Ideal.log (floor l + (1 - floor l) * logistic z)

/-- One minus the gate. -/
def rest (l : Fin 2 → EReal) (z : EReal) : EReal := (1 - floor l) * logistic (-z)

/-- The window of the running sum: two rows, one column; its two positions. -/
abbrev win : Shape := ⟨2, ![2, 1]⟩
def pos0 : Fin win.numel := ⟨0, by decide⟩
def pos1 : Fin win.numel := ⟨1, by decide⟩

theorem fold_win (g : EReal → Fin win.numel → EReal) (v : EReal) : (List.finRange win.numel).foldl g v = g (g v pos0) pos1 := rfl

/-- A running sum down the two rows has the first row unchanged. -/
theorem window_first {A : ℕ} (y : (⟨2, ![2, A]⟩ : Shape).Idx → EReal) (init : (⟨0, ![]⟩ : Shape).Idx → EReal) (h0 : ∀ i, init i = 0)
    (h : (⟨2, ![2, A]⟩ : Shape).ReduceWindows ![2, 1] ![1, 1] ![1, 0] ![0, 0] ⟨2, ![2, A]⟩) (hu : 0 < (⟨0, ![]⟩ : Shape).numel) (n : Fin A) :
    Host.reduceWindow (fun a b : EReal => a + b) ![2, 1] ![1, 1] ![1, 0] ![0, 0] y init h hu (ix2 0 n) = y (ix2 0 n) := by
  have r00 : (win.rowMajor.symm pos0 0).val = 0 := by decide
  have r10 : (win.rowMajor.symm pos1 0).val = 1 := by decide
  have r11 : (win.rowMajor.symm pos1 1).val = 0 := by decide
  unfold Host.reduceWindow
  refine (fold_win _ _).trans ?_
  dsimp only
  rw [h0, zero_add, dif_neg (fun hin => absurd (hin 0).1 ?_), zero_add, dif_pos (fun a => ?_)]
  · refine congrArg y (funext fun a => Fin.ext ?_)
    match a with
    | ⟨0, _⟩ => show 0 * 1 + (win.rowMajor.symm pos1 0).val - 1 = 0
                rw [r10]
    | ⟨1, _⟩ => show n.val * 1 + (win.rowMajor.symm pos1 1).val - 0 = n.val
                rw [r11]; omega
  · match a with
    | ⟨0, _⟩ => show 1 ≤ 0 * 1 + (win.rowMajor.symm pos1 0).val ∧ 0 * 1 + (win.rowMajor.symm pos1 0).val - 1 < 2
                rw [r10]; omega
    | ⟨1, _⟩ => show 0 ≤ n.val * 1 + (win.rowMajor.symm pos1 1).val ∧ n.val * 1 + (win.rowMajor.symm pos1 1).val - 0 < A
                rw [r11]; have := n.isLt; omega
  · show ¬1 ≤ 0 * 1 + (win.rowMajor.symm pos0 0).val
    rw [r00]; omega
end Cert.Rows.Forget
end
-- ==== Proof.ForgetBody.lean ====
/- What one grid point of the forget gate's call computes: its block's rows normalised, times a block of columns, through the two gates. -/
module

public import proofs.«01_k».proof.Proof.GateBody
public import proofs.«01_k».proof.Proof.ForgetGate
public import proofs.«01_k».proof.Proof.Gen.ForgetIdeal.Value

@[expose] public section
noncomputable section
namespace Cert.Rows.Forget
open Cert.ForgetIdeal Cert.ForgetIdeal.Gen Idealize.ShloMosaic Idealize.ShloMosaic.TcCoe Idealize.SL.Sem
open Cert.Rows.Gate (hz)

theorem product_apply (a : Vec Ideal S512x2048 .bf16) (w : Vec Ideal S2048x1024 .bf16) (r : Fin 512) (n : Fin 1024) :
    k0_pay3 a w (ix2 r n) = dot (fun k => a (ix2 r k)) (fun k => w (ix2 k n)) := by
  pointwise [k0_pay3]
  rfl

theorem floor_apply (l : Vec Ideal S2x1024 .f32) (n : Fin 1024) : k0_pay4 l (ix2 0 n) = floor (fun x => l (ix2 x n)) := by
  pointwise [k0_pay4]
  rfl

theorem shut_apply (a : Vec Ideal S512x2048 .bf16) (w : Vec Ideal S2048x1024 .bf16) (r : Fin 512) (n : Fin 1024) :
    k0_pay8 a w (ix2 r n) = logistic (-dot (fun k => a (ix2 r k)) (fun k => w (ix2 k n))) := by
  pointwise [k0_pay8, k0_pay7, k0_pay6, k0_pay5]
  exact (halves_neg _).trans (congrArg (fun z => logistic (-z)) (product_apply a w r n))

theorem log_apply (a : Vec Ideal S512x2048 .bf16) (w : Vec Ideal S2048x1024 .bf16) (l : Vec Ideal S2x1024 .f32) (r : Fin 512) (n : Fin 1024) :
    k0_pay9 a w l (ix2 r n) = logGate (fun x => l (ix2 x n)) (dot (fun k => a (ix2 r k)) (fun k => w (ix2 k n))) := by
  pointwise [k0_pay9, k0_pay7, k0_pay6, k0_pay5]
  rw [halves, floor_apply, product_apply]
  rfl

theorem rest_apply (a : Vec Ideal S512x2048 .bf16) (w : Vec Ideal S2048x1024 .bf16) (l : Vec Ideal S2x1024 .f32) (r : Fin 512) (n : Fin 1024) :
    k0_pay1 (k0_pay4 l) (k0_pay8 a w) (ix2 r n) = rest (fun x => l (ix2 x n)) (dot (fun k => a (ix2 r k)) (fun k => w (ix2 k n))) := by
  pointwise [k0_pay1]
  rw [floor_apply, shut_apply]
  rfl

section
variable (c : Dev nD) (i : grid0.Coords) (a2 : Memref sig .tc .vmem S512x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S2x1024 .f32) (h5 : a5.IsWhole)
  (a6 : Memref sig .tc .vmem S512x1024 .f32) (h6 : a6.IsWhole) (a7 : Memref sig .tc .vmem S512x1024 .bf16) (h7 : a7.IsWhole)
  (a8 : Memref sig .tc .vmem S512x2048 .bf16) (h8 : a8.IsWhole)
  (x : Vec Ideal S512x2048 .f32) (g : Vec Ideal S1x2048 .f32) (w : Vec Ideal S2048x1024 .bf16) (l : Vec Ideal S2x1024 .f32) (s : Vec Ideal S512x2048 .bf16)

/-- The first column block of a row block stores the normalised rows. -/
theorem scratch_first (hc : cond0_0 i) : sout0_A_0 c i a2 h2 a3 h3 a4 h4 a5 h5 a6 h6 a7 h7 a8 h8 hc x g w l = k0_pay2 x g := by
  unfold sout0_A_0
  rw [View.read_writes_eq_canon _ _ _ (scover0_A_0 c i a2 h2 a3 h3 a4 h4 a5 h5 a6 h6 a7 h7 a8 h8 hc x g w l)]
  unfold kernelRun0_A
  dsimp only
  sl_unfold_words
  rw [View.canon_cons_unit_zero (S := S512x2048) hz]
  simp only [View.readAt_eq_ld, h2.read_unread, h3.read_unread, View.ld_unit_zero (S := S512x2048) hz, View.ld_unit_zero (S := S1x2048) hz]

/-- It stores both gates of the rows just normalised. -/
theorem log_first (hc : cond0_0 i) : out0_A_4 c i a2 h2 a3 h3 a4 h4 a5 h5 a6 h6 a7 h7 a8 h8 hc x g w l = k0_pay9 (k0_pay2 x g) w l := by
  unfold out0_A_4
  rw [View.read_writes_eq_canon _ _ _ (cover0_A_4 c i a2 h2 a3 h3 a4 h4 a5 h5 a6 h6 a7 h7 a8 h8 hc x g w l)]
  unfold kernelRun0_A
  dsimp only
  sl_unfold_words
  rw [View.canon_cons_unit_zero (S := S512x1024) hz, View.readCov_unit_zero (S := S512x2048) _ hz]
  simp only [View.readAt_eq_ld, h2.read_unread, h3.read_unread, h4.read_unread, h5.read_unread, View.ld_unit_zero (S := S512x2048) hz,
    View.ld_unit_zero (S := S1x2048) hz, View.ld_unit_zero (S := S2048x1024) hz, View.ld_unit_zero (S := S2x1024) hz]

theorem rest_first (hc : cond0_0 i) : out0_A_5 c i a2 h2 a3 h3 a4 h4 a5 h5 a6 h6 a7 h7 a8 h8 hc x g w l = k0_pay1 (k0_pay4 l) (k0_pay8 (k0_pay2 x g) w) := by
  unfold out0_A_5
  rw [View.read_writes_eq_canon _ _ _ (cover0_A_5 c i a2 h2 a3 h3 a4 h4 a5 h5 a6 h6 a7 h7 a8 h8 hc x g w l)]
  unfold kernelRun0_A
  dsimp only
  sl_unfold_words
  rw [View.canon_cons_unit_zero (S := S512x1024) hz, View.readCov_unit_zero (S := S512x2048) _ hz]
  simp only [View.readAt_eq_ld, h2.read_unread, h3.read_unread, h4.read_unread, h5.read_unread, View.ld_unit_zero (S := S512x2048) hz,
    View.ld_unit_zero (S := S1x2048) hz, View.ld_unit_zero (S := S2048x1024) hz, View.ld_unit_zero (S := S2x1024) hz]

/-- The other column blocks store both gates of the rows the scratch holds. -/
theorem log_later (hc : ¬cond0_0 i) : out0_B_4 c i a2 h2 a3 h3 a4 h4 a5 h5 a6 h6 a7 h7 a8 h8 hc x g w l s = k0_pay9 s w l := by
  unfold out0_B_4
  rw [View.read_writes_eq_canon _ _ _ (cover0_B_4 c i a2 h2 a3 h3 a4 h4 a5 h5 a6 h6 a7 h7 a8 h8 hc x g w l s)]
  unfold kernelRun0_B
  dsimp only
  sl_unfold_words
  rw [View.canon_cons_unit_zero (S := S512x1024) hz]
  simp only [View.readAt_eq_ld, h4.read_unread, h5.read_unread, h8.read_unread, View.ld_unit_zero (S := S512x2048) hz, View.ld_unit_zero (S := S2048x1024) hz,
    View.ld_unit_zero (S := S2x1024) hz]

theorem rest_later (hc : ¬cond0_0 i) : out0_B_5 c i a2 h2 a3 h3 a4 h4 a5 h5 a6 h6 a7 h7 a8 h8 hc x g w l s = k0_pay1 (k0_pay4 l) (k0_pay8 s w) := by
  unfold out0_B_5
  rw [View.read_writes_eq_canon _ _ _ (cover0_B_5 c i a2 h2 a3 h3 a4 h4 a5 h5 a6 h6 a7 h7 a8 h8 hc x g w l s)]
  unfold kernelRun0_B
  dsimp only
  sl_unfold_words
  rw [View.canon_cons_unit_zero (S := S512x1024) hz]
  simp only [View.readAt_eq_ld, h4.read_unread, h5.read_unread, h8.read_unread, View.ld_unit_zero (S := S512x2048) hz, View.ld_unit_zero (S := S2048x1024) hz,
    View.ld_unit_zero (S := S2x1024) hz]
end
end Cert.Rows.Forget
end
-- ==== Proof.ForgetArray.lean ====
/- From the grid points of the forget gate's call to its two whole results: each entry is a gate of the normalised row `i` times column `n`. -/
module

public import proofs.«01_k».proof.Proof.ForgetBody

@[expose] public section
set_option maxRecDepth 16384
noncomputable section
namespace Cert.Rows.Forget
open Cert.ForgetIdeal Cert.ForgetIdeal.Gen Idealize.ShloMosaic Idealize.ShloMosaic.TcCoe Idealize.SL.Sem

/-- Point `t` is row block `t / 2` and column block `t % 2`: where its blocks lie. -/
theorem places : ∀ t : Fin grid0.N,
    (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = 0 ∧ win0_3.index t 1 = t.val % 2)
    ∧ (win0_4.index t 0 = t.val / 2 ∧ win0_4.index t 1 = t.val % 2) ∧ (win0_5.index t 0 = t.val / 2 ∧ win0_5.index t 1 = t.val % 2) := by
  decide +kernel

section
variable (m : (ℓ : Loc nD τ sig) → Buf (Elt Ideal) ℓ) (c : Dev nD)

/-- The arguments' entries as extended reals. -/
abbrev xAt (i : Fin 8192) (k : Fin 2048) : EReal := m ((c : Thread nD τ).loc main_arg0) (ix2 i k)
abbrev gAt (k : Fin 2048) : EReal := m ((c : Thread nD τ).loc main_arg1) (ix1 k)
abbrev wAt (k : Fin 2048) (n : Fin 2048) : EReal := m ((c : Thread nD τ).loc main_arg2) (ix2 k n)
abbrev lAt (n : Fin 2048) (x : Fin 2) : EReal := m ((c : Thread nD τ).loc main_arg3) (ix2 x n)

theorem entry_gain (k : Fin 2048) : V m c main_v0 (ix2 0 k) = gAt m c k := by
  show StableHlo.after hostOps0 (fun b => m (c, b)) (Proc.devRef .tc main_v0) (ix2 0 k) = m ((c : Thread nD τ).loc main_arg1) (ix1 k)
  after_results
  pointwise

theorem entry_weight (k : Fin 2048) (n : Fin 2048) : V m c main_v1 (ix2 k n) = wAt m c k n := by
  show StableHlo.after hostOps0 (fun b => m (c, b)) (Proc.devRef .tc main_v1) (ix2 k n) = _
  after_results
  rfl

/-- Point `t`'s part of the rows and of the columns. -/
def row (t : Fin cfg0.N) (r : Fin 512) : Fin 8192 := ⟨512 * (t.val / 2) + r.val, by have h : t.val < cfg0.N := t.isLt; have hN : cfg0.N = 32 := N_0; omega⟩
def col (t : Fin cfg0.N) (n : Fin 1024) : Fin 2048 := ⟨1024 * (t.val % 2) + n.val, by omega⟩

theorem row_before (t : Fin cfg0.N) (h0 : ¬t.val % 2 = 0) (r : Fin 512) : row (before t) r = row t r :=
  Fin.ext (show 512 * ((t.val - 1) / 2) + r.val = 512 * (t.val / 2) + r.val by omega)

theorem block_x (t : Fin cfg0.N) (r : Fin 512) (k : Fin 2048) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val / 2 * 512 + r.val = 512 * (t.val / 2) + r.val; omega)
  · exact (win0_0.rect_emb_val t (ix2 r k) 1).trans (by rw [p1]; show 0 * 2048 + k.val = k.val; omega)

theorem block_g (t : Fin cfg0.N) (k : Fin 2048) : iblk m c 1 t (ix2 0 k) = gAt m c k := by
  obtain ⟨-, ⟨p0, p1⟩, -⟩ := places t
  refine (congrArg (V m c main_v0) (idx_eq ((win0_1.rect t).emb (ix2 0 k)) 0 k ?_ ?_)).trans (entry_gain m c k)
  · exact (win0_1.rect_emb_val t (ix2 0 k) 0).trans (by rw [p0]; rfl)
  · exact (win0_1.rect_emb_val t (ix2 0 k) 1).trans (by rw [p1]; show 0 * 2048 + k.val = k.val; omega)

theorem block_w (t : Fin cfg0.N) (k : Fin 2048) (n : Fin 1024) : iblk m c 2 t (ix2 k n) = wAt m c k (col t n) := by
  obtain ⟨-, -, ⟨p0, p1⟩, -⟩ := places t
  refine (congrArg (V m c main_v1) (idx_eq ((win0_2.rect t).emb (ix2 k n)) k (col t n) ?_ ?_)).trans (entry_weight m c k (col t n))
  · exact (win0_2.rect_emb_val t (ix2 k n) 0).trans (by rw [p0]; show 0 * 2048 + k.val = k.val; omega)
  · exact (win0_2.rect_emb_val t (ix2 k n) 1).trans (by rw [p1]; show t.val % 2 * 1024 + n.val = 1024 * (t.val % 2) + n.val; omega)

theorem block_l (t : Fin cfg0.N) (x : Fin 2) (n : Fin 1024) : iblk m c 3 t (ix2 x n) = lAt m c (col t n) x := by
  obtain ⟨-, -, -, ⟨p0, p1⟩, -⟩ := places t
  refine (congrFun (V_main_arg3 m c) ((win0_3.rect t).emb (ix2 x n))).trans (congrArg (m ((c : Thread nD τ).loc main_arg3)) (idx_eq _ _ _ ?_ ?_))
  · exact (win0_3.rect_emb_val t (ix2 x n) 0).trans (by rw [p0]; show 0 * 2 + x.val = x.val; omega)
  · exact (win0_3.rect_emb_val t (ix2 x n) 1).trans (by rw [p1]; show t.val % 2 * 1024 + n.val = 1024 * (t.val % 2) + n.val; omega)

/-- Row `i` of the argument after its norm. -/
def rowOf (i : Fin 8192) : Fin 2048 → EReal := normed 0x45000000#32 (xAt m c i) (gAt m c)

theorem block_norm (t : Fin cfg0.N) (r : Fin 512) (k : Fin 2048) : k0_pay2 (iblk m c 0 t) (iblk m c 1 t) (ix2 r k) = rowOf m c (row t r) k :=
  (Gate.norm_apply (iblk m c 0 t) (iblk m c 1 t) r k).trans (by simp only [block_x, block_g]; rfl)

/-- After each point the scratch holds its row block, normalised. -/
theorem state (r : Fin 512) (k : Fin 2048) (t : Fin cfg0.N) : (outsAt0 m c t.val t.isLt).2.2 (ix2 r k) = rowOf m c (row t r) k := by
  refine kept 2 (fun t => (outsAt0 m c t.val t.isLt).2.2 (ix2 r k)) (fun t => rowOf m c (row t r) k) (fun t h0 => ?_) (fun t h0 => ?_)
    (fun t h0 => by rw [row_before t h0]) _ t rfl
  · rw [outsAt0_A m c t h0]
    dsimp only
    rw [scratch_first]
    exact block_norm m c t r k
  · rw [outsAt0_B m c t h0]
    rfl

/-- What each point computes, entry by entry. -/
theorem out_eq (t : Fin cfg0.N) (r : Fin 512) (n : Fin 1024) :
    (outsAt0 m c t.val t.isLt).1 (ix2 r n) = logGate (lAt m c (col t n)) (dot (rowOf m c (row t r)) (fun k => wAt m c k (col t n)))
    ∧ (outsAt0 m c t.val t.isLt).2.1 (ix2 r n) = rest (lAt m c (col t n)) (dot (rowOf m c (row t r)) (fun k => wAt m c k (col t n))) := by
  by_cases h0 : t.val % 2 = 0
  · rw [outsAt0_A m c t h0]
    dsimp only
    rw [log_first, rest_first]
    refine ⟨(log_apply _ _ _ r n).trans ?_, (rest_apply _ _ _ r n).trans ?_⟩ <;> simp only [block_norm, block_w, block_l]
  · have e : ∀ k, (outsAt0 m c (t.val - 1) (Nat.lt_of_le_of_lt (Nat.sub_le _ _) t.isLt)).2.2 (ix2 r k) = rowOf m c (row t r) k := fun k =>
      (state m c r k (before t)).trans (by rw [row_before t h0])
    rw [outsAt0_B m c t h0]
    dsimp only
    rw [log_later, rest_later]
    refine ⟨(log_apply _ _ _ r n).trans ?_, (rest_apply _ _ _ r n).trans ?_⟩ <;> simp only [e, block_w, block_l]

/-- The whole results. -/
def logResult : Buf (Elt Ideal) ((c : Thread nD τ).loc main_v2_0) := fun i => logGate (lAt m c (i 1)) (dot (rowOf m c (i 0)) (fun k => wAt m c k (i 1)))
def restResult : Buf (Elt Ideal) ((c : Thread nD τ).loc main_v2_1) := fun i => rest (lAt m c (i 1)) (dot (rowOf m c (i 0)) (fun k => wAt m c k (i 1)))

theorem flushed_log (t : Fin cfg0.N) : (dats m 0 c).flushed 4 t = (win0_4.blk t).view.read (Elt Ideal) (logResult m c) := by
  rw [Value.flushed4]
  funext y
  change S512x1024.Idx at y
  show (outsAt0 m c t.val t.isLt).1 y = logResult m c ((win0_4.rect t).emb y)
  obtain ⟨-, -, -, -, ⟨p0, p1⟩, -⟩ := places t
  have e : (win0_4.rect t).emb y = ix2 (row t (y 0)) (col t (y 1)) := idx_eq _ _ _
    ((win0_4.rect_emb_val t y 0).trans (by rw [p0]; show t.val / 2 * 512 + (y 0).val = 512 * (t.val / 2) + (y 0).val; omega))
    ((win0_4.rect_emb_val t y 1).trans (by rw [p1]; show t.val % 2 * 1024 + (y 1).val = 1024 * (t.val % 2) + (y 1).val; omega))
  rw [e]
  exact (congrArg _ (eq_ix2 y)).trans (out_eq m c t (y 0) (y 1)).1

theorem flushed_rest (t : Fin cfg0.N) : (dats m 0 c).flushed 5 t = (win0_5.blk t).view.read (Elt Ideal) (restResult m c) := by
  rw [Value.flushed5]
  funext y
  change S512x1024.Idx at y
  show (outsAt0 m c t.val t.isLt).2.1 y = restResult m c ((win0_5.rect t).emb y)
  obtain ⟨-, -, -, -, -, p0, p1⟩ := places t
  have e : (win0_5.rect t).emb y = ix2 (row t (y 0)) (col t (y 1)) := idx_eq _ _ _
    ((win0_5.rect_emb_val t y 0).trans (by rw [p0]; show t.val / 2 * 512 + (y 0).val = 512 * (t.val / 2) + (y 0).val; omega))
    ((win0_5.rect_emb_val t y 1).trans (by rw [p1]; show t.val % 2 * 1024 + (y 1).val = 1024 * (t.val % 2) + (y 1).val; omega))
  rw [e]
  exact (congrArg _ (eq_ix2 y)).trans (out_eq m c t (y 0) (y 1)).2

theorem final_log : (dats m 0 c).arrAt 4 cfg0.N = logResult m c :=
  (dats m 0 c).arrAt_eq_of_cover 4 (logResult m c) (fun t _ => flushed_log m c t) (fun i => (Value.covered_iff4 i).2 (by
    have h0 : (i 0).val < 8192 := (i 0).isLt; have h1 : (i 1).val < 2048 := (i 1).isLt; omega))

theorem final_rest : (dats m 0 c).arrAt 5 cfg0.N = restResult m c :=
  (dats m 0 c).arrAt_eq_of_cover 5 (restResult m c) (fun t _ => flushed_rest m c t) (fun i => (Value.covered_iff5 i).2 (by
    have h0 : (i 0).val < 8192 := (i 0).isLt; have h1 : (i 1).val < 2048 := (i 1).isLt; omega))
end
end Cert.Rows.Forget
end
-- ==== Proof.ForgetClaims.lean ====
/- The claims about the recurrence's forget gate, put together. -/
module

public import proofs.«01_k».proof.Defs
public import proofs.«01_k».proof.Proof.ForgetArray
public import proofs.«01_k».proof.Proof.Gen.ForgetRefIdeal.Read
public import proofs.«01_k».proof.Proof.Gen.ForgetRefIdeal.Run

@[expose] public section
noncomputable section
namespace Cert.Rows.Forget
open Idealize.ShloMosaic Idealize.ShloMosaic.TcCoe Idealize.SL.Sem

section
open Cert.ForgetRefIdeal Cert.ForgetRefIdeal.Gen Cert.ForgetRefIdeal.Read

/-- The reference's products, entry by entry. -/
theorem reference_product (x : Vec Ideal S8192x2048 .f32) (g : Vec Ideal S2048 .f32) (w : Vec Ideal S2048x2048 .f32) (r : Fin 8192) (n : Fin 2048) :
    val_main_v13 (F := Ideal) x g w (ix2 r n) = dot (normed 0x45000000#32 (fun k => x (ix2 r k)) (fun k => g (ix1 k))) (fun k => w (ix2 k n)) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The softmax of the two logits, at the first. -/
theorem reference_softmax (l : Vec Ideal S2x2048 .f32) (n : Fin 2048) : val_main_v24 (F := Ideal) l (ix2 0 n) = floor (fun x => l (ix2 x n)) := by
  pointwise [val_main_v24, val_main_v23, val_main_v22, val_main_v21, val_main_v20, val_main_v19, val_main_v18, val_main_v17, val_main_v16, val_main_v15,
    val_main_v14, val_main_cst_2, val_main_cst_3, val_main_cst_4]
  have e := peak_again (fun x => l (ix2 x n))
  unfold peak at e
  rw [e]
  rfl

/-- The first row of the running sum is the softmax's first row. -/
theorem reference_first (l : Vec Ideal S2x2048 .f32) (n : Fin 2048) : val_main_v25 (F := Ideal) l (ix2 0 n) = floor (fun x => l (ix2 x n)) := by
  refine Eq.trans ?_ (reference_softmax l n)
  unfold val_main_v25
  exact window_first _ (fun _ => Ideal.ofBits .f32 0x00000000#32) (fun _ => Ideal.ofBits_zero .f32) reduceWindows_S2x2048_S2x2048_w2s1p1_0_w1s1p0_0 (by decide) n

theorem reference_floor (l : Vec Ideal S2x2048 .f32) (n : Fin 2048) : val_main_v27 (F := Ideal) l (ix1 n) = floor (fun x => l (ix2 x n)) := by
  refine Eq.trans ?_ (reference_first l n)
  pointwise [val_main_v27, val_main_v26]

theorem reference_log (x : Vec Ideal S8192x2048 .f32) (g : Vec Ideal S2048 .f32) (w : Vec Ideal S2048x2048 .f32) (l : Vec Ideal S2x2048 .f32) (r : Fin 8192) (n : Fin 2048) :
    val_main_v42 (F := Ideal) x g w l (ix2 r n)
      = logGate (fun x => l (ix2 x n)) (dot (normed 0x45000000#32 (fun k => x (ix2 r k)) (fun k => g (ix1 k))) (fun k => w (ix2 k n))) := by
  pointwise [val_main_v42, val_main_v41, val_main_v40, val_main_v39, val_main_v38, val_main_v37, val_main_v36, val_main_v35, val_main_v34, val_main_v33,
    val_main_v32, val_main_v31, val_main_v30, val_main_v29, val_main_v28, val_main_cst_5, val_main_cst_6, val_main_cst_7]
  rw [reference_product, reference_floor]
  rfl

theorem reference_rest (x : Vec Ideal S8192x2048 .f32) (g : Vec Ideal S2048 .f32) (w : Vec Ideal S2048x2048 .f32) (l : Vec Ideal S2x2048 .f32) (r : Fin 8192) (n : Fin 2048) :
    val_main_v55 (F := Ideal) x g w l (ix2 r n)
      = rest (fun x => l (ix2 x n)) (dot (normed 0x45000000#32 (fun k => x (ix2 r k)) (fun k => g (ix1 k))) (fun k => w (ix2 k n))) := by
  pointwise [val_main_v55, val_main_v54, val_main_v53, val_main_v52, val_main_v51, val_main_v50, val_main_v49, val_main_v48, val_main_v47, val_main_v46,
    val_main_v45, val_main_v44, val_main_v43, val_main_cst_8, val_main_cst_9, val_main_cst_10]
  rw [reference_product, reference_floor]
  rfl
end

theorem frame_reference : Cert.quiescent_ForgetRefIdeal (hForgetRefIdeal := Cert.ForgetRefIdeal.Gen.facts) := fun m ρ _ =>
  (θ_run Cert.ForgetRefIdeal.defs _ _).mono (fun r h => ⟨fun c => (h c).2.2, sem_eq_zero_of_no_sems (by decide) r.2⟩)
    (Cert.ForgetRefIdeal.Value.run (F := Ideal) m ρ)

theorem algebraic : Cert.algebraic_ForgetIdeal_ForgetRefIdeal (hForgetIdeal := Cert.ForgetIdeal.Gen.facts) (hForgetRefIdeal := Cert.ForgetRefIdeal.Gen.facts) := by
  intro m ρ m' ρ' hpre hagree
  refine ⟨fun c => logResult m c, fun c => restResult m c, ?_, ?_⟩
  · exact (θ_run Cert.ForgetIdeal.defs _ _).mono (fun _ h c => ⟨(h c).1.trans (final_log m c), (h c).2.1.trans (final_rest m c), (h c).2.2⟩)
      (Cert.ForgetIdeal.Value.run_blocks (F := Ideal) m ρ)
  · refine (θ_run Cert.ForgetRefIdeal.defs _ _).mono (fun _ h c => ⟨(h c).1.trans ?_, (h c).2.1.trans ?_, (h c).2.2⟩) (Cert.ForgetRefIdeal.Value.run (F := Ideal) m' ρ')
    · obtain ⟨a0, a1, a2, a3⟩ := hagree c
      rw [Cert.ForgetRefIdeal.Read.val_main_v42_eq, a0, a1, a2, a3]
      funext i
      exact (congrArg _ (eq_ix2 i)).trans (reference_log _ _ _ _ (i 0) (i 1))
    · obtain ⟨a0, a1, a2, a3⟩ := hagree c
      rw [Cert.ForgetRefIdeal.Read.val_main_v55_eq, a0, a1, a2, a3]
      funext i
      exact (congrArg _ (eq_ix2 i)).trans (reference_rest _ _ _ _ (i 0) (i 1))
end Cert.Rows.Forget
end
-- ==== Proof.LatentArray.lean ====
/- The attention's query latents, from one grid point to the whole result: each row is normalised, multiplied by the weight, and normalised again. -/
module

public import proofs.«01_k».proof.Proof.GateBody
public import proofs.«01_k».proof.Proof.Gen.LatentIdeal.Value

@[expose] public section
set_option maxRecDepth 16384
noncomputable section
namespace Cert.Rows.Latent
open Cert.LatentIdeal Cert.LatentIdeal.Gen Idealize.ShloMosaic Idealize.ShloMosaic.TcCoe Idealize.SL.Sem
open Cert.Rows.Gate (hz)

theorem latent_apply (a : Vec Ideal S512x2048 .bf16) (w : Vec Ideal S2048x768 .bf16) (g : Vec Ideal S1x768 .f32) (r : Fin 512) (n : Fin 768) :
    k0_pay2 a w g (ix2 r n) = normed 0x44400000#32 (fun n => dot (fun k => a (ix2 r k)) (fun k => w (ix2 k n))) (fun n => g (ix2 0 n)) n := by
  pointwise [k0_pay2]
  rfl

/-- Each point stores the latents of the rows it has just normalised. -/
theorem out_eq (c : Dev nD) (i : grid0.Coords) (a2 : Memref sig .tc .vmem S512x2048 .f32) (h2 : a2.IsWhole) (a3 : Memref sig .tc .vmem S1x2048 .f32) (h3 : a3.IsWhole)
    (a4 : Memref sig .tc .vmem S2048x768 .bf16) (h4 : a4.IsWhole) (a5 : Memref sig .tc .vmem S1x768 .f32) (h5 : a5.IsWhole)
    (a6 : Memref sig .tc .vmem S512x768 .bf16) (h6 : a6.IsWhole) (a7 : Memref sig .tc .vmem S512x2048 .bf16) (h7 : a7.IsWhole) (hc : cond0_0 i)
    (x : Vec Ideal S512x2048 .f32) (g : Vec Ideal S1x2048 .f32) (w : Vec Ideal S2048x768 .bf16) (q : Vec Ideal S1x768 .f32) :
    out0_A_4 c i a2 h2 a3 h3 a4 h4 a5 h5 a6 h6 a7 h7 hc x g w q = k0_pay2 (k0_pay1 x g) w q := by
  unfold out0_A_4
  rw [View.read_writes_eq_canon _ _ _ (cover0_A_4 c i a2 h2 a3 h3 a4 h4 a5 h5 a6 h6 a7 h7 hc x g w q)]
  unfold kernelRun0_A
  dsimp only
  sl_unfold_words
  rw [View.canon_cons_unit_zero (S := S512x768) hz, View.readCov_unit_zero (S := S512x2048) _ hz]
  simp only [View.readAt_eq_ld, h2.read_unread, h3.read_unread, h4.read_unread, h5.read_unread, View.ld_unit_zero (S := S512x2048) hz,
    View.ld_unit_zero (S := S1x2048) hz, View.ld_unit_zero (S := S2048x768) hz, View.ld_unit_zero (S := S1x768) hz]

/-- Point `t` is row block `t`: where its blocks lie. -/
theorem places : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by
  decide +kernel

theorem extents : ∀ t : Fin grid0.N, win0_4.xsize (grid0.coords t) 0 = 512 ∧ win0_4.xsize (grid0.coords t) 1 = 768 := by
  decide +kernel

/-- The points' blocks fill the result. -/
theorem cover (i : S8192x768.Idx) : ∃ t : Fin cfg0.N, (cfg0.win 4).flush t = true ∧ i ∈ ((cfg0.win 4).blk t).view.set := by
  have h0 : (i 0).val < 8192 := (i 0).isLt
  have h1 : (i 1).val < 768 := (i 1).isLt
  have hN : cfg0.N = 16 := N_0
  obtain ⟨t, ht⟩ : ∃ t : Fin cfg0.N, t.val = (i 0).val / 512 := ⟨⟨_, by omega⟩, rfl⟩
  refine ⟨t, flush0_4 t, ?_⟩
  show i ∈ ((View.whole main_v3).slice (win0_4.rect t)).set
  rw [View.set_slice_whole, Rect.mem_set_unit]
  obtain ⟨-, -, -, -, p0, p1⟩ := places t
  obtain ⟨e0, e1⟩ := extents t
  have s0 : win0_4.size 0 = 512 := rfl
  have s1 : win0_4.size 1 = 768 := rfl
  intro a
  match a with
  | ⟨0, _⟩ => show win0_4.index t 0 * win0_4.size 0 ≤ (i 0).val ∧ (i 0).val < win0_4.index t 0 * win0_4.size 0 + win0_4.xsize (grid0.coords t) 0
              rw [p0, s0, e0]; omega
  | ⟨1, _⟩ => show win0_4.index t 1 * win0_4.size 1 ≤ (i 1).val ∧ (i 1).val < win0_4.index t 1 * win0_4.size 1 + win0_4.xsize (grid0.coords t) 1
              rw [p1, s1, e1]; omega

section
variable (m : (ℓ : Loc nD τ sig) → Buf (Elt Ideal) ℓ) (c : Dev nD)

/-- The arguments' entries as extended reals. -/
abbrev xAt (i : Fin 8192) (k : Fin 2048) : EReal := m ((c : Thread nD τ).loc main_arg0) (ix2 i k)
abbrev gAt (k : Fin 2048) : EReal := m ((c : Thread nD τ).loc main_arg1) (ix1 k)
abbrev wAt (k : Fin 2048) (n : Fin 768) : EReal := m ((c : Thread nD τ).loc main_arg2) (ix2 k n)
abbrev qAt (n : Fin 768) : EReal := m ((c : Thread nD τ).loc main_arg3) (ix1 n)

theorem entry_gain (k : Fin 2048) : V m c main_v0 (ix2 0 k) = gAt m c k := by
  show StableHlo.after hostOps0 (fun b => m (c, b)) (Proc.devRef .tc main_v0) (ix2 0 k) = m ((c : Thread nD τ).loc main_arg1) (ix1 k)
  after_results
  pointwise

theorem entry_weight (k : Fin 2048) (n : Fin 768) : V m c main_v1 (ix2 k n) = wAt m c k n := by
  show StableHlo.after hostOps0 (fun b => m (c, b)) (Proc.devRef .tc main_v1) (ix2 k n) = _
  after_results
  rfl

theorem entry_latent_gain (n : Fin 768) : V m c main_v2 (ix2 0 n) = qAt m c n := by
  show StableHlo.after hostOps0 (fun b => m (c, b)) (Proc.devRef .tc main_v2) (ix2 0 n) = m ((c : Thread nD τ).loc main_arg3) (ix1 n)
  after_results
  pointwise

/-- Point `t`'s part of the rows. -/
def row (t : Fin cfg0.N) (r : Fin 512) : Fin 8192 := ⟨512 * t.val + r.val, by have h : t.val < cfg0.N := t.isLt; have hN : cfg0.N = 16 := N_0; omega⟩

theorem block_x (t : Fin cfg0.N) (r : Fin 512) (k : Fin 2048) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val * 512 + r.val = 512 * t.val + r.val; omega)
  · exact (win0_0.rect_emb_val t (ix2 r k) 1).trans (by rw [p1]; show 0 * 2048 + k.val = k.val; omega)

theorem block_g (t : Fin cfg0.N) (k : Fin 2048) : iblk m c 1 t (ix2 0 k) = gAt m c k := by
  obtain ⟨-, ⟨p0, p1⟩, -⟩ := places t
  refine (congrArg (V m c main_v0) (idx_eq ((win0_1.rect t).emb (ix2 0 k)) 0 k ?_ ?_)).trans (entry_gain m c k)
  · exact (win0_1.rect_emb_val t (ix2 0 k) 0).trans (by rw [p0]; rfl)
  · exact (win0_1.rect_emb_val t (ix2 0 k) 1).trans (by rw [p1]; show 0 * 2048 + k.val = k.val; omega)

theorem block_w (t : Fin cfg0.N) (k : Fin 2048) (n : Fin 768) : iblk m c 2 t (ix2 k n) = wAt m c k n := by
  obtain ⟨-, -, ⟨p0, p1⟩, -⟩ := places t
  refine (congrArg (V m c main_v1) (idx_eq ((win0_2.rect t).emb (ix2 k n)) k n ?_ ?_)).trans (entry_weight m c k n)
  · exact (win0_2.rect_emb_val t (ix2 k n) 0).trans (by rw [p0]; show 0 * 2048 + k.val = k.val; omega)
  · exact (win0_2.rect_emb_val t (ix2 k n) 1).trans (by rw [p1]; show 0 * 768 + n.val = n.val; omega)

theorem block_q (t : Fin cfg0.N) (n : Fin 768) : iblk m c 3 t (ix2 0 n) = qAt m c n := by
  obtain ⟨-, -, -, ⟨p0, p1⟩, -⟩ := places t
  refine (congrArg (V m c main_v2) (idx_eq ((win0_3.rect t).emb (ix2 0 n)) 0 n ?_ ?_)).trans (entry_latent_gain m c n)
  · exact (win0_3.rect_emb_val t (ix2 0 n) 0).trans (by rw [p0]; rfl)
  · exact (win0_3.rect_emb_val t (ix2 0 n) 1).trans (by rw [p1]; show 0 * 768 + n.val = n.val; omega)

/-- Row `i` of the argument after its norm. -/
def rowOf (i : Fin 8192) : Fin 2048 → EReal := normed 0x45000000#32 (xAt m c i) (gAt m c)

theorem block_norm (t : Fin cfg0.N) (r : Fin 512) (k : Fin 2048) : k0_pay1 (iblk m c 0 t) (iblk m c 1 t) (ix2 r k) = rowOf m c (row t r) k :=
  (Gate.norm_apply (iblk m c 0 t) (iblk m c 1 t) r k).trans (by simp only [block_x, block_g]; rfl)

/-- Row `i` of the latents. -/
def latents (i : Fin 8192) : Fin 768 → EReal := normed 0x44400000#32 (fun n => dot (rowOf m c i) (fun k => wAt m c k n)) (qAt m c)

theorem point_eq (t : Fin cfg0.N) (r : Fin 512) (n : Fin 768) : outsAt0 m c t (ix2 r n) = latents m c (row t r) n := by
  unfold outsAt0
  rw [out_eq]
  refine (latent_apply _ _ _ r n).trans ?_
  simp only [block_norm, block_w, block_q]
  rfl

/-- The whole result. -/
def result : Buf (Elt Ideal) ((c : Thread nD τ).loc main_v3) := fun i => latents m c (i 0) (i 1)

theorem flushed_eq (t : Fin cfg0.N) : (dats m 0 c).flushed 4 t = (win0_4.blk t).view.read (Elt Ideal) (result m c) := by
  rw [Value.flushed4]
  funext y
  change S512x768.Idx at y
  show outsAt0 m c t y = result m c ((win0_4.rect t).emb y)
  obtain ⟨-, -, -, -, p0, p1⟩ := places t
  have e : (win0_4.rect t).emb y = ix2 (row t (y 0)) (y 1) := idx_eq _ _ _
    ((win0_4.rect_emb_val t y 0).trans (by rw [p0]; show t.val * 512 + (y 0).val = 512 * t.val + (y 0).val; omega))
    ((win0_4.rect_emb_val t y 1).trans (by rw [p1]; show 0 * 768 + (y 1).val = (y 1).val; omega))
  rw [e]
  exact (congrArg _ (eq_ix2 y)).trans (point_eq m c t (y 0) (y 1))

theorem final : (dats m 0 c).arrAt 4 cfg0.N = result m c :=
  (dats m 0 c).arrAt_eq_of_cover 4 (result m c) (fun t _ => flushed_eq m c t) cover
end
end Cert.Rows.Latent
end
-- ==== Proof.LatentClaims.lean ====
/- The claims about the attention's query latents, put together. -/
module

public import proofs.«01_k».proof.Defs
public import proofs.«01_k».proof.Proof.LatentArray
public import proofs.«01_k».proof.Proof.Gen.LatentRefIdeal.Read
public import proofs.«01_k».proof.Proof.Gen.LatentRefIdeal.Run

@[expose] public section
noncomputable section
namespace Cert.Rows.Latent
open Idealize.ShloMosaic Idealize.ShloMosaic.TcCoe Idealize.SL.Sem

section
open Cert.LatentRefIdeal Cert.LatentRefIdeal.Gen Cert.LatentRefIdeal.Read

/-- The reference's products, entry by entry. -/
theorem reference_product (x : Vec Ideal S8192x2048 .f32) (g : Vec Ideal S2048 .f32) (w : Vec Ideal S2048x768 .f32) (r : Fin 8192) (n : Fin 768) :
    val_main_v13 (F := Ideal) x g w (ix2 r n) = dot (normed 0x45000000#32 (fun k => x (ix2 r k)) (fun k => g (ix1 k))) (fun k => w (ix2 k n)) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's second norm, entry by entry. -/
theorem reference_apply (x : Vec Ideal S8192x2048 .f32) (g : Vec Ideal S2048 .f32) (w : Vec Ideal S2048x768 .f32) (q : Vec Ideal S768 .f32) (r : Fin 8192) (n : Fin 768) :
    val_main_v27 (F := Ideal) x g w q (ix2 r n) = normed 0x44400000#32 (fun n => val_main_v13 (F := Ideal) x g w (ix2 r n)) (fun n => q (ix1 n)) n := by
  pointwise [val_main_v27, val_main_v26, val_main_v25, val_main_v24, val_main_v23, val_main_v22, val_main_v21, val_main_v20, val_main_v19, val_main_v18,
    val_main_v17, val_main_v16, val_main_v15, val_main_v14, val_main_cst_2, val_main_cst_3, val_main_cst_4]
  rfl
end

theorem frame_reference : Cert.quiescent_LatentRefIdeal (hLatentRefIdeal := Cert.LatentRefIdeal.Gen.facts) := fun m ρ _ =>
  (θ_run Cert.LatentRefIdeal.defs _ _).mono (fun r h => ⟨fun c => (h c).2, sem_eq_zero_of_no_sems (by decide) r.2⟩)
    (Cert.LatentRefIdeal.Value.run (F := Ideal) m ρ)

theorem algebraic : Cert.algebraic_LatentIdeal_LatentRefIdeal (hLatentIdeal := Cert.LatentIdeal.Gen.facts) (hLatentRefIdeal := Cert.LatentRefIdeal.Gen.facts) := by
  intro m ρ m' ρ' hpre hagree
  refine ⟨fun c => result m c, ?_, ?_⟩
  · exact (θ_run Cert.LatentIdeal.defs _ _).mono (fun _ h c => ⟨(h c).1.trans (final m c), (h c).2⟩) (Cert.LatentIdeal.Value.run_blocks (F := Ideal) m ρ)
  · refine (θ_run Cert.LatentRefIdeal.defs _ _).mono (fun _ h c => ⟨(h c).1.trans ?_, (h c).2⟩) (Cert.LatentRefIdeal.Value.run (F := Ideal) m' ρ')
    obtain ⟨a0, a1, a2, a3⟩ := hagree c
    rw [Cert.LatentRefIdeal.Read.val_main_v27_eq, a0, a1, a2, a3]
    funext i
    refine ((congrArg _ (eq_ix2 i)).trans (reference_apply _ _ _ _ (i 0) (i 1))).trans ?_
    exact congrArg (fun f => normed 0x44400000#32 f _ (i 1)) (funext fun n => reference_product _ _ _ (i 0) n)
end Cert.Rows.Latent
end
-- ==== Proof.Rope.lean ====
/- The rotary embedding of a stretch of 64 columns: its angles, and its two ways of being written. -/
module

public import Idealize.ShloMosaic.Lib.Pointwise

@[expose] public section
noncomputable section
namespace Cert.Rope
open Idealize.ShloMosaic

/-- The angle by which the pair of columns `(j, j + 32)` is turned at position `p`. -/
def angle (p j : ℕ) : EReal :=
  FloatOps.sitofp (F := Ideal) .f32 (BitVec.ofNat 32 p) * Ideal.pow (Ideal.ofBits .f32 1176256512#32)
    (Ideal.div (-(Ideal.ofBits .f32 1073741824#32 * FloatOps.sitofp (F := Ideal) .f32 (BitVec.ofNat 32 j))) (Ideal.ofBits .f32 1115684864#32))

/-- The cosine that column `j` of a stretch is multiplied by. -/
def cosine (p j : ℕ) : EReal := Ideal.cos (angle p (j % 32))

/-- The sine that column `j`'s partner is multiplied by, with its sign. -/
def sine (p j : ℕ) : EReal := if j % 64 < 32 then -Ideal.sin (angle p (j % 32)) else Ideal.sin (angle p (j % 32))

/-- Column `j` of the stretch `f`, turned: the column times the cosine and its partner times the signed sine. -/
def turned (f : ℕ → EReal) (p j : ℕ) : EReal := f j * cosine p j + f ((j + 32) % 64) * sine p j

theorem turned_low (f : ℕ → EReal) (p j : ℕ) (h : j < 32) :
    f j * Ideal.cos (angle p j) - f (j + 32) * Ideal.sin (angle p j) = turned f p j := by
  unfold turned cosine sine
  rw [Nat.mod_eq_of_lt h, Nat.mod_eq_of_lt (show j < 64 by omega), if_pos h, Nat.mod_eq_of_lt (show j + 32 < 64 by omega), mul_neg, ← sub_eq_add_neg]

theorem turned_high (f : ℕ → EReal) (p j : ℕ) (h : 32 ≤ j) (h' : j < 64) :
    f j * Ideal.cos (angle p (j - 32)) + f (j - 32) * Ideal.sin (angle p (j - 32)) = turned f p j := by
  unfold turned cosine sine
  rw [show j % 32 = j - 32 by omega, Nat.mod_eq_of_lt h', if_neg (by omega), show (j + 32) % 64 = j - 32 by omega]

theorem turned_congr {f g : ℕ → EReal} (h : ∀ j, j < 64 → f j = g j) (p j : ℕ) (hj : j < 64) : turned f p j = turned g p j := by
  unfold turned
  rw [h j hj, h _ (Nat.mod_lt _ (by omega))]
end Cert.Rope
end
-- ==== Proof.QUpTables.lean ====
/- The arrays prepared for the expansion of the query latents: the cosines, the signed sines, and the weight with its rotated columns beside the plain ones. -/
module

public import proofs.«01_k».proof.Proof.GateBody
public import proofs.«01_k».proof.Proof.Rope
public import proofs.«01_k».proof.Proof.Gen.QUpIdeal.Value
public import Idealize.ShloMosaic.Lib.StableHlo.ReadAt

@[expose] public section
set_option maxRecDepth 16384
noncomputable section
namespace Cert.Rows.QUp
open Cert.QUpIdeal Cert.QUpIdeal.Gen Idealize.ShloMosaic Idealize.ShloMosaic.TcCoe Idealize.SL.Sem
open Cert.Rope (angle cosine sine turned)

section
variable (m : (ℓ : Loc nD τ sig) → Buf (Elt Ideal) ℓ) (c : Dev nD)

theorem entry_cosine (p : Fin 2048) (e : Fin 128) : V m c main_v18 (ix2 p e) = cosine p e := by
  unfold V cosine
  after_reads_at
  split_ifs
  all_goals after_reads_at
  all_goals exact congrArg (fun j : ℕ => Ideal.cos (angle p j)) (show (_ : ℕ) = _ by omega)

theorem entry_sine (p : Fin 2048) (e : Fin 128) : V m c main_v21 (ix2 p e) = sine p e := by
  have low : e.val % 64 < 32 → sine p e = -Ideal.sin (angle p (e.val % 32)) := fun h => if_pos h
  have high : ¬ e.val % 64 < 32 → sine p e = Ideal.sin (angle p (e.val % 32)) := fun h => if_neg h
  unfold V
  after_reads_at
  split_ifs
  all_goals after_reads_at
  all_goals first
    | rw [low (by omega)]; exact congrArg (fun j : ℕ => -Ideal.sin (angle p j)) (show (_ : ℕ) = _ by omega)
    | rw [high (by omega)]; exact congrArg (fun j : ℕ => Ideal.sin (angle p j)) (show (_ : ℕ) = _ by omega)

/-- The weight's entries as extended reals, by the column's number. -/
def wCol (k : Fin 768) (n : ℕ) : EReal := m ((c : Thread nD τ).loc main_arg1) (ix2 k (Fin.ofNat 6144 n))

/-- The column of the weight that column `n` of the prepared weight is: of each pair of heads the plain columns, those to be turned, and those again with their halves exchanged. -/
def source (n : ℕ) : ℕ :=
  if n % 512 < 256 then 384 * (n / 512) + 192 * (n % 512 / 128) + n % 512 % 128
  else if n % 512 < 384 then 384 * (n / 512) + 192 * ((n % 512 - 256) / 64) + 128 + (n % 512 - 256) % 64
  else 384 * (n / 512) + 192 * ((n % 512 - 384) / 64) + 128 + ((n % 512 - 384) % 64 + 32) % 64

theorem entry_weight (k : Fin 768) (n : Fin 8192) : V m c main_v33 (ix2 k n) = wCol m c k (source n) := by
  have pick : ∀ j : Fin 6144, j.val = source n → m ((c : Thread nD τ).loc main_arg1) (ix2 k j) = wCol m c k (source n) := fun j h =>
    congrArg (fun j => m ((c : Thread nD τ).loc main_arg1) (ix2 k j)) (Fin.ext (by rw [Fin.val_ofNat, ← h, Nat.mod_eq_of_lt j.isLt]))
  have hn := n.isLt
  unfold V
  after_reads_at
  split_ifs
  all_goals try after_reads_at
  all_goals try split_ifs
  all_goals try after_reads_at
  all_goals refine pick _ ?_
  all_goals unfold source; dsimp only; split_ifs <;> omega
end
end Cert.Rows.QUp
end
-- ==== Proof.QUpBlock.lean ====
/- One block of the query expansion: what the kernel stores of a block's products, and that these are the scaled head columns, the last 64 of each turned. -/
module

public import proofs.«01_k».proof.Proof.QUpTables

@[expose] public section
set_option maxRecDepth 16384
noncomputable section
namespace Cert.Rows.QUp
open Cert.QUpIdeal Cert.QUpIdeal.Gen Idealize.ShloMosaic Idealize.ShloMosaic.TcCoe Idealize.SL.Sem
open Cert.Rows.Gate (hz)
open Cert.Rope (angle cosine sine turned)

/-- The scale of the scores, under the name the kernel's constant has. -/
abbrev scale : EReal := Named.named (F := Ideal) Cert.QUpIdeal.κ "scale" (φ := .f32) 0x3D93CD3A#32

/-- The float the reference takes the root of. -/
theorem ofBits_192 : Ideal.ofBits .f32 0x43400000#32 = ((192 : ℝ) : EReal) := by
  simp [Ideal.ofBits, Ideal.ieee, -EReal.coe_mul]
  norm_num

/-- A quotient by the root of 192 is the product with the scale. -/
theorem div_root (y : EReal) : Ideal.div y (Ideal.sqrt (Ideal.ofBits .f32 0x43400000#32)) = y * scale := by
  rw [show scale = (((Real.sqrt 192)⁻¹ : ℝ) : EReal) from IdealRules.named_const.ideal_named_scalar _ _ _ _ rfl, ofBits_192, Ideal.sqrt_coe,
    if_neg (by norm_num), Ideal.div_coe (Real.sqrt_pos.mpr (by norm_num)).ne', one_div]

/-- Column `e` of the turned columns of both heads of pair `j`, from the products `f` of a row. -/
def ropeOf (f cs sn : ℕ → EReal) (j e : ℕ) : EReal := (f (512 * j + 256 + e) * cs e + f (512 * j + 384 + e) * sn e) * scale

/-- What the kernel stores in column `n`: for each pair of heads the first's plain columns, its turned columns and zeros, the second's plain columns, zeros and its turned columns. -/
def parts (f cs sn : ℕ → EReal) (n : ℕ) : EReal :=
  if n % 512 < 128 then f (512 * (n / 512) + n % 512) * scale
  else if n % 512 < 256 then (if n % 512 - 128 < 64 then ropeOf f cs sn (n / 512) (n % 512 - 128) else 0)
  else if n % 512 < 384 then f (512 * (n / 512) + 128 + (n % 512 - 256)) * scale
  else if n % 512 - 384 < 64 then 0 else ropeOf f cs sn (n / 512) (n % 512 - 384)

section
variable (f cs sn : ℕ → EReal) (j e : ℕ) (h : e < 128)
include h

theorem parts_first : parts f cs sn (512 * j + e) = f (512 * j + e) * scale := by
  unfold parts
  rw [show (512 * j + e) % 512 = e by omega, show (512 * j + e) / 512 = j by omega, if_pos h]

theorem parts_first_turned : parts f cs sn (512 * j + 128 + e) = if e < 64 then ropeOf f cs sn j e else 0 := by
  unfold parts
  rw [show (512 * j + 128 + e) % 512 = 128 + e by omega, show (512 * j + 128 + e) / 512 = j by omega, if_neg (by omega), if_pos (by omega), Nat.add_sub_cancel_left]

theorem parts_second : parts f cs sn (512 * j + 256 + e) = f (512 * j + 128 + e) * scale := by
  unfold parts
  rw [show (512 * j + 256 + e) % 512 = 256 + e by omega, show (512 * j + 256 + e) / 512 = j by omega, if_neg (by omega), if_neg (by omega), if_pos (by omega),
    Nat.add_sub_cancel_left]

theorem parts_second_turned : parts f cs sn (512 * j + 384 + e) = if e < 64 then 0 else ropeOf f cs sn j e := by
  unfold parts
  rw [show (512 * j + 384 + e) % 512 = 384 + e by omega, show (512 * j + 384 + e) / 512 = j by omega, if_neg (by omega), if_neg (by omega), if_neg (by omega),
    Nat.add_sub_cancel_left]
end

/-- The block's mask: the first 64 of 128 columns. -/
theorem mask_apply (e : Fin 128) (x y : EReal) :
    Scalar.select (IntOp.cmpi .slt (BitVec.ofNat 32 e.val) 64#32) x y = if e.val < 64 then x else y := by
  have h : ∀ e : Fin 128, IntOp.cmpi .slt (BitVec.ofNat 32 e.val) 64#32 = if e.val < 64 then 1#1 else 0#1 := by decide +kernel
  rw [h]
  split_ifs <;> rfl

/-- The block of a step, from its products and its rows of the two tables. -/
def blockVal (acc : Vec Ideal S512x1024 .f32) (cs sn : Vec Ideal S512x128 .f32) : Vec Ideal S512x1024 .bf16 := fun y =>
  parts (fun n => acc (ix2 (y 0) (Fin.ofNat 1024 n))) (fun e => cs (ix2 (y 0) (Fin.ofNat 128 e))) (fun e => sn (ix2 (y 0) (Fin.ofNat 128 e))) (y 1).val

section
variable (acc : Vec Ideal S512x1024 .f32) (cs sn : Vec Ideal S512x128 .f32)

/-- A stored piece of 128 columns is its part of the block. -/
theorem piece_apply (o : ℕ) (inb : ∀ a, ![0, o] a + S512x128.size a ≤ S512x1024.size a) (P : Vec Ideal S512x128 .bf16)
    (hP : ∀ (r : Fin 512) (e : Fin 128), P (ix2 r e) = parts (fun n => acc (ix2 r (Fin.ofNat 1024 n))) (fun e => cs (ix2 r (Fin.ofNat 128 e)))
      (fun e => sn (ix2 r (Fin.ofNat 128 e))) (o + e.val)) (x : S512x128.Idx) :
    P x = blockVal acc cs sn ((Rect.unit (s := S512x1024) ![0, o] S512x128.size inb).emb x) := by
  have e : (Rect.unit (s := S512x1024) ![0, o] S512x128.size inb).emb x
      = ix2 (x 0) ⟨o + (x 1).val, by have h0 := inb 1; have h1 : (x 1).val < 128 := (x 1).isLt; have h2 : o + 128 ≤ 1024 := h0; omega⟩ := idx_eq _ _ _
    (show 0 + 1 * (x 0).val = (x 0).val by omega) (show o + 1 * (x 1).val = o + (x 1).val by omega)
  rw [e]
  exact (congrArg P (eq_ix2 x)).trans (hP (x 0) (x 1))

theorem column (r : Fin 512) (n : ℕ) (h : n < 1024) : acc (ix2 r ⟨n, h⟩) = acc (ix2 r (Fin.ofNat 1024 n)) :=
  congrArg (fun j => acc (ix2 r j)) (Fin.ext (Nat.mod_eq_of_lt h).symm)

theorem entry_of (v : Vec Ideal S512x128 .f32) (r : Fin 512) (e : Fin 128) : v (ix2 r e) = v (ix2 r (Fin.ofNat 128 e.val)) :=
  congrArg (fun j => v (ix2 r j)) (Fin.ext (Nat.mod_eq_of_lt e.isLt).symm)
end

section
variable (a : Vec Ideal S512x768 .bf16) (w : Vec Ideal S768x1024 .bf16) (cs sn : Vec Ideal S512x128 .f32)

theorem product_apply (r : Fin 512) (n : Fin 1024) : k0_pay7 a w (ix2 r n) = dot (fun k => a (ix2 r k)) (fun k => w (ix2 k n)) := by
  pointwise [k0_pay7]
  rfl

/-- The row of products and of the tables that a stored piece is made of. -/
abbrev rowOf (acc : Vec Ideal S512x1024 .f32) (r : Fin 512) : ℕ → EReal := fun n => acc (ix2 r (Fin.ofNat 1024 n))
abbrev tableOf (v : Vec Ideal S512x128 .f32) (r : Fin 512) : ℕ → EReal := fun e => v (ix2 r (Fin.ofNat 128 e))

theorem plain_0 (r : Fin 512) (e : Fin 128) : k0_pay10 a w (ix2 r e) = rowOf (k0_pay7 a w) r (512 * 0 + e.val) * scale := by
  unfold rowOf
  rw [← column (k0_pay7 a w) r (512 * 0 + e.val) (by omega)]
  pointwise [k0_pay10]

theorem plain_1 (r : Fin 512) (e : Fin 128) : k0_pay12 a w (ix2 r e) = rowOf (k0_pay7 a w) r (512 * 0 + 128 + e.val) * scale := by
  unfold rowOf
  rw [← column (k0_pay7 a w) r (512 * 0 + 128 + e.val) (by omega)]
  pointwise [k0_pay12]

theorem plain_2 (acc : Vec Ideal S512x1024 .f32) (r : Fin 512) (e : Fin 128) : k0_pay3 (F := Ideal) acc (ix2 r e) = rowOf acc r (512 * 1 + e.val) * scale := by
  unfold rowOf
  rw [← column acc r (512 * 1 + e.val) (by omega)]
  pointwise [k0_pay3]

theorem plain_3 (acc : Vec Ideal S512x1024 .f32) (r : Fin 512) (e : Fin 128) : k0_pay5 (F := Ideal) acc (ix2 r e) = rowOf acc r (512 * 1 + 128 + e.val) * scale := by
  unfold rowOf
  rw [← column acc r (512 * 1 + 128 + e.val) (by omega)]
  pointwise [k0_pay5]

theorem rope_0 (r : Fin 512) (e : Fin 128) : k0_pay9 a w cs sn (ix2 r e) = ropeOf (rowOf (k0_pay7 a w) r) (tableOf cs r) (tableOf sn r) 0 e := by
  unfold ropeOf rowOf tableOf
  rw [← column (k0_pay7 a w) r (512 * 0 + 256 + e.val) (by omega), ← column (k0_pay7 a w) r (512 * 0 + 384 + e.val) (by omega), ← entry_of cs, ← entry_of sn]
  pointwise [k0_pay9]

theorem rope_1 (acc : Vec Ideal S512x1024 .f32) (r : Fin 512) (e : Fin 128) :
    k0_pay2 acc cs sn (ix2 r e) = ropeOf (rowOf acc r) (tableOf cs r) (tableOf sn r) 1 e := by
  unfold ropeOf rowOf tableOf
  rw [← column acc r (512 * 1 + 256 + e.val) (by omega), ← column acc r (512 * 1 + 384 + e.val) (by omega), ← entry_of cs, ← entry_of sn]
  pointwise [k0_pay2]

theorem turned_0 (r : Fin 512) (e : Fin 128) :
    k0_pay11 a w cs sn (ix2 r e) = if e.val < 64 then ropeOf (rowOf (k0_pay7 a w) r) (tableOf cs r) (tableOf sn r) 0 e else 0 := by
  rw [← rope_0, ← mask_apply]
  pointwise [k0_pay11, k0_pay8]

theorem turned_1 (r : Fin 512) (e : Fin 128) :
    k0_pay1 (k0_pay13 a w cs sn) (ix2 r e) = if e.val < 64 then 0 else ropeOf (rowOf (k0_pay7 a w) r) (tableOf cs r) (tableOf sn r) 0 e := by
  rw [← rope_0, ← mask_apply]
  pointwise [k0_pay1, k0_pay13, k0_pay8]

theorem turned_2 (acc : Vec Ideal S512x1024 .f32) (r : Fin 512) (e : Fin 128) :
    k0_pay4 acc k0_pay8 cs sn (ix2 r e) = if e.val < 64 then ropeOf (rowOf acc r) (tableOf cs r) (tableOf sn r) 1 e else 0 := by
  rw [← rope_1, ← mask_apply]
  pointwise [k0_pay4, k0_pay8]

theorem turned_3 (acc : Vec Ideal S512x1024 .f32) (r : Fin 512) (e : Fin 128) :
    k0_pay6 acc k0_pay8 cs sn (ix2 r e) = if e.val < 64 then 0 else ropeOf (rowOf acc r) (tableOf cs r) (tableOf sn r) 1 e := by
  rw [← rope_1, ← mask_apply]
  pointwise [k0_pay6, k0_pay8]

theorem out_eq : out0_4 a w cs sn = blockVal (k0_pay7 a w) cs sn := by
  funext y
  unfold out0_4
  refine View.canon_apply_of_pieces (blockVal (k0_pay7 a w) cs sn) _ ?_ y (cover0_4 _ _ _ _ _ _ _ _ y)
  unfold k0_pay14 k0_pay15
  simp only [View.ld_unit_zero (S := S512x768) hz, View.ld_unit_zero (S := S768x1024) hz, View.ld_unit_zero (S := S512x128) hz]
  intro p hp
  simp only [List.mem_cons, List.not_mem_nil, or_false] at hp
  rcases hp with rfl | rfl | rfl | rfl | rfl | rfl | rfl | rfl
  · exact piece_apply _ cs sn 896 inb_S512x1024_S512x128_0_896 _ fun r e => (turned_3 cs sn _ r e).trans (parts_second_turned _ _ _ 1 _ e.isLt).symm
  · exact piece_apply _ cs sn 768 inb_S512x1024_S512x128_0_768 _ fun r e => (plain_3 _ r e).trans (parts_second _ _ _ 1 _ e.isLt).symm
  · exact piece_apply _ cs sn 640 inb_S512x1024_S512x128_0_640 _ fun r e => (turned_2 cs sn _ r e).trans (parts_first_turned _ _ _ 1 _ e.isLt).symm
  · exact piece_apply _ cs sn 512 inb_S512x1024_S512x128_0_512 _ fun r e => (plain_2 _ r e).trans (parts_first _ _ _ 1 _ e.isLt).symm
  · exact piece_apply _ cs sn 384 inb_S512x1024_S512x128_0_384 _ fun r e => (turned_1 a w cs sn r e).trans (parts_second_turned _ _ _ 0 _ e.isLt).symm
  · exact piece_apply _ cs sn 256 inb_S512x1024_S512x128_0_256 _ fun r e => (plain_1 a w r e).trans (parts_second _ _ _ 0 _ e.isLt).symm
  · exact piece_apply _ cs sn 128 inb_S512x1024_S512x128_0_128 _ fun r e => (turned_0 a w cs sn r e).trans (parts_first_turned _ _ _ 0 _ e.isLt).symm
  · exact piece_apply _ cs sn 0 inb_S512x1024_S512x128_0_0 _ fun r e => (plain_0 a w r e).trans (parts_first _ _ _ 0 _ e.isLt).symm
end

/-- Column `n` of the scaled query heads, from a row's products `q` with the columns of the weight: of each pair of heads the first's plain columns,
its turned columns, zeros, the second's plain columns, zeros, its turned columns. -/
def heads (q : ℕ → EReal) (p n : ℕ) : EReal :=
  if n % 512 < 128 then q (384 * (n / 512) + n % 512) * scale
  else if n % 512 < 192 then turned (fun j => q (384 * (n / 512) + 128 + j)) p (n % 512 - 128) * scale
  else if n % 512 < 256 then 0
  else if n % 512 < 384 then q (384 * (n / 512) + 192 + (n % 512 - 256)) * scale
  else if n % 512 < 448 then 0
  else turned (fun j => q (384 * (n / 512) + 320 + j)) p (n % 512 - 448) * scale

/-- The block of column block `b`, stored from the products with the prepared weight, holds the scaled query heads. -/
theorem parts_eq (q : ℕ → EReal) (p b n : ℕ) (hn : n < 1024) :
    parts (fun k => q (source (1024 * b + k % 1024))) (fun e => cosine p (e % 128)) (fun e => sine p (e % 128)) n = heads q p (1024 * b + n) := by
  have cs : ∀ {x y : ℕ}, x % 32 = y % 32 → cosine p x = cosine p y := fun h => congrArg (fun j => Ideal.cos (angle p j)) h
  have sn : ∀ {x y : ℕ}, x % 64 = y % 64 → sine p x = sine p y := fun {x y} h => by
    unfold sine
    rw [h, show x % 32 = y % 32 by omega]
  unfold parts heads ropeOf turned
  rw [show (1024 * b + n) % 512 = n % 512 by omega]
  have plain : ∀ {x y : ℕ}, source (1024 * b + x % 1024) = y → q (source (1024 * b + x % 1024)) * scale = q y * scale := fun h => by rw [h]
  have rope : ∀ {x x' e y y' j : ℕ}, source (1024 * b + x % 1024) = y → source (1024 * b + x' % 1024) = y' → e % 128 % 64 = j % 64 →
      (q (source (1024 * b + x % 1024)) * cosine p (e % 128) + q (source (1024 * b + x' % 1024)) * sine p (e % 128)) * scale
        = (q y * cosine p j + q y' * sine p j) * scale := fun {x x' e y y' j} h h' hj => by
    rw [h, h', cs (show e % 128 % 32 = j % 32 by omega), sn hj]
  split_ifs
  all_goals first
    | omega
    | rfl
    | exact plain (by unfold source; split_ifs <;> omega)
    | exact rope (by unfold source; split_ifs <;> omega) (by unfold source; split_ifs <;> omega) (by omega)

theorem blockVal_apply (acc : Vec Ideal S512x1024 .f32) (cs sn : Vec Ideal S512x128 .f32) (q : ℕ → EReal) (p b : ℕ) (r : Fin 512) (n : Fin 1024)
    (h0 : ∀ k : Fin 1024, acc (ix2 r k) = q (source (1024 * b + k.val))) (h1 : ∀ e : Fin 128, cs (ix2 r e) = cosine p e.val)
    (h2 : ∀ e : Fin 128, sn (ix2 r e) = sine p e.val) : blockVal acc cs sn (ix2 r n) = heads q p (1024 * b + n.val) :=
  (congrFun (congr (congr (congrArg parts (funext fun k => h0 (Fin.ofNat 1024 k))) (funext fun e => h1 (Fin.ofNat 128 e)))
    (funext fun e => h2 (Fin.ofNat 128 e))) n.val).trans (parts_eq q p b n.val n.isLt)
end Cert.Rows.QUp
end
-- ==== Proof.QUpArray.lean ====
/- The expansion of the query latents, from its grid points to its whole result: entry `(i, n)` is column `n` of row `i`'s scaled query heads at position `i mod 2048`. -/
module

public import proofs.«01_k».proof.Proof.QUpBlock

@[expose] public section
set_option maxRecDepth 16384
noncomputable section
namespace Cert.Rows.QUp
open Cert.QUpIdeal Cert.QUpIdeal.Gen Idealize.ShloMosaic Idealize.ShloMosaic.TcCoe Idealize.SL.Sem
open Cert.Rope (angle cosine sine turned)

/-- Point `t` is row block `t / 8` and column block `t % 8`: where its blocks lie. -/
theorem places : ∀ t : Fin grid0.N, (win0_0.index t 0 = t.val / 8 ∧ win0_0.index t 1 = 0) ∧ (win0_1.index t 0 = 0 ∧ win0_1.index t 1 = t.val % 8)
    ∧ (win0_2.index t 0 = t.val / 8 % 4 ∧ win0_2.index t 1 = 0) ∧ (win0_3.index t 0 = t.val / 8 % 4 ∧ win0_3.index t 1 = 0)
    ∧ (win0_4.index t 0 = t.val / 8 ∧ win0_4.index t 1 = t.val % 8) := by
  decide +kernel

theorem extents : ∀ t : Fin grid0.N, win0_4.xsize (grid0.coords t) 0 = 512 ∧ win0_4.xsize (grid0.coords t) 1 = 1024 := by
  decide +kernel

/-- The points' blocks fill the result. -/
theorem cover (i : S8192x8192.Idx) : ∃ t : Fin cfg0.N, (cfg0.win 4).flush t = true ∧ i ∈ ((cfg0.win 4).blk t).view.set := by
  have h0 : (i 0).val < 8192 := (i 0).isLt
  have h1 : (i 1).val < 8192 := (i 1).isLt
  have hN : cfg0.N = 128 := N_0
  obtain ⟨t, ht⟩ : ∃ t : Fin cfg0.N, t.val = 8 * ((i 0).val / 512) + (i 1).val / 1024 := ⟨⟨_, by omega⟩, rfl⟩
  refine ⟨t, flush0_4 t, ?_⟩
  show i ∈ ((View.whole main_v34).slice (win0_4.rect t)).set
  rw [View.set_slice_whole, Rect.mem_set_unit]
  obtain ⟨-, -, -, -, p0, p1⟩ := places t
  obtain ⟨e0, e1⟩ := extents t
  have s0 : win0_4.size 0 = 512 := rfl
  have s1 : win0_4.size 1 = 1024 := rfl
  intro a
  match a with
  | ⟨0, _⟩ => show win0_4.index t 0 * win0_4.size 0 ≤ (i 0).val ∧ (i 0).val < win0_4.index t 0 * win0_4.size 0 + win0_4.xsize (grid0.coords t) 0
              rw [p0, s0, e0]; omega
  | ⟨1, _⟩ => show win0_4.index t 1 * win0_4.size 1 ≤ (i 1).val ∧ (i 1).val < win0_4.index t 1 * win0_4.size 1 + win0_4.xsize (grid0.coords t) 1
              rw [p1, s1, e1]; omega

section
variable (m : (ℓ : Loc nD τ sig) → Buf (Elt Ideal) ℓ) (c : Dev nD)

/-- The latents' entries as extended reals. -/
abbrev xAt (i : Fin 8192) (k : Fin 768) : EReal := m ((c : Thread nD τ).loc main_arg0) (ix2 i k)

/-- Point `t`'s part of the rows, of the columns and of the positions. -/
def row (t : Fin cfg0.N) (r : Fin 512) : Fin 8192 := ⟨512 * (t.val / 8) + r.val, by have h : t.val < cfg0.N := t.isLt; have hN : cfg0.N = 128 := N_0; omega⟩
def col (t : Fin cfg0.N) (n : Fin 1024) : Fin 8192 := ⟨1024 * (t.val % 8) + n.val, by omega⟩
def pos (t : Fin cfg0.N) (r : Fin 512) : Fin 2048 := ⟨512 * (t.val / 8 % 4) + r.val, by omega⟩

theorem block_x (t : Fin cfg0.N) (r : Fin 512) (k : Fin 768) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val / 8 * 512 + r.val = 512 * (t.val / 8) + r.val; omega)
  · exact (win0_0.rect_emb_val t (ix2 r k) 1).trans (by rw [p1]; show 0 * 768 + k.val = k.val; omega)

theorem block_w (t : Fin cfg0.N) (k : Fin 768) (n : Fin 1024) : iblk m c 1 t (ix2 k n) = wCol m c k (source (1024 * (t.val % 8) + n.val)) := by
  obtain ⟨-, ⟨p0, p1⟩, -⟩ := places t
  refine (congrArg (V m c main_v33) (idx_eq ((win0_1.rect t).emb (ix2 k n)) k (col t n) ?_ ?_)).trans (entry_weight m c k (col t n))
  · exact (win0_1.rect_emb_val t (ix2 k n) 0).trans (by rw [p0]; show 0 * 768 + k.val = k.val; omega)
  · exact (win0_1.rect_emb_val t (ix2 k n) 1).trans (by rw [p1]; show t.val % 8 * 1024 + n.val = 1024 * (t.val % 8) + n.val; omega)

theorem block_cosine (t : Fin cfg0.N) (r : Fin 512) (e : Fin 128) : iblk m c 2 t (ix2 r e) = cosine (pos t r) e := by
  obtain ⟨-, -, ⟨p0, p1⟩, -⟩ := places t
  refine (congrArg (V m c main_v18) (idx_eq ((win0_2.rect t).emb (ix2 r e)) (pos t r) e ?_ ?_)).trans (entry_cosine m c (pos t r) e)
  · exact (win0_2.rect_emb_val t (ix2 r e) 0).trans (by rw [p0]; show t.val / 8 % 4 * 512 + r.val = 512 * (t.val / 8 % 4) + r.val; omega)
  · exact (win0_2.rect_emb_val t (ix2 r e) 1).trans (by rw [p1]; show 0 * 128 + e.val = e.val; omega)

theorem block_sine (t : Fin cfg0.N) (r : Fin 512) (e : Fin 128) : iblk m c 3 t (ix2 r e) = sine (pos t r) e := by
  obtain ⟨-, -, -, ⟨p0, p1⟩, -⟩ := places t
  refine (congrArg (V m c main_v21) (idx_eq ((win0_3.rect t).emb (ix2 r e)) (pos t r) e ?_ ?_)).trans (entry_sine m c (pos t r) e)
  · exact (win0_3.rect_emb_val t (ix2 r e) 0).trans (by rw [p0]; show t.val / 8 % 4 * 512 + r.val = 512 * (t.val / 8 % 4) + r.val; omega)
  · exact (win0_3.rect_emb_val t (ix2 r e) 1).trans (by rw [p1]; show 0 * 128 + e.val = e.val; omega)

/-- Row `i`'s products with the columns of the weight, by the column's number. -/
def queries (i : Fin 8192) (n : ℕ) : EReal := dot (xAt m c i) (fun k => wCol m c k n)

/-- The whole result. -/
def result : Buf (Elt Ideal) ((c : Thread nD τ).loc main_v34) := fun i => heads (queries m c (i 0)) ((i 0).val % 2048) (i 1).val

theorem point_eq (t : Fin cfg0.N) (r : Fin 512) (n : Fin 1024) :
    out0_4 (iblk m c 0 t) (iblk m c 1 t) (iblk m c 2 t) (iblk m c 3 t) (ix2 r n) = heads (queries m c (row t r)) ((row t r).val % 2048) (col t n).val := by
  have hp : (row t r).val % 2048 = (pos t r).val := by
    show (512 * (t.val / 8) + r.val) % 2048 = 512 * (t.val / 8 % 4) + r.val
    omega
  rw [out_eq, hp]
  refine blockVal_apply _ _ _ (queries m c (row t r)) (pos t r) (t.val % 8) r n (fun k => ?_) (block_cosine m c t r) (block_sine m c t r)
  refine (product_apply _ _ r k).trans ?_
  simp only [block_x, block_w]
  rfl

theorem flushed_eq (t : Fin cfg0.N) : (dats m 0 c).flushed 4 t = (win0_4.blk t).view.read (Elt Ideal) (result m c) := by
  rw [Value.flushed4]
  funext y
  change S512x1024.Idx at y
  show out0_4 (iblk m c 0 t) (iblk m c 1 t) (iblk m c 2 t) (iblk m c 3 t) y = result m c ((win0_4.rect t).emb y)
  obtain ⟨-, -, -, -, p0, p1⟩ := places t
  have e : (win0_4.rect t).emb y = ix2 (row t (y 0)) (col t (y 1)) := idx_eq _ _ _
    ((win0_4.rect_emb_val t y 0).trans (by rw [p0]; show t.val / 8 * 512 + (y 0).val = 512 * (t.val / 8) + (y 0).val; omega))
    ((win0_4.rect_emb_val t y 1).trans (by rw [p1]; show t.val % 8 * 1024 + (y 1).val = 1024 * (t.val % 8) + (y 1).val; omega))
  rw [e]
  exact (congrArg _ (eq_ix2 y)).trans (point_eq m c t (y 0) (y 1))

theorem final : (dats m 0 c).arrAt 4 cfg0.N = result m c :=
  (dats m 0 c).arrAt_eq_of_cover 4 (result m c) (fun t _ => flushed_eq m c t) cover
end
end Cert.Rows.QUp
end
-- ==== Proof.QUpClaims.lean ====
/- The claims about the expansion of the query latents, put together. -/
module

public import proofs.«01_k».proof.Defs
public import proofs.«01_k».proof.Proof.QUpArray
public import proofs.«01_k».proof.Proof.Gen.QUpRefIdeal.Read
public import proofs.«01_k».proof.Proof.Gen.QUpRefIdeal.Run

@[expose] public section
noncomputable section
namespace Cert.Rows.QUp
open Idealize.ShloMosaic Idealize.ShloMosaic.TcCoe Idealize.SL.Sem
open Cert.Rope (angle turned)

section
open Cert.QUpRefIdeal Cert.QUpRefIdeal.Gen Cert.QUpRefIdeal.Read

theorem reference_cosine (p : Fin 2048) (e : Fin 32) : val_main_v21 (F := Ideal) (ix3 p 0 e) = Ideal.cos (angle p e) := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_cst, val_main_cst_0, val_main_cst_1, val_main_cst_2]
  rfl

theorem reference_sine (p : Fin 2048) (e : Fin 32) : val_main_v22 (F := Ideal) (ix3 p 0 e) = Ideal.sin (angle p e) := by
  pointwise [val_main_v22, val_main_v20, val_main_v19, val_main_v18, val_main_v17, val_main_v16, val_main_v15, val_main_v14, val_main_v13, val_main_v12,
    val_main_v11, val_main_v10, val_main_v9, val_main_v8, val_main_v7, val_main_v6, val_main_v5, val_main_cst, val_main_cst_0, val_main_cst_1, val_main_cst_2]
  rfl

section
variable (x : Vec Ideal S8192x768 .bf16) (w : Vec Ideal S768x6144 .f32)

/-- Row `i`'s products with the columns of the weight, by the column's number. -/
def products (i : Fin 8192) (n : ℕ) : EReal := dot (fun k => x (ix2 i k)) (fun k => w (ix2 k (Fin.ofNat 6144 n)))

theorem reference_product (i i' : Fin 8192) (n n' : ℕ) (h : n < 6144) (hi : i'.val = i.val) (e : n = n') :
    val_main_v1 (F := Ideal) x w (ix2 i' ⟨n, h⟩) = products x w i n' := by
  obtain rfl : i' = i := Fin.ext hi
  subst e
  refine Eq.trans (b := dot (fun k => x (ix2 i' k)) (fun k => w (ix2 k ⟨n, h⟩))) ?_ ?_
  · pointwise [val_main_v1, val_main_v0]
    rfl
  · exact congrArg (fun j => dot (fun k => x (ix2 i' k)) (fun k => w (ix2 k j))) (Fin.ext (Nat.mod_eq_of_lt h).symm)

/-- The reference's scaled heads, entry by entry: of each head 128 plain columns and 64 turned ones. -/
theorem reference_head (b : Fin 4) (s : Fin 2048) (h : Fin 32) (n : Fin 192) (i : Fin 8192) (hi : i.val = b.val * 2048 + s.val) :
    val_main_v43 (F := Ideal) x w (ix4 b s h n) = (if n.val < 128 then products x w i (192 * h.val + n.val)
      else turned (fun j => products x w i (192 * h.val + 128 + j)) s (n.val - 128)) * scale := by
  have low := Rope.turned_low (fun j => products x w i (192 * h.val + 128 + j)) s (n.val - 128)
  have high := Rope.turned_high (fun j => products x w i (192 * h.val + 128 + j)) s (n.val - 128)
  pointwise [val_main_v43, val_main_v42, val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v4, val_main_v3,
    val_main_v2, val_main_cst_3]
  refine (div_root _).trans (congrArg (· * scale) ?_)
  by_cases h1 : n.val < 128
  · rw [dif_pos h1, if_pos h1]
    exact reference_product x w i _ _ _ _ hi.symm (by omega)
  rw [dif_neg h1, if_neg h1]
  by_cases h2 : n.val - 128 < 32
  · rw [dif_pos h2, ← low h2, reference_product x w i _ _ (192 * h.val + 128 + (n.val - 128)) _ hi.symm (by omega),
      reference_product x w i _ _ (192 * h.val + 128 + (n.val - 128 + 32)) _ hi.symm (by omega), reference_cosine, reference_sine]
  · rw [dif_neg h2, ← high (by omega) (by omega), reference_product x w i _ _ (192 * h.val + 128 + (n.val - 128)) _ hi.symm (by omega),
      reference_product x w i _ _ (192 * h.val + 128 + (n.val - 128 - 32)) _ hi.symm (by omega), reference_cosine, reference_sine]

/-- The reference, entry by entry. -/
theorem reference_apply (i : Fin 8192) (n : Fin 8192) : val_main_v51 (F := Ideal) x w (ix2 i n) = heads (products x w i) (i.val % 2048) n.val := by
  have head := fun (h : Fin 32) (k : Fin 192) => reference_head x w ⟨i.val / 2048, by omega⟩ ⟨i.val % 2048, by omega⟩ h k i (show _ = i.val / 2048 * 2048 + i.val % 2048 by omega)
  have plain : ∀ (h : Fin 32) (k : Fin 192) (j : ℕ), k.val < 128 → 192 * h.val + k.val = j →
      val_main_v43 (F := Ideal) x w (ix4 ⟨i.val / 2048, by omega⟩ ⟨i.val % 2048, by omega⟩ h k) = products x w i j * scale := fun h k j hk e => by
    rw [head, if_pos hk, e]
  have rope : ∀ (h : Fin 32) (k : Fin 192) (o e : ℕ), 128 ≤ k.val → 192 * h.val + 128 = o → k.val - 128 = e →
      val_main_v43 (F := Ideal) x w (ix4 ⟨i.val / 2048, by omega⟩ ⟨i.val % 2048, by omega⟩ h k) = turned (fun j => products x w i (o + j)) (i.val % 2048) e * scale :=
    fun h k o e hk ho he => by rw [head, if_neg (by omega), ho, he]
  pointwise [val_main_v51, val_main_v50, val_main_v49, val_main_v48, val_main_v47, val_main_v46, val_main_v45, val_main_v44, val_main_cst_4]
  by_cases h1 : n.val % 512 < 192
  · refine (dif_pos h1).trans ?_
    by_cases h2 : n.val % 512 < 128
    · exact (plain _ _ _ h2 (show 192 * (2 * (n.val / 512)) + n.val % 512 = 384 * (n.val / 512) + n.val % 512 by omega)).trans (if_pos h2).symm
    · exact (rope _ _ _ _ (show 128 ≤ n.val % 512 by omega) (show 192 * (2 * (n.val / 512)) + 128 = 384 * (n.val / 512) + 128 by omega) rfl).trans
        ((if_neg h2).trans (if_pos h1)).symm
  refine (dif_neg h1).trans (Eq.trans ?_ ((if_neg (show ¬ n.val % 512 < 128 by omega)).trans (if_neg h1)).symm)
  by_cases h3 : n.val % 512 < 256
  · exact (dif_pos (show n.val % 512 - 192 < 64 by omega)).trans (if_pos h3).symm
  refine (dif_neg (show ¬ n.val % 512 - 192 < 64 by omega)).trans (Eq.trans ?_ (if_neg h3).symm)
  by_cases h4 : n.val % 512 < 384
  · refine (dif_pos (show n.val % 512 - 192 - 64 < 128 by omega)).trans (Eq.trans ?_ (if_pos h4).symm)
    exact plain _ _ _ (show n.val % 512 - 192 - 64 < 128 by omega)
      (show 192 * (1 + 2 * (n.val / 512)) + (n.val % 512 - 192 - 64) = 384 * (n.val / 512) + 192 + (n.val % 512 - 256) by omega)
  refine (dif_neg (show ¬ n.val % 512 - 192 - 64 < 128 by omega)).trans (Eq.trans ?_ (if_neg h4).symm)
  by_cases h5 : n.val % 512 < 448
  · exact (dif_pos (show n.val % 512 - 192 - 64 - 128 < 64 by omega)).trans (if_pos h5).symm
  refine (dif_neg (show ¬ n.val % 512 - 192 - 64 - 128 < 64 by omega)).trans (Eq.trans ?_ (if_neg h5).symm)
  exact rope _ _ _ _ (show 128 ≤ 128 + (n.val % 512 - 192 - 64 - 128 - 64) by omega)
    (show 192 * (1 + 2 * (n.val / 512)) + 128 = 384 * (n.val / 512) + 320 by omega)
    (show 128 + (n.val % 512 - 192 - 64 - 128 - 64) - 128 = n.val % 512 - 448 by omega)
end
end

theorem frame_reference : Cert.quiescent_QUpRefIdeal (hQUpRefIdeal := Cert.QUpRefIdeal.Gen.facts) := fun m ρ _ =>
  (θ_run Cert.QUpRefIdeal.defs _ _).mono (fun r h => ⟨fun c => (h c).2, sem_eq_zero_of_no_sems (by decide) r.2⟩)
    (Cert.QUpRefIdeal.Value.run (F := Ideal) m ρ)

/-- The one name: the table gives the scale as the inverse root of 192. -/
theorem preserves : Cert.preserves_QUp_QUpIdeal :=
  IdealRules.named_const.statement Cert.QUpIdeal.κ "scale" .f32 0x3D93CD3A#32 (((Real.sqrt 192)⁻¹ : ℝ) : EReal) rfl

theorem algebraic : Cert.algebraic_QUpIdeal_QUpRefIdeal (hQUpIdeal := Cert.QUpIdeal.Gen.facts) (hQUpRefIdeal := Cert.QUpRefIdeal.Gen.facts) := by
  intro m ρ m' ρ' hpre hagree
  refine ⟨fun c => result m c, ?_, ?_⟩
  · exact (θ_run Cert.QUpIdeal.defs _ _).mono (fun _ h c => ⟨(h c).1.trans (final m c), (h c).2⟩) (Cert.QUpIdeal.Value.run_blocks (F := Ideal) m ρ)
  · refine (θ_run Cert.QUpRefIdeal.defs _ _).mono (fun _ h c => ⟨(h c).1.trans ?_, (h c).2⟩) (Cert.QUpRefIdeal.Value.run (F := Ideal) m' ρ')
    obtain ⟨a0, a1⟩ := hagree c
    rw [Cert.QUpRefIdeal.Read.val_main_v51_eq, a0, a1]
    funext i
    exact (congrArg _ (eq_ix2 i)).trans (reference_apply _ _ (i 0) (i 1))
end Cert.Rows.QUp
end
-- ==== Proof.KvDownTables.lean ====
/- The arrays prepared for the key-value latents: the cosines, the signed sines, the gains, and the weight with its turned columns twice and their rotated copies beside them. -/
module

public import proofs.«01_k».proof.Proof.GateBody
public import proofs.«01_k».proof.Proof.Rope
public import proofs.«01_k».proof.Proof.Gen.KvDownIdeal.Value
public import Idealize.ShloMosaic.Lib.StableHlo.ReadAt

@[expose] public section
set_option maxRecDepth 16384
noncomputable section
namespace Cert.Rows.KvDown
open Cert.KvDownIdeal Cert.KvDownIdeal.Gen Idealize.ShloMosaic Idealize.ShloMosaic.TcCoe Idealize.SL.Sem
open Cert.Rope (angle cosine sine turned)

section
variable (m : (ℓ : Loc nD τ sig) → Buf (Elt Ideal) ℓ) (c : Dev nD)

/-- The arguments' entries as extended reals, the weight's by the column's number. -/
abbrev xAt (i : Fin 8192) (k : Fin 2048) : EReal := m ((c : Thread nD τ).loc main_arg0) (ix2 i k)
abbrev gAt (k : Fin 2048) : EReal := m ((c : Thread nD τ).loc main_arg1) (ix1 k)
abbrev qAt (n : Fin 512) : EReal := m ((c : Thread nD τ).loc main_arg3) (ix1 n)
def wCol (k : Fin 2048) (n : ℕ) : EReal := m ((c : Thread nD τ).loc main_arg2) (ix2 k (Fin.ofNat 576 n))

theorem entry_cosine (p : Fin 2048) (e : Fin 128) : V m c main_v18 (ix2 p e) = cosine p e := by
  unfold V cosine
  after_reads_at
  split_ifs
  all_goals after_reads_at
  all_goals exact congrArg (fun j : ℕ => Ideal.cos (angle p j)) (show (_ : ℕ) = _ by omega)

theorem entry_sine (p : Fin 2048) (e : Fin 128) : V m c main_v21 (ix2 p e) = sine p e := by
  have low : e.val % 64 < 32 → sine p e = -Ideal.sin (angle p (e.val % 32)) := fun h => if_pos h
  have high : ¬ e.val % 64 < 32 → sine p e = Ideal.sin (angle p (e.val % 32)) := fun h => if_neg h
  unfold V
  after_reads_at
  split_ifs
  all_goals after_reads_at
  all_goals first
    | rw [low (by omega)]; exact congrArg (fun j : ℕ => -Ideal.sin (angle p j)) (show (_ : ℕ) = _ by omega)
    | rw [high (by omega)]; exact congrArg (fun j : ℕ => Ideal.sin (angle p j)) (show (_ : ℕ) = _ by omega)

/-- The column of the weight that column `n` of the prepared weight is. -/
def source (n : ℕ) : ℕ := if n < 512 then n else if n < 640 then 512 + (n - 512) % 64 else 512 + ((n - 640) % 64 + 32) % 64

theorem entry_weight (k : Fin 2048) (n : Fin 768) : V m c main_v28 (ix2 k n) = wCol m c k (source n) := by
  have pick : ∀ j : Fin 576, j.val = source n → m ((c : Thread nD τ).loc main_arg2) (ix2 k j) = wCol m c k (source n) := fun j h =>
    congrArg (fun j => m ((c : Thread nD τ).loc main_arg2) (ix2 k j)) (Fin.ext (by rw [Fin.val_ofNat, ← h, Nat.mod_eq_of_lt j.isLt]))
  have hn := n.isLt
  unfold V
  after_reads_at
  split_ifs
  all_goals try after_reads_at
  all_goals try split_ifs
  all_goals try after_reads_at
  all_goals refine pick _ ?_
  all_goals unfold source; dsimp only; split_ifs <;> omega

theorem entry_gain (k : Fin 2048) : V m c main_v29 (ix2 0 k) = gAt m c k := by
  unfold V
  after_reads_at

theorem entry_latent_gain (n : Fin 512) : V m c main_v30 (ix2 0 n) = qAt m c n := by
  unfold V
  after_reads_at
end
end Cert.Rows.KvDown
end
-- ==== Proof.KvDownArray.lean ====
/- The key-value latents and the shared turned key, from one grid point to the two whole results. -/
module

public import proofs.«01_k».proof.Proof.KvDownTables

@[expose] public section
set_option maxRecDepth 16384
noncomputable section
namespace Cert.Rows.KvDown
open Cert.KvDownIdeal Cert.KvDownIdeal.Gen Idealize.ShloMosaic Idealize.ShloMosaic.TcCoe Idealize.SL.Sem
open Cert.Rows.Gate (hz)
open Cert.Rope (angle cosine sine turned)

section
variable (a : Vec Ideal S512x2048 .bf16) (w : Vec Ideal S2048x768 .bf16)

theorem product_apply (r : Fin 512) (n : Fin 768) : k0_pay2 a w (ix2 r n) = dot (fun k => a (ix2 r k)) (fun k => w (ix2 k n)) := by
  pointwise [k0_pay2]
  rfl

theorem latent_apply (g : Vec Ideal S1x512 .f32) (r : Fin 512) (n : Fin 512) :
    k0_pay3 a w g (ix2 r n) = normed 0x44000000#32 (fun n : Fin 512 => k0_pay2 a w (ix2 r ⟨n.val, by omega⟩)) (fun n => g (ix2 0 n)) n := by
  pointwise [k0_pay3]
  rfl

theorem key_apply (cs sn : Vec Ideal S512x128 .f32) (r : Fin 512) (e : Fin 128) :
    k0_pay4 a w cs sn (ix2 r e) = k0_pay2 a w (ix2 r ⟨512 + e.val, by omega⟩) * cs (ix2 r e) + k0_pay2 a w (ix2 r ⟨640 + e.val, by omega⟩) * sn (ix2 r e) := by
  pointwise [k0_pay4]
end

section
variable (c : Dev nD) (i : grid0.Coords) (a2 : Memref sig .tc .vmem S512x2048 .f32) (h2 : a2.IsWhole) (a3 : Memref sig .tc .vmem S1x2048 .f32) (h3 : a3.IsWhole)
  (a4 : Memref sig .tc .vmem S2048x768 .bf16) (h4 : a4.IsWhole) (a5 : Memref sig .tc .vmem S1x512 .f32) (h5 : a5.IsWhole)
  (a6 : Memref sig .tc .vmem S512x128 .f32) (h6 : a6.IsWhole) (a7 : Memref sig .tc .vmem S512x128 .f32) (h7 : a7.IsWhole)
  (a8 : Memref sig .tc .vmem S512x512 .bf16) (h8 : a8.IsWhole) (a9 : Memref sig .tc .vmem S512x128 .bf16) (h9 : a9.IsWhole)
  (a10 : Memref sig .tc .vmem S512x2048 .bf16) (h10 : a10.IsWhole) (hc : cond0_0 i)
  (x : Vec Ideal S512x2048 .f32) (g : Vec Ideal S1x2048 .f32) (w : Vec Ideal S2048x768 .bf16) (q : Vec Ideal S1x512 .f32) (cs sn : Vec Ideal S512x128 .f32)

/-- Each point stores the latents of the rows it has just normalised … -/
theorem latent_eq : out0_A_6 c i a2 h2 a3 h3 a4 h4 a5 h5 a6 h6 a7 h7 a8 h8 a9 h9 a10 h10 hc x g w q cs sn = k0_pay3 (k0_pay1 x g) w q := by
  unfold out0_A_6
  rw [View.read_writes_eq_canon _ _ _ (cover0_A_6 c i a2 h2 a3 h3 a4 h4 a5 h5 a6 h6 a7 h7 a8 h8 a9 h9 a10 h10 hc x g w q cs sn)]
  unfold kernelRun0_A
  dsimp only
  sl_unfold_words
  rw [View.canon_cons_unit_zero (S := S512x512) hz, View.readCov_unit_zero (S := S512x2048) _ hz]
  simp only [View.readAt_eq_ld, h2.read_unread, h3.read_unread, h4.read_unread, h5.read_unread, View.ld_unit_zero (S := S512x2048) hz,
    View.ld_unit_zero (S := S1x2048) hz, View.ld_unit_zero (S := S2048x768) hz, View.ld_unit_zero (S := S1x512) hz]

/-- … and their turned keys. -/
theorem key_eq : out0_A_7 c i a2 h2 a3 h3 a4 h4 a5 h5 a6 h6 a7 h7 a8 h8 a9 h9 a10 h10 hc x g w q cs sn = k0_pay4 (k0_pay1 x g) w cs sn := by
  unfold out0_A_7
  rw [View.read_writes_eq_canon _ _ _ (cover0_A_7 c i a2 h2 a3 h3 a4 h4 a5 h5 a6 h6 a7 h7 a8 h8 a9 h9 a10 h10 hc x g w q cs sn)]
  unfold kernelRun0_A
  dsimp only
  sl_unfold_words
  rw [View.canon_cons_unit_zero (S := S512x128) hz, View.readCov_unit_zero (S := S512x2048) _ hz]
  simp only [View.readAt_eq_ld, h2.read_unread, h3.read_unread, h4.read_unread, h6.read_unread, h7.read_unread, View.ld_unit_zero (S := S512x2048) hz,
    View.ld_unit_zero (S := S1x2048) hz, View.ld_unit_zero (S := S2048x768) hz, View.ld_unit_zero (S := S512x128) hz]
end

/-- Point `t` is row block `t`: where its blocks lie. -/
theorem places : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val % 4 ∧ win0_4.index t 1 = 0) ∧ (win0_5.index t 0 = t.val % 4 ∧ win0_5.index t 1 = 0)
    ∧ (win0_6.index t 0 = t.val ∧ win0_6.index t 1 = 0) ∧ (win0_7.index t 0 = t.val ∧ win0_7.index t 1 = 0) := by
  decide +kernel

theorem extents : ∀ t : Fin grid0.N, (win0_6.xsize (grid0.coords t) 0 = 512 ∧ win0_6.xsize (grid0.coords t) 1 = 512)
    ∧ (win0_7.xsize (grid0.coords t) 0 = 512 ∧ win0_7.xsize (grid0.coords t) 1 = 128) := by
  decide +kernel

/-- The points' blocks fill the latents … -/
theorem cover_latent (i : S8192x512.Idx) : ∃ t : Fin cfg0.N, (cfg0.win 6).flush t = true ∧ i ∈ ((cfg0.win 6).blk t).view.set := by
  have h0 : (i 0).val < 8192 := (i 0).isLt
  have h1 : (i 1).val < 512 := (i 1).isLt
  have hN : cfg0.N = 16 := N_0
  obtain ⟨t, ht⟩ : ∃ t : Fin cfg0.N, t.val = (i 0).val / 512 := ⟨⟨_, by omega⟩, rfl⟩
  refine ⟨t, flush0_6 t, ?_⟩
  show i ∈ ((View.whole main_v31_0).slice (win0_6.rect t)).set
  rw [View.set_slice_whole, Rect.mem_set_unit]
  obtain ⟨-, -, -, -, -, -, ⟨p0, p1⟩, -⟩ := places t
  obtain ⟨⟨e0, e1⟩, -⟩ := extents t
  have s0 : win0_6.size 0 = 512 := rfl
  have s1 : win0_6.size 1 = 512 := rfl
  intro a
  match a with
  | ⟨0, _⟩ => show win0_6.index t 0 * win0_6.size 0 ≤ (i 0).val ∧ (i 0).val < win0_6.index t 0 * win0_6.size 0 + win0_6.xsize (grid0.coords t) 0
              rw [p0, s0, e0]; omega
  | ⟨1, _⟩ => show win0_6.index t 1 * win0_6.size 1 ≤ (i 1).val ∧ (i 1).val < win0_6.index t 1 * win0_6.size 1 + win0_6.xsize (grid0.coords t) 1
              rw [p1, s1, e1]; omega

/-- … and the keys. -/
theorem cover_key (i : S8192x128.Idx) : ∃ t : Fin cfg0.N, (cfg0.win 7).flush t = true ∧ i ∈ ((cfg0.win 7).blk t).view.set := by
  have h0 : (i 0).val < 8192 := (i 0).isLt
  have h1 : (i 1).val < 128 := (i 1).isLt
  have hN : cfg0.N = 16 := N_0
  obtain ⟨t, ht⟩ : ∃ t : Fin cfg0.N, t.val = (i 0).val / 512 := ⟨⟨_, by omega⟩, rfl⟩
  refine ⟨t, flush0_7 t, ?_⟩
  show i ∈ ((View.whole main_v31_1).slice (win0_7.rect t)).set
  rw [View.set_slice_whole, Rect.mem_set_unit]
  obtain ⟨-, -, -, -, -, -, -, p0, p1⟩ := places t
  obtain ⟨-, e0, e1⟩ := extents t
  have s0 : win0_7.size 0 = 512 := rfl
  have s1 : win0_7.size 1 = 128 := rfl
  intro a
  match a with
  | ⟨0, _⟩ => show win0_7.index t 0 * win0_7.size 0 ≤ (i 0).val ∧ (i 0).val < win0_7.index t 0 * win0_7.size 0 + win0_7.xsize (grid0.coords t) 0
              rw [p0, s0, e0]; omega
  | ⟨1, _⟩ => show win0_7.index t 1 * win0_7.size 1 ≤ (i 1).val ∧ (i 1).val < win0_7.index t 1 * win0_7.size 1 + win0_7.xsize (grid0.coords t) 1
              rw [p1, s1, e1]; omega

section
variable (m : (ℓ : Loc nD τ sig) → Buf (Elt Ideal) ℓ) (c : Dev nD)

/-- Point `t`'s part of the rows and of the positions. -/
def row (t : Fin cfg0.N) (r : Fin 512) : Fin 8192 := ⟨512 * t.val + r.val, by have h : t.val < cfg0.N := t.isLt; have hN : cfg0.N = 16 := N_0; omega⟩
def pos (t : Fin cfg0.N) (r : Fin 512) : Fin 2048 := ⟨512 * (t.val % 4) + r.val, by omega⟩

theorem block_x (t : Fin cfg0.N) (r : Fin 512) (k : Fin 2048) : iblk m c 0 t (ix2 r k) = xAt m c (row t r) k := by
  obtain ⟨⟨p0, p1⟩, -⟩ := places t
  refine (congrFun (V_main_arg0 m c) ((win0_0.rect t).emb (ix2 r k))).trans (congrArg (m ((c : Thread nD τ).loc main_arg0)) (idx_eq _ _ _ ?_ ?_))
  · exact (win0_0.rect_emb_val t (ix2 r k) 0).trans (by rw [p0]; show t.val * 512 + r.val = 512 * t.val + r.val; omega)
  · exact (win0_0.rect_emb_val t (ix2 r k) 1).trans (by rw [p1]; show 0 * 2048 + k.val = k.val; omega)

theorem block_g (t : Fin cfg0.N) (k : Fin 2048) : iblk m c 1 t (ix2 0 k) = gAt m c k := by
  obtain ⟨-, ⟨p0, p1⟩, -⟩ := places t
  refine (congrArg (V m c main_v29) (idx_eq ((win0_1.rect t).emb (ix2 0 k)) 0 k ?_ ?_)).trans (entry_gain m c k)
  · exact (win0_1.rect_emb_val t (ix2 0 k) 0).trans (by rw [p0]; rfl)
  · exact (win0_1.rect_emb_val t (ix2 0 k) 1).trans (by rw [p1]; show 0 * 2048 + k.val = k.val; omega)

theorem block_w (t : Fin cfg0.N) (k : Fin 2048) (n : Fin 768) : iblk m c 2 t (ix2 k n) = wCol m c k (source n.val) := by
  obtain ⟨-, -, ⟨p0, p1⟩, -⟩ := places t
  refine (congrArg (V m c main_v28) (idx_eq ((win0_2.rect t).emb (ix2 k n)) k n ?_ ?_)).trans (entry_weight m c k n)
  · exact (win0_2.rect_emb_val t (ix2 k n) 0).trans (by rw [p0]; show 0 * 2048 + k.val = k.val; omega)
  · exact (win0_2.rect_emb_val t (ix2 k n) 1).trans (by rw [p1]; show 0 * 768 + n.val = n.val; omega)

theorem block_q (t : Fin cfg0.N) (n : Fin 512) : iblk m c 3 t (ix2 0 n) = qAt m c n := by
  obtain ⟨-, -, -, ⟨p0, p1⟩, -⟩ := places t
  refine (congrArg (V m c main_v30) (idx_eq ((win0_3.rect t).emb (ix2 0 n)) 0 n ?_ ?_)).trans (entry_latent_gain m c n)
  · exact (win0_3.rect_emb_val t (ix2 0 n) 0).trans (by rw [p0]; rfl)
  · exact (win0_3.rect_emb_val t (ix2 0 n) 1).trans (by rw [p1]; show 0 * 512 + n.val = n.val; omega)

theorem block_cosine (t : Fin cfg0.N) (r : Fin 512) (e : Fin 128) : iblk m c 4 t (ix2 r e) = cosine (pos t r) e := by
  obtain ⟨-, -, -, -, ⟨p0, p1⟩, -⟩ := places t
  refine (congrArg (V m c main_v18) (idx_eq ((win0_4.rect t).emb (ix2 r e)) (pos t r) e ?_ ?_)).trans (entry_cosine m c (pos t r) e)
  · exact (win0_4.rect_emb_val t (ix2 r e) 0).trans (by rw [p0]; show t.val % 4 * 512 + r.val = 512 * (t.val % 4) + r.val; omega)
  · exact (win0_4.rect_emb_val t (ix2 r e) 1).trans (by rw [p1]; show 0 * 128 + e.val = e.val; omega)

theorem block_sine (t : Fin cfg0.N) (r : Fin 512) (e : Fin 128) : iblk m c 5 t (ix2 r e) = sine (pos t r) e := by
  obtain ⟨-, -, -, -, -, ⟨p0, p1⟩, -⟩ := places t
  refine (congrArg (V m c main_v21) (idx_eq ((win0_5.rect t).emb (ix2 r e)) (pos t r) e ?_ ?_)).trans (entry_sine m c (pos t r) e)
  · exact (win0_5.rect_emb_val t (ix2 r e) 0).trans (by rw [p0]; show t.val % 4 * 512 + r.val = 512 * (t.val % 4) + r.val; omega)
  · exact (win0_5.rect_emb_val t (ix2 r e) 1).trans (by rw [p1]; show 0 * 128 + e.val = e.val; omega)

/-- Row `i` of the argument after its norm, and its products with the columns of the weight, by the column's number. -/
def rowOf (i : Fin 8192) : Fin 2048 → EReal := normed 0x45000000#32 (xAt m c i) (gAt m c)
def products (i : Fin 8192) (n : ℕ) : EReal := dot (rowOf m c i) (fun k => wCol m c k n)

theorem block_norm (t : Fin cfg0.N) (r : Fin 512) (k : Fin 2048) : k0_pay1 (iblk m c 0 t) (iblk m c 1 t) (ix2 r k) = rowOf m c (row t r) k :=
  (Gate.norm_apply (iblk m c 0 t) (iblk m c 1 t) r k).trans (by simp only [block_x, block_g]; rfl)

theorem block_product (t : Fin cfg0.N) (r : Fin 512) (n : Fin 768) :
    k0_pay2 (k0_pay1 (iblk m c 0 t) (iblk m c 1 t)) (iblk m c 2 t) (ix2 r n) = products m c (row t r) (source n.val) := by
  refine (product_apply _ _ r n).trans ?_
  simp only [block_norm, block_w]
  rfl

/-- Row `i` of the latents and of the keys: the first 512 products after their norm, and the last 64, turned, twice. -/
def latents (i : Fin 8192) : Fin 512 → EReal := normed 0x44000000#32 (fun n => products m c i n.val) (qAt m c)
def keys (i : Fin 8192) (e : Fin 128) : EReal := turned (fun j => products m c i (512 + j)) (i.val % 2048) (e.val % 64)

theorem latent_point (t : Fin cfg0.N) (r : Fin 512) (n : Fin 512) : (outsAt0 m c t).1 (ix2 r n) = latents m c (row t r) n := by
  unfold outsAt0
  dsimp only
  rw [latent_eq]
  refine (latent_apply _ _ _ r n).trans ?_
  have hs : ∀ n : Fin 512, source n.val = n.val := fun n => if_pos n.isLt
  simp only [block_product, block_q, hs]
  rfl

theorem key_point (t : Fin cfg0.N) (r : Fin 512) (e : Fin 128) : (outsAt0 m c t).2 (ix2 r e) = keys m c (row t r) e := by
  have hp : (row t r).val % 2048 = (pos t r).val := by
    show (512 * t.val + r.val) % 2048 = 512 * (t.val % 4) + r.val
    omega
  have s1 : source (512 + e.val) = 512 + e.val % 64 := by unfold source; split_ifs <;> omega
  have s2 : source (640 + e.val) = 512 + (e.val % 64 + 32) % 64 := by unfold source; split_ifs <;> omega
  have hc : cosine (pos t r) (e.val % 64) = cosine (pos t r) e.val := congrArg (fun j => Ideal.cos (angle (pos t r) j)) (show e.val % 64 % 32 = e.val % 32 by omega)
  have hs : sine (pos t r) (e.val % 64) = sine (pos t r) e.val := by
    unfold sine
    rw [show e.val % 64 % 64 = e.val % 64 by omega, show e.val % 64 % 32 = e.val % 32 by omega]
  unfold outsAt0
  dsimp only
  rw [key_eq]
  refine (key_apply _ _ _ _ r e).trans ?_
  unfold keys turned
  rw [hp, hc, hs, block_product, block_product, block_cosine, block_sine, s1, s2]

/-- The two whole results. -/
def latentResult : Buf (Elt Ideal) ((c : Thread nD τ).loc main_v31_0) := fun i => latents m c (i 0) (i 1)
def keyResult : Buf (Elt Ideal) ((c : Thread nD τ).loc main_v31_1) := fun i => keys m c (i 0) (i 1)

theorem latent_flushed (t : Fin cfg0.N) : (dats m 0 c).flushed 6 t = (win0_6.blk t).view.read (Elt Ideal) (latentResult m c) := by
  rw [Value.flushed6]
  funext y
  change S512x512.Idx at y
  show (outsAt0 m c t).1 y = latentResult m c ((win0_6.rect t).emb y)
  obtain ⟨-, -, -, -, -, -, ⟨p0, p1⟩, -⟩ := places t
  have e : (win0_6.rect t).emb y = ix2 (row t (y 0)) (y 1) := idx_eq _ _ _
    ((win0_6.rect_emb_val t y 0).trans (by rw [p0]; show t.val * 512 + (y 0).val = 512 * t.val + (y 0).val; omega))
    ((win0_6.rect_emb_val t y 1).trans (by rw [p1]; show 0 * 512 + (y 1).val = (y 1).val; omega))
  rw [e]
  exact (congrArg _ (eq_ix2 y)).trans (latent_point m c t (y 0) (y 1))

theorem key_flushed (t : Fin cfg0.N) : (dats m 0 c).flushed 7 t = (win0_7.blk t).view.read (Elt Ideal) (keyResult m c) := by
  rw [Value.flushed7]
  funext y
  change S512x128.Idx at y
  show (outsAt0 m c t).2 y = keyResult m c ((win0_7.rect t).emb y)
  obtain ⟨-, -, -, -, -, -, -, p0, p1⟩ := places t
  have e : (win0_7.rect t).emb y = ix2 (row t (y 0)) (y 1) := idx_eq _ _ _
    ((win0_7.rect_emb_val t y 0).trans (by rw [p0]; show t.val * 512 + (y 0).val = 512 * t.val + (y 0).val; omega))
    ((win0_7.rect_emb_val t y 1).trans (by rw [p1]; show 0 * 128 + (y 1).val = (y 1).val; omega))
  rw [e]
  exact (congrArg _ (eq_ix2 y)).trans (key_point m c t (y 0) (y 1))

theorem latent_final : (dats m 0 c).arrAt 6 cfg0.N = latentResult m c :=
  (dats m 0 c).arrAt_eq_of_cover 6 (latentResult m c) (fun t _ => latent_flushed m c t) cover_latent

theorem key_final : (dats m 0 c).arrAt 7 cfg0.N = keyResult m c :=
  (dats m 0 c).arrAt_eq_of_cover 7 (keyResult m c) (fun t _ => key_flushed m c t) cover_key
end
end Cert.Rows.KvDown
end
-- ==== Proof.KvDownClaims.lean ====
/- The claims about the key-value latents and the shared turned key, put together. -/
module

public import proofs.«01_k».proof.Defs
public import proofs.«01_k».proof.Proof.KvDownArray
public import proofs.«01_k».proof.Proof.Gen.KvDownRefIdeal.Read
public import proofs.«01_k».proof.Proof.Gen.KvDownRefIdeal.Run

@[expose] public section
noncomputable section
namespace Cert.Rows.KvDown
open Idealize.ShloMosaic Idealize.ShloMosaic.TcCoe Idealize.SL.Sem
open Cert.Rope (angle turned)

section
open Cert.KvDownRefIdeal Cert.KvDownRefIdeal.Gen Cert.KvDownRefIdeal.Read

theorem reference_cosine (p : Fin 2048) (e : Fin 32) : val_main_v32 (F := Ideal) (ix3 p 0 e) = Ideal.cos (angle p e) := by
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_cst_2, val_main_cst_3, val_main_cst_4, val_main_cst_5]
  rfl

theorem reference_sine (p : Fin 2048) (e : Fin 32) : val_main_v33 (F := Ideal) (ix3 p 0 e) = Ideal.sin (angle p e) := by
  pointwise [val_main_v33, val_main_v31, val_main_v30, val_main_v29, val_main_v28, val_main_v27, val_main_v26, val_main_v25, val_main_v24, val_main_v23,
    val_main_v22, val_main_v21, val_main_v20, val_main_v19, val_main_v18, val_main_v17, val_main_v16, val_main_cst_2, val_main_cst_3, val_main_cst_4, val_main_cst_5]
  rfl

section
variable (x : Vec Ideal S8192x2048 .f32) (g : Vec Ideal S2048 .f32) (w : Vec Ideal S2048x576 .f32)

/-- The products of a normalised row with the columns of the weight, by the column's number. -/
def refProducts (i : Fin 8192) (n : ℕ) : EReal :=
  dot (normed 0x45000000#32 (fun k => x (ix2 i k)) (fun k => g (ix1 k))) (fun k => w (ix2 k (Fin.ofNat 576 n)))

theorem reference_product (i i' : Fin 8192) (n n' : ℕ) (h : n < 576) (hi : i'.val = i.val) (e : n = n') :
    val_main_v13 (F := Ideal) x g w (ix2 i' ⟨n, h⟩) = refProducts x g w i n' := by
  obtain rfl : i' = i := Fin.ext hi
  subst e
  refine Eq.trans (b := dot (normed 0x45000000#32 (fun k => x (ix2 i' k)) (fun k => g (ix1 k))) (fun k => w (ix2 k ⟨n, h⟩))) ?_ ?_
  · pointwise [val_main_v13, val_main_v12, val_main_v11, val_main_v10, val_main_v9, val_main_v8, val_main_v7, val_main_v6,
      val_main_v5, val_main_v4, val_main_v3, val_main_v2, val_main_v1, val_main_v0, val_main_cst, val_main_cst_0, val_main_cst_1]
    rfl
  · exact congrArg (fun j => dot (normed 0x45000000#32 (fun k => x (ix2 i' k)) (fun k => g (ix1 k))) (fun k => w (ix2 k j))) (Fin.ext (Nat.mod_eq_of_lt h).symm)

/-- The reference's latents, entry by entry. -/
theorem reference_latent (q : Vec Ideal S512 .f32) (i : Fin 8192) (n : Fin 512) :
    val_main_v66 (F := Ideal) x g w q (ix2 i n) = normed 0x44000000#32 (fun n : Fin 512 => refProducts x g w i n.val) (fun n => q (ix1 n)) n := by
  refine Eq.trans (b := normed 0x44000000#32 (fun n : Fin 512 => val_main_v13 (F := Ideal) x g w (ix2 i ⟨n.val, by omega⟩)) (fun n => q (ix1 n)) n) ?_ ?_
  · pointwise [val_main_v66, val_main_v65, val_main_v64, val_main_v63, val_main_v62, val_main_v61, val_main_v60, val_main_v59, val_main_v58, val_main_v57, val_main_v56,
      val_main_v55, val_main_v54, val_main_v53, val_main_v52, val_main_cst_6, val_main_cst_7, val_main_cst_8]
    rfl
  · exact congrArg (fun f => normed 0x44000000#32 f _ n) (funext fun n => reference_product x g w i i _ _ _ rfl rfl)

/-- The reference's turned key, entry by entry. -/
theorem reference_stretch (i : Fin 8192) (e : Fin 64) :
    val_main_v51 (F := Ideal) x g w (ix2 i e) = turned (fun j => refProducts x g w i (512 + j)) (i.val % 2048) e.val := by
  have low := Rope.turned_low (fun j => refProducts x g w i (512 + j)) (i.val % 2048) e.val
  have high := Rope.turned_high (fun j => refProducts x g w i (512 + j)) (i.val % 2048) e.val
  pointwise [val_main_v51, val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v15, val_main_v14]
  by_cases h : e.val < 32
  · refine (dif_pos h).trans (Eq.trans ?_ (low h))
    exact congrArg₂ (fun a b : EReal => a - b)
      (congrArg₂ (fun a b : EReal => a * b) (reference_product x g w i i _ _ _ rfl rfl) (reference_cosine _ _))
      (congrArg₂ (fun a b : EReal => a * b) (reference_product x g w i i _ _ _ rfl (show 512 + (32 + e.val) = 512 + (e.val + 32) by omega)) (reference_sine _ _))
  · refine (dif_neg h).trans (Eq.trans ?_ (high (by omega) e.isLt))
    exact congrArg₂ (fun a b : EReal => a + b)
      (congrArg₂ (fun a b : EReal => a * b) (reference_product x g w i i _ _ _ rfl (show 512 + (32 + (e.val - 32)) = 512 + e.val by omega)) (reference_cosine _ _))
      (congrArg₂ (fun a b : EReal => a * b) (reference_product x g w i i _ _ _ rfl rfl) (reference_sine _ _))

theorem reference_key (i : Fin 8192) (e : Fin 128) :
    val_main_v68 (F := Ideal) x g w (ix2 i e) = turned (fun j => refProducts x g w i (512 + j)) (i.val % 2048) (e.val % 64) := by
  pointwise [val_main_v68, val_main_v67]
  by_cases h : e.val < 64
  · refine (dif_pos h).trans ((reference_stretch x g w i _).trans ?_)
    exact congrArg (turned _ _) (Nat.mod_eq_of_lt h).symm
  · refine (dif_neg h).trans ((reference_stretch x g w i _).trans ?_)
    exact congrArg (turned _ _) (show e.val - 64 = e.val % 64 by omega)
end
end

theorem frame_reference : Cert.quiescent_KvDownRefIdeal (hKvDownRefIdeal := Cert.KvDownRefIdeal.Gen.facts) := fun m ρ _ =>
  (θ_run Cert.KvDownRefIdeal.defs _ _).mono (fun r h => ⟨fun c => (h c).2.2, sem_eq_zero_of_no_sems (by decide) r.2⟩)
    (Cert.KvDownRefIdeal.Value.run (F := Ideal) m ρ)

theorem algebraic : Cert.algebraic_KvDownIdeal_KvDownRefIdeal (hKvDownIdeal := Cert.KvDownIdeal.Gen.facts) (hKvDownRefIdeal := Cert.KvDownRefIdeal.Gen.facts) := by
  intro m ρ m' ρ' hpre hagree
  refine ⟨fun c => latentResult m c, fun c => keyResult m c, ?_, ?_⟩
  · exact (θ_run Cert.KvDownIdeal.defs _ _).mono (fun _ h c => ⟨(h c).1.trans (latent_final m c), (h c).2.1.trans (key_final m c), (h c).2.2⟩)
      (Cert.KvDownIdeal.Value.run_blocks (F := Ideal) m ρ)
  · refine (θ_run Cert.KvDownRefIdeal.defs _ _).mono (fun _ h c => ⟨(h c).1.trans ?_, (h c).2.1.trans ?_, (h c).2.2⟩)
      (Cert.KvDownRefIdeal.Value.run (F := Ideal) m' ρ')
    · obtain ⟨a0, a1, a2, a3⟩ := hagree c
      rw [Cert.KvDownRefIdeal.Read.val_main_v66_eq, a0, a1, a2, a3]
      funext i
      exact (congrArg _ (eq_ix2 i)).trans (reference_latent _ _ _ _ (i 0) (i 1))
    · obtain ⟨a0, a1, a2, -⟩ := hagree c
      rw [Cert.KvDownRefIdeal.Read.val_main_v68_eq, a0, a1, a2]
      funext i
      exact (congrArg _ (eq_ix2 i)).trans (reference_key _ _ _ (i 0) (i 1))
end Cert.Rows.KvDown
end
-- ==== Proof.lean ====
module

public import proofs.«01_k».proof.Defs
public import proofs.«01_k».proof.Proof.AttClaims
public import proofs.«01_k».proof.Proof.Gen.Gate.Frame
public import proofs.«01_k».proof.Proof.GateClaims
public import proofs.«01_k».proof.Proof.Gen.Out.Frame
public import proofs.«01_k».proof.Proof.OutClaims
public import proofs.«01_k».proof.Proof.Gen.HgOut.Frame
public import proofs.«01_k».proof.Proof.HgOutClaims
public import proofs.«01_k».proof.Proof.Gen.Proj.Frame
public import proofs.«01_k».proof.Proof.ProjClaims
public import proofs.«01_k».proof.Proof.Gen.Query.Frame
public import proofs.«01_k».proof.Proof.QueryClaims
public import proofs.«01_k».proof.Proof.Gen.KvUp.Frame
public import proofs.«01_k».proof.Proof.KvUpClaims
public import proofs.«01_k».proof.Proof.Gen.Forget.Frame
public import proofs.«01_k».proof.Proof.ForgetClaims
public import proofs.«01_k».proof.Proof.Gen.Latent.Frame
public import proofs.«01_k».proof.Proof.LatentClaims
public import proofs.«01_k».proof.Proof.Gen.QUp.Frame
public import proofs.«01_k».proof.Proof.QUpClaims
public import proofs.«01_k».proof.Proof.Gen.KvDown.Frame
public import proofs.«01_k».proof.Proof.KvDownClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Gate.Gen.facts, Cert.GateIdeal.Gen.facts, Cert.GateRefIdeal.Gen.facts,
    Cert.Out.Gen.facts, Cert.OutIdeal.Gen.facts, Cert.OutRefIdeal.Gen.facts,
    Cert.HgOut.Gen.facts, Cert.HgOutIdeal.Gen.facts, Cert.HgOutRefIdeal.Gen.facts,
    Cert.Proj.Gen.facts, Cert.ProjIdeal.Gen.facts, Cert.ProjRefIdeal.Gen.facts,
    Cert.Query.Gen.facts, Cert.QueryIdeal.Gen.facts, Cert.QueryRefIdeal.Gen.facts,
    Cert.KvUp.Gen.facts, Cert.KvUpIdeal.Gen.facts, Cert.KvUpRefIdeal.Gen.facts,
    Cert.Forget.Gen.facts, Cert.ForgetIdeal.Gen.facts, Cert.ForgetRefIdeal.Gen.facts,
    Cert.Latent.Gen.facts, Cert.LatentIdeal.Gen.facts, Cert.LatentRefIdeal.Gen.facts,
    Cert.QUp.Gen.facts, Cert.QUpIdeal.Gen.facts, Cert.QUpRefIdeal.Gen.facts,
    Cert.KvDown.Gen.facts, Cert.KvDownIdeal.Gen.facts, Cert.KvDownRefIdeal.Gen.facts,
    Cert.Finite.facts,
    fun m ρ _ => Cert.Kernel.Gen.frame m ρ, fun m ρ _ => Cert.KernelIdeal.Gen.frame m ρ, fun m ρ _ => Cert.KernelIdeal.Gen.frame m ρ,
    Cert.Att.frame_reference, fun m ρ _ => Cert.Att.frame_reference m ρ trivial,
    fun m ρ _ => Cert.Gate.Gen.frame m ρ, fun m ρ _ => Cert.GateIdeal.Gen.frame m ρ, Cert.Rows.Gate.frame_reference,
    fun m ρ _ => Cert.Out.Gen.frame m ρ, fun m ρ _ => Cert.OutIdeal.Gen.frame m ρ, Cert.Rows.Out.frame_reference,
    fun m ρ _ => Cert.HgOut.Gen.frame m ρ, fun m ρ _ => Cert.HgOutIdeal.Gen.frame m ρ, Cert.Rows.HgOut.frame_reference,
    fun m ρ _ => Cert.Proj.Gen.frame m ρ, fun m ρ _ => Cert.ProjIdeal.Gen.frame m ρ, Cert.Rows.Proj.frame_reference,
    fun m ρ _ => Cert.Query.Gen.frame m ρ, fun m ρ _ => Cert.QueryIdeal.Gen.frame m ρ, Cert.Rows.Query.frame_reference,
    fun m ρ _ => Cert.KvUp.Gen.frame m ρ, fun m ρ _ => Cert.KvUpIdeal.Gen.frame m ρ, Cert.Rows.KvUp.frame_reference,
    fun m ρ _ => Cert.Forget.Gen.frame m ρ, fun m ρ _ => Cert.ForgetIdeal.Gen.frame m ρ, Cert.Rows.Forget.frame_reference,
    fun m ρ _ => Cert.Latent.Gen.frame m ρ, fun m ρ _ => Cert.LatentIdeal.Gen.frame m ρ, Cert.Rows.Latent.frame_reference,
    fun m ρ _ => Cert.QUp.Gen.frame m ρ, fun m ρ _ => Cert.QUpIdeal.Gen.frame m ρ, Cert.Rows.QUp.frame_reference,
    fun m ρ _ => Cert.KvDown.Gen.frame m ρ, fun m ρ _ => Cert.KvDownIdeal.Gen.frame m ρ, Cert.Rows.KvDown.frame_reference,
    trivial, Cert.Att.algebraic,
    trivial, Cert.Rows.Gate.algebraic,
    trivial, Cert.Rows.Out.algebraic,
    trivial, Cert.Rows.HgOut.algebraic,
    trivial, Cert.Rows.Proj.algebraic,
    trivial, Cert.Rows.Query.algebraic,
    trivial, Cert.Rows.KvUp.algebraic,
    trivial, Cert.Rows.Forget.algebraic,
    trivial, Cert.Rows.Latent.algebraic,
    Cert.Rows.QUp.preserves, Cert.Rows.QUp.algebraic,
    trivial, Cert.Rows.KvDown.algebraic⟩

end Cert.Proof
end
